-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v37) = v4 c
          ∧ r.2.mem ((c.tc : Thread Cert.Reference3Ideal.nD Cert.Reference3Ideal.τ).loc Cert.Reference3Ideal.main_v38) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v3_4)) (v5 : (c : Dev Cert.Kernel6Ideal.nD) → Buf (Elt Ideal) ((c.tc : Thread Cert.Kernel6Ideal.nD Cert.Kernel6Ideal.τ).loc Cert.Kernel6Ideal.main_v3_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v3_4) = v4 c
          ∧ r.2.mem ((c.tc : Thread Cert.Kernel6Ideal.nD Cert.Kernel6Ideal.τ).loc Cert.Kernel6Ideal.main_v3_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_v32) = v4 c
          ∧ r.2.mem ((c.tc : Thread Cert.Reference6Ideal.nD Cert.Reference6Ideal.τ).loc Cert.Reference6Ideal.main_v26) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v26)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v249) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x4096x2048 : Shape := ⟨3, ![4, 4096, 2048]⟩
abbrev S4x4096x1024 : Shape := ⟨3, ![4, 4096, 1024]⟩
abbrev S31x2048 : Shape := ⟨2, ![31, 2048]⟩
abbrev S2048 : Shape := ⟨1, ![2048]⟩
abbrev S2048x1024 : Shape := ⟨2, ![2048, 1024]⟩
abbrev S1x2048 : Shape := ⟨2, ![1, 2048]⟩
abbrev S1x512x2048 : Shape := ⟨3, ![1, 512, 2048]⟩
abbrev S1x512x1024 : Shape := ⟨3, ![1, 512, 1024]⟩
abbrev S544x2048 : Shape := ⟨2, ![544, 2048]⟩
abbrev S512x2048 : Shape := ⟨2, ![512, 2048]⟩
abbrev S32x2048 : Shape := ⟨2, ![32, 2048]⟩
abbrev S64x128 : Shape := ⟨2, ![64, 128]⟩
abbrev S56x128 : Shape := ⟨2, ![56, 128]⟩
abbrev S32x128 : Shape := ⟨2, ![32, 128]⟩
abbrev S1x128 : Shape := ⟨2, ![1, 128]⟩
abbrev S1x32x2048 : Shape := ⟨3, ![1, 32, 2048]⟩
abbrev S32 : Shape := ⟨1, ![32]⟩
abbrev S32x1 : Shape := ⟨2, ![32, 1]⟩
abbrev S512x1024 : Shape := ⟨2, ![512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x1024, .f32⟩
  | .hbm, ⟨3, _⟩ => ⟨S31x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x1024, .bf16⟩
  | .hbm, ⟨12, _⟩ => ⟨S4x4096x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x1024, .f32⟩
  | .local _ .vmem, ⟨5, _⟩ => ⟨S1x512x1024, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S1x512x1024, .f32⟩
  | .local _ .vmem, ⟨12, _⟩ => ⟨S1x512x1024, .f32⟩
  | .local _ .vmem, ⟨13, _⟩ => ⟨S544x2048, .f32⟩
  | .local _ .vmem, ⟨14, _⟩ => ⟨S512x2048, .f32⟩
  | .local _ .vmem, ⟨15, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_6 : BitVec 32 := 0#32
  let c16_i32 : BitVec 32 := 16#32
  let v11 : BitVec 32 := Scalar.addi c0_i32_6 c16_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c32_i32 : BitVec 32 := 32#32
  let v22 : BitVec 32 := Scalar.muli arg14 c32_i32
  v22
@[reducible] def k0_t2_loop : Scf.Loop 32 :=
  let c0_i32_18 : BitVec 32 := 0#32
  let c16_i32_19 : BitVec 32 := 16#32
  let v24 : BitVec 32 := Scalar.addi c0_i32_18 c16_i32_19
  let c1_i32_20 : BitVec 32 := 1#32
  ⟨c0_i32_18, v24, c1_i32_20⟩
def k0_mult2 (k0_t2 : Fin k0_t2_loop.trips) : BitVec 32 :=
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  v62
def k0_off1 (k0_t1 : Fin k0_t1_loop.trips) (k0_t2 : Fin k0_t2_loop.trips) : Fin 2 → Nat :=
  let c0_i32_6 : BitVec 32 := 0#32
  let c1_i32 : BitVec 32 := 1#32
  let arg14 : BitVec 32 := Scf.iv c0_i32_6 c1_i32 k0_t1
  let c32_i32 : BitVec 32 := 32#32
  let v22 : BitVec 32 := Scalar.muli arg14 c32_i32
  let v23 : BitVec 32 := v22
  let v64 : Index := Scalar.indexCast v23
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v65 : Index := Scalar.indexCast v63
  ![v64.toNat, v65.toNat]
def k0_off2 (k0_t2 : Fin k0_t2_loop.trips) : Fin 2 → Nat :=
  let c0_36 : Index := 0#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v76 : Index := Scalar.indexCast v63
  ![0, v76.toNat]
def k0_off3 (k0_t2 : Fin k0_t2_loop.trips) : Fin 2 → Nat :=
  let c1 : Index := 1#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v82 : Index := Scalar.indexCast v63
  ![1, v82.toNat]
def k0_off4 (k0_t2 : Fin k0_t2_loop.trips) : Fin 2 → Nat :=
  let c2 : Index := 2#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v88 : Index := Scalar.indexCast v63
  ![2, v88.toNat]
def k0_off5 (k0_t2 : Fin k0_t2_loop.trips) : Fin 2 → Nat :=
  let c3 : Index := 3#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v94 : Index := Scalar.indexCast v63
  ![3, v94.toNat]
def k0_off6 (k0_t2 : Fin k0_t2_loop.trips) : Fin 2 → Nat :=
  let c4 : Index := 4#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v100 : Index := Scalar.indexCast v63
  ![4, v100.toNat]
def k0_off7 (k0_t2 : Fin k0_t2_loop.trips) : Fin 2 → Nat :=
  let c5 : Index := 5#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v106 : Index := Scalar.indexCast v63
  ![5, v106.toNat]
def k0_off8 (k0_t2 : Fin k0_t2_loop.trips) : Fin 2 → Nat :=
  let c6 : Index := 6#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v112 : Index := Scalar.indexCast v63
  ![6, v112.toNat]
def k0_off9 (k0_t2 : Fin k0_t2_loop.trips) : Fin 2 → Nat :=
  let c7 : Index := 7#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v118 : Index := Scalar.indexCast v63
  ![7, v118.toNat]
def k0_off10 (k0_t2 : Fin k0_t2_loop.trips) : Fin 2 → Nat :=
  let c8 : Index := 8#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v124 : Index := Scalar.indexCast v63
  ![8, v124.toNat]
def k0_off11 (k0_t2 : Fin k0_t2_loop.trips) : Fin 2 → Nat :=
  let c9 : Index := 9#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v130 : Index := Scalar.indexCast v63
  ![9, v130.toNat]
def k0_off12 (k0_t2 : Fin k0_t2_loop.trips) : Fin 2 → Nat :=
  let c10 : Index := 10#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v136 : Index := Scalar.indexCast v63
  ![10, v136.toNat]
def k0_off13 (k0_t2 : Fin k0_t2_loop.trips) : Fin 2 → Nat :=
  let c11 : Index := 11#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v142 : Index := Scalar.indexCast v63
  ![11, v142.toNat]
def k0_off14 (k0_t2 : Fin k0_t2_loop.trips) : Fin 2 → Nat :=
  let c12 : Index := 12#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v148 : Index := Scalar.indexCast v63
  ![12, v148.toNat]
def k0_off15 (k0_t2 : Fin k0_t2_loop.trips) : Fin 2 → Nat :=
  let c13 : Index := 13#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v154 : Index := Scalar.indexCast v63
  ![13, v154.toNat]
def k0_off16 (k0_t2 : Fin k0_t2_loop.trips) : Fin 2 → Nat :=
  let c14 : Index := 14#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v160 : Index := Scalar.indexCast v63
  ![14, v160.toNat]
def k0_off17 (k0_t2 : Fin k0_t2_loop.trips) : Fin 2 → Nat :=
  let c15 : Index := 15#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v166 : Index := Scalar.indexCast v63
  ![15, v166.toNat]
def k0_off18 (k0_t2 : Fin k0_t2_loop.trips) : Fin 2 → Nat :=
  let c16 : Index := 16#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v172 : Index := Scalar.indexCast v63
  ![16, v172.toNat]
def k0_off19 (k0_t2 : Fin k0_t2_loop.trips) : Fin 2 → Nat :=
  let c17 : Index := 17#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v178 : Index := Scalar.indexCast v63
  ![17, v178.toNat]
def k0_off20 (k0_t2 : Fin k0_t2_loop.trips) : Fin 2 → Nat :=
  let c18 : Index := 18#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v184 : Index := Scalar.indexCast v63
  ![18, v184.toNat]
def k0_off21 (k0_t2 : Fin k0_t2_loop.trips) : Fin 2 → Nat :=
  let c19 : Index := 19#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v190 : Index := Scalar.indexCast v63
  ![19, v190.toNat]
def k0_off22 (k0_t2 : Fin k0_t2_loop.trips) : Fin 2 → Nat :=
  let c20 : Index := 20#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v196 : Index := Scalar.indexCast v63
  ![20, v196.toNat]
def k0_off23 (k0_t2 : Fin k0_t2_loop.trips) : Fin 2 → Nat :=
  let c21 : Index := 21#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v202 : Index := Scalar.indexCast v63
  ![21, v202.toNat]
def k0_off24 (k0_t2 : Fin k0_t2_loop.trips) : Fin 2 → Nat :=
  let c22 : Index := 22#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v208 : Index := Scalar.indexCast v63
  ![22, v208.toNat]
def k0_off25 (k0_t2 : Fin k0_t2_loop.trips) : Fin 2 → Nat :=
  let c23 : Index := 23#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v214 : Index := Scalar.indexCast v63
  ![23, v214.toNat]
def k0_off26 (k0_t2 : Fin k0_t2_loop.trips) : Fin 2 → Nat :=
  let c24 : Index := 24#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v220 : Index := Scalar.indexCast v63
  ![24, v220.toNat]
def k0_off27 (k0_t2 : Fin k0_t2_loop.trips) : Fin 2 → Nat :=
  let c25 : Index := 25#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v226 : Index := Scalar.indexCast v63
  ![25, v226.toNat]
def k0_off28 (k0_t2 : Fin k0_t2_loop.trips) : Fin 2 → Nat :=
  let c26 : Index := 26#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v232 : Index := Scalar.indexCast v63
  ![26, v232.toNat]
def k0_off29 (k0_t2 : Fin k0_t2_loop.trips) : Fin 2 → Nat :=
  let c27 : Index := 27#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v238 : Index := Scalar.indexCast v63
  ![27, v238.toNat]
def k0_off30 (k0_t2 : Fin k0_t2_loop.trips) : Fin 2 → Nat :=
  let c28 : Index := 28#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v244 : Index := Scalar.indexCast v63
  ![28, v244.toNat]
def k0_off31 (k0_t2 : Fin k0_t2_loop.trips) : Fin 2 → Nat :=
  let c29 : Index := 29#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v250 : Index := Scalar.indexCast v63
  ![29, v250.toNat]
def k0_off32 (k0_t2 : Fin k0_t2_loop.trips) : Fin 2 → Nat :=
  let c30 : Index := 30#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v256 : Index := Scalar.indexCast v63
  ![30, v256.toNat]
def k0_off33 (k0_t2 : Fin k0_t2_loop.trips) : Fin 2 → Nat :=
  let c0_37 : Index := 0#32
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v261 : Index := Scalar.indexCast v63
  ![0, v261.toNat]
def k0_off34 (k0_t1 : Fin k0_t1_loop.trips) (k0_t2 : Fin k0_t2_loop.trips) : Fin 2 → Nat :=
  let c0_i32_6 : BitVec 32 := 0#32
  let c1_i32 : BitVec 32 := 1#32
  let arg14 : BitVec 32 := Scf.iv c0_i32_6 c1_i32 k0_t1
  let c32_i32 : BitVec 32 := 32#32
  let v22 : BitVec 32 := Scalar.muli arg14 c32_i32
  let v23 : BitVec 32 := v22
  let v266 : Index := Scalar.indexCast v23
  let c0_i32_18 : BitVec 32 := 0#32
  let c1_i32_20 : BitVec 32 := 1#32
  let arg15 : BitVec 32 := Scf.iv c0_i32_18 c1_i32_20 k0_t2
  let c128_i32 : BitVec 32 := 128#32
  let v62 : BitVec 32 := Scalar.muli arg15 c128_i32
  let v63 : BitVec 32 := v62
  let v267 : Index := Scalar.indexCast v63
  ![v266.toNat, v267.toNat]
def k0_off35 (k0_t1 : Fin k0_t1_loop.trips) : Fin 2 → Nat :=
  let c0_i32_6 : BitVec 32 := 0#32
  let c1_i32 : BitVec 32 := 1#32
  let arg14 : BitVec 32 := Scf.iv c0_i32_6 c1_i32 k0_t1
  let c32_i32 : BitVec 32 := 32#32
  let v22 : BitVec 32 := Scalar.muli arg14 c32_i32
  let v23 : BitVec 32 := v22
  let v25 : Index := Scalar.indexCast v23
  let c0_22 : Index := 0#32
  ![v25.toNat, 0]
def k0_off36 (k0_t1 : Fin k0_t1_loop.trips) : Fin 3 → Nat :=
  let c0_27 : Index := 0#32
  let c0_i32_6 : BitVec 32 := 0#32
  let c1_i32 : BitVec 32 := 1#32
  let arg14 : BitVec 32 := Scf.iv c0_i32_6 c1_i32 k0_t1
  let c32_i32 : BitVec 32 := 32#32
  let v22 : BitVec 32 := Scalar.muli arg14 c32_i32
  let v23 : BitVec 32 := v22
  let v31 : Index := Scalar.indexCast v23
  let c0_28 : Index := 0#32
  ![0, v31.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x2048 : Shape := ⟨3, ![4, 4096, 2048]⟩
abbrev S4x4096x1024 : Shape := ⟨3, ![4, 4096, 1024]⟩
abbrev S31x2048 : Shape := ⟨2, ![31, 2048]⟩
abbrev S2048 : Shape := ⟨1, ![2048]⟩
abbrev S2048x1024 : Shape := ⟨2, ![2048, 1024]⟩
abbrev S_ : Shape := ⟨0, ![]⟩
abbrev S4x30x2048 : Shape := ⟨3, ![4, 30, 2048]⟩
abbrev S4x4126x2048 : Shape := ⟨3, ![4, 4126, 2048]⟩
abbrev S1x2048 : Shape := ⟨2, ![1, 2048]⟩
abbrev S1x1x2048 : Shape := ⟨3, ![1, 1, 2048]⟩
abbrev S4x4096 : Shape := ⟨2, ![4, 4096]⟩
abbrev S4x4096x1 : Shape := ⟨3, ![4, 4096, 1]⟩

abbrev nBuf : Space → Nat
  | .hbm => 272
  | .vmem => 0
  | .smem => 0
  | _ => 0

abbrev hbmTy0_0 (i : Nat) : BufTy := match i % 128 with
  | 0 => ⟨S4x4096x2048, .f32⟩
  | 1 => ⟨S4x4096x2048, .f32⟩
  | 2 => ⟨S4x4096x1024, .f32⟩
  | 3 => ⟨S31x2048, .f32⟩
  | 4 => ⟨S2048, .f32⟩
  | 5 => ⟨S2048, .f32⟩
  | 6 => ⟨S2048, .f32⟩
  | 7 => ⟨S2048x1024, .f32⟩
  | 8 => ⟨S_, .f32⟩
  | 9 => ⟨S4x30x2048, .f32⟩
  | 10 => ⟨S4x4126x2048, .f32⟩
  | 11 => ⟨S4x4096x2048, .f32⟩
  | 12 => ⟨S1x2048, .f32⟩
  | 13 => ⟨S2048, .f32⟩
  | 14 => ⟨S1x1x2048, .f32⟩
  | 15 => ⟨S4x4096x2048, .f32⟩
  | 16 => ⟨S4x4096x2048, .f32⟩
  | 17 => ⟨S_, .f32⟩
  | 18 => ⟨S4x4096x2048, .f32⟩
  | 19 => ⟨S4x4096x2048, .f32⟩
  | 20 => ⟨S4x4096x2048, .f32⟩
  | 21 => ⟨S1x2048, .f32⟩
  | 22 => ⟨S2048, .f32⟩
  | 23 => ⟨S1x1x2048, .f32⟩
  | 24 => ⟨S4x4096x2048, .f32⟩
  | 25 => ⟨S4x4096x2048, .f32⟩
  | 26 => ⟨S4x4096x2048, .f32⟩
  | 27 => ⟨S4x4096x2048, .f32⟩
  | 28 => ⟨S1x2048, .f32⟩
  | 29 => ⟨S2048, .f32⟩
  | 30 => ⟨S1x1x2048, .f32⟩
  | 31 => ⟨S4x4096x2048, .f32⟩
  | 32 => ⟨S4x4096x2048, .f32⟩
  | 33 => ⟨S4x4096x2048, .f32⟩
  | 34 => ⟨S4x4096x2048, .f32⟩
  | 35 => ⟨S1x2048, .f32⟩
  | 36 => ⟨S2048, .f32⟩
  | 37 => ⟨S1x1x2048, .f32⟩
  | 38 => ⟨S4x4096x2048, .f32⟩
  | 39 => ⟨S4x4096x2048, .f32⟩
  | 40 => ⟨S4x4096x2048, .f32⟩
  | 41 => ⟨S4x4096x2048, .f32⟩
  | 42 => ⟨S1x2048, .f32⟩
  | 43 => ⟨S2048, .f32⟩
  | 44 => ⟨S1x1x2048, .f32⟩
  | 45 => ⟨S4x4096x2048, .f32⟩
  | 46 => ⟨S4x4096x2048, .f32⟩
  | 47 => ⟨S4x4096x2048, .f32⟩
  | 48 => ⟨S4x4096x2048, .f32⟩
  | 49 => ⟨S1x2048, .f32⟩
  | 50 => ⟨S2048, .f32⟩
  | 51 => ⟨S1x1x2048, .f32⟩
  | 52 => ⟨S4x4096x2048, .f32⟩
  | 53 => ⟨S4x4096x2048, .f32⟩
  | 54 => ⟨S4x4096x2048, .f32⟩
  | 55 => ⟨S4x4096x2048, .f32⟩
  | 56 => ⟨S1x2048, .f32⟩
  | 57 => ⟨S2048, .f32⟩
  | 58 => ⟨S1x1x2048, .f32⟩
  | 59 => ⟨S4x4096x2048, .f32⟩
  | 60 => ⟨S4x4096x2048, .f32⟩
  | 61 => ⟨S4x4096x2048, .f32⟩
  | 62 => ⟨S4x4096x2048, .f32⟩
  | 63 => ⟨S1x2048, .f32⟩
  | 64 => ⟨S2048, .f32⟩
  | 65 => ⟨S1x1x2048, .f32⟩
  | 66 => ⟨S4x4096x2048, .f32⟩
  | 67 => ⟨S4x4096x2048, .f32⟩
  | 68 => ⟨S4x4096x2048, .f32⟩
  | 69 => ⟨S4x4096x2048, .f32⟩
  | 70 => ⟨S1x2048, .f32⟩
  | 71 => ⟨S2048, .f32⟩
  | 72 => ⟨S1x1x2048, .f32⟩
  | 73 => ⟨S4x4096x2048, .f32⟩
  | 74 => ⟨S4x4096x2048, .f32⟩
  | 75 => ⟨S4x4096x2048, .f32⟩
  | 76 => ⟨S4x4096x2048, .f32⟩
  | 77 => ⟨S1x2048, .f32⟩
  | 78 => ⟨S2048, .f32⟩
  | 79 => ⟨S1x1x2048, .f32⟩
  | 80 => ⟨S4x4096x2048, .f32⟩
  | 81 => ⟨S4x4096x2048, .f32⟩
  | 82 => ⟨S4x4096x2048, .f32⟩
  | 83 => ⟨S4x4096x2048, .f32⟩
  | 84 => ⟨S1x2048, .f32⟩
  | 85 => ⟨S2048, .f32⟩
  | 86 => ⟨S1x1x2048, .f32⟩
  | 87 => ⟨S4x4096x2048, .f32⟩
  | 88 => ⟨S4x4096x2048, .f32⟩
  | 89 => ⟨S4x4096x2048, .f32⟩
  | 90 => ⟨S4x4096x2048, .f32⟩
  | 91 => ⟨S1x2048, .f32⟩
  | 92 => ⟨S2048, .f32⟩
  | 93 => ⟨S1x1x2048, .f32⟩
  | 94 => ⟨S4x4096x2048, .f32⟩
  | 95 => ⟨S4x4096x2048, .f32⟩
  | 96 => ⟨S4x4096x2048, .f32⟩
  | 97 => ⟨S4x4096x2048, .f32⟩
  | 98 => ⟨S1x2048, .f32⟩
  | 99 => ⟨S2048, .f32⟩
  | 100 => ⟨S1x1x2048, .f32⟩
  | 101 => ⟨S4x4096x2048, .f32⟩
  | 102 => ⟨S4x4096x2048, .f32⟩
  | 103 => ⟨S4x4096x2048, .f32⟩
  | 104 => ⟨S4x4096x2048, .f32⟩
  | 105 => ⟨S1x2048, .f32⟩
  | 106 => ⟨S2048, .f32⟩
  | 107 => ⟨S1x1x2048, .f32⟩
  | 108 => ⟨S4x4096x2048, .f32⟩
  | 109 => ⟨S4x4096x2048, .f32⟩
  | 110 => ⟨S4x4096x2048, .f32⟩
  | 111 => ⟨S4x4096x2048, .f32⟩
  | 112 => ⟨S1x2048, .f32⟩
  | 113 => ⟨S2048, .f32⟩
  | 114 => ⟨S1x1x2048, .f32⟩
  | 115 => ⟨S4x4096x2048, .f32⟩
  | 116 => ⟨S4x4096x2048, .f32⟩
  | 117 => ⟨S4x4096x2048, .f32⟩
  | 118 => ⟨S4x4096x2048, .f32⟩
  | 119 => ⟨S1x2048, .f32⟩
  | 120 => ⟨S2048, .f32⟩
  | 121 => ⟨S1x1x2048, .f32⟩
  | 122 => ⟨S4x4096x2048, .f32⟩
  | 123 => ⟨S4x4096x2048, .f32⟩
  | 124 => ⟨S4x4096x2048, .f32⟩
  | 125 => ⟨S4x4096x2048, .f32⟩
  | 126 => ⟨S1x2048, .f32⟩
  | 127 => ⟨S2048, .f32⟩
  | _ => ⟨S4x4096x2048, .f32⟩

abbrev hbmTy0_1 (i : Nat) : BufTy := match i % 128 with
  | 0 => ⟨S1x1x2048, .f32⟩
  | 1 => ⟨S4x4096x2048, .f32⟩
  | 2 => ⟨S4x4096x2048, .f32⟩
  | 3 => ⟨S4x4096x2048, .f32⟩
  | 4 => ⟨S4x4096x2048, .f32⟩
  | 5 => ⟨S1x2048, .f32⟩
  | 6 => ⟨S2048, .f32⟩
  | 7 => ⟨S1x1x2048, .f32⟩
  | 8 => ⟨S4x4096x2048, .f32⟩
  | 9 => ⟨S4x4096x2048, .f32⟩
  | 10 => ⟨S4x4096x2048, .f32⟩
  | 11 => ⟨S4x4096x2048, .f32⟩
  | 12 => ⟨S1x2048, .f32⟩
  | 13 => ⟨S2048, .f32⟩
  | 14 => ⟨S1x1x2048, .f32⟩
  | 15 => ⟨S4x4096x2048, .f32⟩
  | 16 => ⟨S4x4096x2048, .f32⟩
  | 17 => ⟨S4x4096x2048, .f32⟩
  | 18 => ⟨S4x4096x2048, .f32⟩
  | 19 => ⟨S1x2048, .f32⟩
  | 20 => ⟨S2048, .f32⟩
  | 21 => ⟨S1x1x2048, .f32⟩
  | 22 => ⟨S4x4096x2048, .f32⟩
  | 23 => ⟨S4x4096x2048, .f32⟩
  | 24 => ⟨S4x4096x2048, .f32⟩
  | 25 => ⟨S4x4096x2048, .f32⟩
  | 26 => ⟨S1x2048, .f32⟩
  | 27 => ⟨S2048, .f32⟩
  | 28 => ⟨S1x1x2048, .f32⟩
  | 29 => ⟨S4x4096x2048, .f32⟩
  | 30 => ⟨S4x4096x2048, .f32⟩
  | 31 => ⟨S4x4096x2048, .f32⟩
  | 32 => ⟨S4x4096x2048, .f32⟩
  | 33 => ⟨S1x2048, .f32⟩
  | 34 => ⟨S2048, .f32⟩
  | 35 => ⟨S1x1x2048, .f32⟩
  | 36 => ⟨S4x4096x2048, .f32⟩
  | 37 => ⟨S4x4096x2048, .f32⟩
  | 38 => ⟨S4x4096x2048, .f32⟩
  | 39 => ⟨S4x4096x2048, .f32⟩
  | 40 => ⟨S1x2048, .f32⟩
  | 41 => ⟨S2048, .f32⟩
  | 42 => ⟨S1x1x2048, .f32⟩
  | 43 => ⟨S4x4096x2048, .f32⟩
  | 44 => ⟨S4x4096x2048, .f32⟩
  | 45 => ⟨S4x4096x2048, .f32⟩
  | 46 => ⟨S4x4096x2048, .f32⟩
  | 47 => ⟨S1x2048, .f32⟩
  | 48 => ⟨S2048, .f32⟩
  | 49 => ⟨S1x1x2048, .f32⟩
  | 50 => ⟨S4x4096x2048, .f32⟩
  | 51 => ⟨S4x4096x2048, .f32⟩
  | 52 => ⟨S4x4096x2048, .f32⟩
  | 53 => ⟨S4x4096x2048, .f32⟩
  | 54 => ⟨S1x2048, .f32⟩
  | 55 => ⟨S2048, .f32⟩
  | 56 => ⟨S1x1x2048, .f32⟩
  | 57 => ⟨S4x4096x2048, .f32⟩
  | 58 => ⟨S4x4096x2048, .f32⟩
  | 59 => ⟨S4x4096x2048, .f32⟩
  | 60 => ⟨S4x4096x2048, .f32⟩
  | 61 => ⟨S1x2048, .f32⟩
  | 62 => ⟨S2048, .f32⟩
  | 63 => ⟨S1x1x2048, .f32⟩
  | 64 => ⟨S4x4096x2048, .f32⟩
  | 65 => ⟨S4x4096x2048, .f32⟩
  | 66 => ⟨S4x4096x2048, .f32⟩
  | 67 => ⟨S4x4096x2048, .f32⟩
  | 68 => ⟨S1x2048, .f32⟩
  | 69 => ⟨S2048, .f32⟩
  | 70 => ⟨S1x1x2048, .f32⟩
  | 71 => ⟨S4x4096x2048, .f32⟩
  | 72 => ⟨S4x4096x2048, .f32⟩
  | 73 => ⟨S4x4096x2048, .f32⟩
  | 74 => ⟨S4x4096x2048, .f32⟩
  | 75 => ⟨S1x2048, .f32⟩
  | 76 => ⟨S2048, .f32⟩
  | 77 => ⟨S1x1x2048, .f32⟩
  | 78 => ⟨S4x4096x2048, .f32⟩
  | 79 => ⟨S4x4096x2048, .f32⟩
  | 80 => ⟨S4x4096x2048, .f32⟩
  | 81 => ⟨S4x4096x2048, .f32⟩
  | 82 => ⟨S1x2048, .f32⟩
  | 83 => ⟨S2048, .f32⟩
  | 84 => ⟨S1x1x2048, .f32⟩
  | 85 => ⟨S4x4096x2048, .f32⟩
  | 86 => ⟨S4x4096x2048, .f32⟩
  | 87 => ⟨S4x4096x2048, .f32⟩
  | 88 => ⟨S4x4096x2048, .f32⟩
  | 89 => ⟨S1x2048, .f32⟩
  | 90 => ⟨S2048, .f32⟩
  | 91 => ⟨S1x1x2048, .f32⟩
  | 92 => ⟨S4x4096x2048, .f32⟩
  | 93 => ⟨S4x4096x2048, .f32⟩
  | 94 => ⟨S4x4096x2048, .f32⟩
  | 95 => ⟨S4x4096x2048, .f32⟩
  | 96 => ⟨S1x2048, .f32⟩
  | 97 => ⟨S2048, .f32⟩
  | 98 => ⟨S1x1x2048, .f32⟩
  | 99 => ⟨S4x4096x2048, .f32⟩
  | 100 => ⟨S4x4096x2048, .f32⟩
  | 101 => ⟨S4x4096x2048, .f32⟩
  | 102 => ⟨S1x1x2048, .f32⟩
  | 103 => ⟨S4x4096x2048, .f32⟩
  | 104 => ⟨S4x4096x2048, .f32⟩
  | 105 => ⟨S_, .f32⟩
  | 106 => ⟨S4x4096, .f32⟩
  | 107 => ⟨S4x4096x1, .f32⟩
  | 108 => ⟨S_, .f32⟩
  | 109 => ⟨S4x4096x1, .f32⟩
  | 110 => ⟨S4x4096x1, .f32⟩
  | 111 => ⟨S4x4096x2048, .f32⟩
  | 112 => ⟨S4x4096x2048, .f32⟩
  | 113 => ⟨S4x4096x2048, .f32⟩
  | 114 => ⟨S_, .f32⟩
  | 115 => ⟨S4x4096, .f32⟩
  | 116 => ⟨S4x4096x1, .f32⟩
  | 117 => ⟨S_, .f32⟩
  | 118 => ⟨S4x4096x1, .f32⟩
  | 119 => ⟨S4x4096x1, .f32⟩
  | 120 => ⟨S_, .f32⟩
  | 121 => ⟨S4x4096x1, .f32⟩
  | 122 => ⟨S4x4096x1, .f32⟩
  | 123 => ⟨S4x4096x1, .f32⟩
  | 124 => ⟨S4x4096x2048, .f32⟩
  | 125 => ⟨S4x4096x2048, .f32⟩
  | 126 => ⟨S1x1x2048, .f32⟩
  | 127 => ⟨S4x4096x2048, .f32⟩
  | _ => ⟨S4x4096x2048, .f32⟩

abbrev hbmTy0_2 (i : Nat) : BufTy := match i % 128 with
  | 0 => ⟨S4x4096x2048, .f32⟩
  | 1 => ⟨S1x1x2048, .f32⟩
  | 2 => ⟨S4x4096x2048, .f32⟩
  | 3 => ⟨S4x4096x2048, .f32⟩
  | 4 => ⟨S4x4096x2048, .f32⟩
  | 5 => ⟨S4x4096x2048, .f32⟩
  | 6 => ⟨S_, .f32⟩
  | 7 => ⟨S4x4096x2048, .f32⟩
  | 8 => ⟨S4x4096x2048, .f32⟩
  | 9 => ⟨S_, .f32⟩
  | 10 => ⟨S4x4096x2048, .f32⟩
  | 11 => ⟨S4x4096x2048, .f32⟩
  | 12 => ⟨S4x4096x2048, .f32⟩
  | 13 => ⟨S4x4096x2048, .f32⟩
  | 14 => ⟨S4x4096x1024, .f32⟩
  | 15 => ⟨S4x4096x1024, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_cst_1 : Ref sig .tc := ⟨.hbm, 233, rfl⟩
abbrev main_v223 : Ref sig .tc := ⟨.hbm, 234, rfl⟩
abbrev main_v224 : Ref sig .tc := ⟨.hbm, 235, rfl⟩
abbrev main_cst_2 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_cst_3 : Ref sig .tc := ⟨.hbm, 242, rfl⟩
abbrev main_v230 : Ref sig .tc := ⟨.hbm, 243, rfl⟩
abbrev main_v231 : Ref sig .tc := ⟨.hbm, 244, rfl⟩
abbrev main_cst_4 : Ref sig .tc := ⟨.hbm, 245, rfl⟩
abbrev main_v232 : Ref sig .tc := ⟨.hbm, 246, rfl⟩
abbrev main_v233 : Ref sig .tc := ⟨.hbm, 247, rfl⟩
abbrev main_cst_5 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x6144 : Shape := ⟨2, ![1024, 6144]⟩
abbrev S16384x1024 : Shape := ⟨2, ![16384, 1024]⟩
abbrev S1x1024 : Shape := ⟨2, ![1, 1024]⟩
abbrev S16384x2048 : Shape := ⟨2, ![16384, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S1x1024, .f32⟩
  | .hbm, ⟨5, _⟩ => ⟨S1024x6144, .bf16⟩
  | .hbm, ⟨6, _⟩ => ⟨S16384x2048, .f32⟩
  | .hbm, ⟨7, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
abbrev S4x4096x1024 : Shape := ⟨3, ![4, 4096, 1024]⟩
abbrev S1024 : Shape := ⟨1, ![1024]⟩
abbrev S1024x6144 : Shape := ⟨2, ![1024, 6144]⟩
abbrev S16384x1024 : Shape := ⟨2, ![16384, 1024]⟩
abbrev S1x1024 : Shape := ⟨2, ![1, 1024]⟩
abbrev S16384x2048 : Shape := ⟨2, ![16384, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S1x1024, .f32⟩
  | .hbm, ⟨5, _⟩ => ⟨S1024x6144, .bf16⟩
  | .hbm, ⟨6, _⟩ => ⟨S16384x2048, .f32⟩
  | .hbm, ⟨7, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x4096x1024 : Shape := ⟨3, ![4, 4096, 1024]⟩
abbrev S1024 : Shape := ⟨1, ![1024]⟩
abbrev S1024x6144 : Shape := ⟨2, ![1024, 6144]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x2048 : Shape := ⟨3, ![4, 4096, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x6144, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S16384x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x3632 : Shape := ⟨2, ![1024, 3632]⟩
abbrev S_ : Shape := ⟨0, ![]⟩
abbrev S1024x3712 : Shape := ⟨2, ![1024, 3712]⟩
abbrev S16384x1024 : Shape := ⟨2, ![16384, 1024]⟩
abbrev S1x1024 : Shape := ⟨2, ![1, 1024]⟩
abbrev S16384x512 : Shape := ⟨2, ![16384, 512]⟩
abbrev S16384x128 : Shape := ⟨2, ![16384, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S_, .i32⟩
  | .hbm, ⟨4, _⟩ => ⟨S_, .f32⟩
  | .hbm, ⟨5, _⟩ => ⟨S1024x3712, .f32⟩
  | .hbm, ⟨6, _⟩ => ⟨S1024x3712, .bf16⟩
  | .hbm, ⟨7, _⟩ => ⟨S16384x1024, .f32⟩
  | .hbm, ⟨8, _⟩ => ⟨S1x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .bf16⟩
  | .hbm, ⟨14, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
abbrev S4x4096x1024 : Shape := ⟨3, ![4, 4096, 1024]⟩
abbrev S1024 : Shape := ⟨1, ![1024]⟩
abbrev S1024x3632 : Shape := ⟨2, ![1024, 3632]⟩
abbrev S_ : Shape := ⟨0, ![]⟩
abbrev S1024x3712 : Shape := ⟨2, ![1024, 3712]⟩
abbrev S16384x1024 : Shape := ⟨2, ![16384, 1024]⟩
abbrev S1x1024 : Shape := ⟨2, ![1, 1024]⟩
abbrev S16384x512 : Shape := ⟨2, ![16384, 512]⟩
abbrev S16384x128 : Shape := ⟨2, ![16384, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x128 : Shape := ⟨2, ![1024, 128]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S_, .i32⟩
  | .hbm, ⟨4, _⟩ => ⟨S_, .f32⟩
  | .hbm, ⟨5, _⟩ => ⟨S1024x3712, .f32⟩
  | .hbm, ⟨6, _⟩ => ⟨S1024x3712, .bf16⟩
  | .hbm, ⟨7, _⟩ => ⟨S16384x1024, .f32⟩
  | .hbm, ⟨8, _⟩ => ⟨S1x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .bf16⟩
  | .hbm, ⟨14, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S1024 : Shape := ⟨1, ![1024]⟩
abbrev S1024x3632 : Shape := ⟨2, ![1024, 3632]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3632 : Shape := ⟨3, ![4, 4096, 3632]⟩
abbrev S4x4096x1536 : Shape := ⟨3, ![4, 4096, 1536]⟩
abbrev S4x4096x48 : Shape := ⟨3, ![4, 4096, 48]⟩
abbrev S4x4096x128 : Shape := ⟨3, ![4, 4096, 128]⟩
abbrev S16384x1024 : Shape := ⟨2, ![16384, 1024]⟩
abbrev S4x4096x512 : Shape := ⟨3, ![4, 4096, 512]⟩
abbrev S16384x512 : Shape := ⟨2, ![16384, 512]⟩
abbrev S16384x128 : Shape := ⟨2, ![16384, 128]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3632, .f32⟩
  | .hbm, ⟨20, _⟩ => ⟨S4x4096x1024, .f32⟩
  | .hbm, ⟨21, _⟩ => ⟨S4x4096x1024, .f32⟩
  | .hbm, ⟨22, _⟩ => ⟨S4x4096x1536, .f32⟩
  | .hbm, ⟨23, _⟩ => ⟨S4x4096x48, .f32⟩
  | .hbm, ⟨24, _⟩ => ⟨S_, .f32⟩
  | .hbm, ⟨25, _⟩ => ⟨S4x4096x1024, .f32⟩
  | .hbm, ⟨26, _⟩ => ⟨S4x4096x1024, .f32⟩
  | .hbm, ⟨27, _⟩ => ⟨S_, .i32⟩
  | .hbm, ⟨28, _⟩ => ⟨S_, .f32⟩
  | .hbm, ⟨29, _⟩ => ⟨S4x4096x128, .f32⟩
  | .hbm, ⟨30, _⟩ => ⟨S4x4096x128, .f32⟩
  | .hbm, ⟨31, _⟩ => ⟨S4x4096x128, .f32⟩
  | .hbm, ⟨32, _⟩ => ⟨S_, .f32⟩
  | .hbm, ⟨33, _⟩ => ⟨S4x4096x128, .f32⟩
  | .hbm, ⟨34, _⟩ => ⟨S4x4096x128, .f32⟩
  | .hbm, ⟨35, _⟩ => ⟨S_, .f32⟩
  | .hbm, ⟨36, _⟩ => ⟨S4x4096x128, .f32⟩
  | .hbm, ⟨37, _⟩ => ⟨S4x4096x128, .f32⟩
  | .hbm, ⟨38, _⟩ => ⟨S4x4096x1024, .bf16⟩
  | .hbm, ⟨39, _⟩ => ⟨S16384x1024, .bf16⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S16384x1024, .f32⟩
  | .hbm, ⟨50, _⟩ => ⟨S4x4096x1024, .f32⟩
  | .hbm, ⟨51, _⟩ => ⟨S16384x1024, .f32⟩
  | .hbm, ⟨52, _⟩ => ⟨S4x4096x512, .f32⟩
  | .hbm, ⟨53, _⟩ => ⟨S16384x512, .f32⟩
  | .hbm, ⟨54, _⟩ => ⟨S4x4096x1024, .f32⟩
  | .hbm, ⟨55, _⟩ => ⟨S4x4096x1024, .bf16⟩
  | .hbm, ⟨56, _⟩ => ⟨S16384x1024, .bf16⟩
  | .hbm, ⟨57, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel4.lean ====
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel5.lean ====
abbrev S1024x1024 : Shape := ⟨2, ![1024, 1024]⟩
abbrev S1024 : Shape := ⟨1, ![1024]⟩
abbrev S1024x6144 : Shape := ⟨2, ![1024, 6144]⟩
abbrev S1x1024 : Shape := ⟨2, ![1, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S1024x2048, .f32⟩
  | .hbm, ⟨6, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1024x1024 : Shape := ⟨2, ![1024, 1024]⟩
abbrev S1024 : Shape := ⟨1, ![1024]⟩
abbrev S1024x6144 : Shape := ⟨2, ![1024, 6144]⟩
abbrev S_ : Shape := ⟨0, ![]⟩
abbrev S1024x1 : Shape := ⟨2, ![1024, 1]⟩
abbrev S1x1024 : Shape := ⟨2, ![1, 1024]⟩
abbrev S1024x2048 : Shape := ⟨2, ![1024, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x6144, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x6144, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | .hbm, ⟨40, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Kernel6.lean ====
abbrev S1024x1024 : Shape := ⟨2, ![1024, 1024]⟩
abbrev S1024 : Shape := ⟨1, ![1024]⟩
abbrev S1024x3632 : Shape := ⟨2, ![1024, 3632]⟩
abbrev S_ : Shape := ⟨0, ![]⟩
abbrev S1024x3712 : Shape := ⟨2, ![1024, 3712]⟩
abbrev S1x1024 : Shape := ⟨2, ![1, 1024]⟩
abbrev S1024x512 : Shape := ⟨2, ![1024, 512]⟩
abbrev S1024x128 : Shape := ⟨2, ![1024, 128]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x3632, .f32⟩
  | .hbm, ⟨3, _⟩ => ⟨S_, .i32⟩
  | .hbm, ⟨4, _⟩ => ⟨S_, .f32⟩
  | .hbm, ⟨5, _⟩ => ⟨S1024x3712, .f32⟩
  | .hbm, ⟨6, _⟩ => ⟨S1024x3712, .bf16⟩
  | .hbm, ⟨7, _⟩ => ⟨S1x1024, .f32⟩
  | .hbm, ⟨8, _⟩ => ⟨S1024x1024, .bf16⟩
  | .hbm, ⟨9, _⟩ => ⟨S1024x1024, .f32⟩
  | .hbm, ⟨10, _⟩ => ⟨S1024x1024, .f32⟩
  | .hbm, ⟨11, _⟩ => ⟨S1024x512, .f32⟩
  | .hbm, ⟨12, _⟩ => ⟨S1024x1024, .bf16⟩
  | .hbm, ⟨13, _⟩ => ⟨S1024x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3712, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1024x1024 : Shape := ⟨2, ![1024, 1024]⟩
abbrev S1024 : Shape := ⟨1, ![1024]⟩
abbrev S1024x3632 : Shape := ⟨2, ![1024, 3632]⟩
abbrev S_ : Shape := ⟨0, ![]⟩
abbrev S1024x1 : Shape := ⟨2, ![1024, 1]⟩
abbrev S1x1024 : Shape := ⟨2, ![1, 1024]⟩
abbrev S1024x1536 : Shape := ⟨2, ![1024, 1536]⟩
abbrev S1024x48 : Shape := ⟨2, ![1024, 48]⟩
abbrev S1024x128 : Shape := ⟨2, ![1024, 128]⟩
abbrev S1024x512 : Shape := ⟨2, ![1024, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x3632, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x3632, .f32⟩
  | .hbm, ⟨20, _⟩ => ⟨S1024x1024, .f32⟩
  | .hbm, ⟨21, _⟩ => ⟨S1024x1024, .f32⟩
  | .hbm, ⟨22, _⟩ => ⟨S1024x1536, .f32⟩
  | .hbm, ⟨23, _⟩ => ⟨S1024x48, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S1024x128, .f32⟩
  | .hbm, ⟨38, _⟩ => ⟨S1024x1024, .bf16⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x512, .f32⟩
  | .hbm, ⟨50, _⟩ => ⟨S1024x1024, .f32⟩
  | .hbm, ⟨51, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel7.lean ====
abbrev S128x30x2048 : Shape := ⟨3, ![128, 30, 2048]⟩
abbrev S1024x2048 : Shape := ⟨2, ![1024, 2048]⟩
abbrev S1024x1024 : Shape := ⟨2, ![1024, 1024]⟩
abbrev S31x2048 : Shape := ⟨2, ![31, 2048]⟩
abbrev S2048 : Shape := ⟨1, ![2048]⟩
abbrev S2048x1024 : Shape := ⟨2, ![2048, 1024]⟩
abbrev S38 : Shape := ⟨1, ![38]⟩
abbrev S38x1 : Shape := ⟨2, ![38, 1]⟩
abbrev S8 : Shape := ⟨1, ![8]⟩
abbrev S1x8 : Shape := ⟨2, ![1, 8]⟩
abbrev S38x8 : Shape := ⟨2, ![38, 8]⟩
abbrev S_ : Shape := ⟨0, ![]⟩
abbrev S38x8x1 : Shape := ⟨3, ![38, 8, 1]⟩
abbrev S38x8x2048 : Shape := ⟨3, ![38, 8, 2048]⟩
abbrev S1x2048 : Shape := ⟨2, ![1, 2048]⟩
abbrev S16x30x2048 : Shape := ⟨3, ![16, 30, 2048]⟩
abbrev S128x2048 : Shape := ⟨2, ![128, 2048]⟩
abbrev S128x1024 : Shape := ⟨2, ![128, 1024]⟩
abbrev S8x2048 : Shape := ⟨2, ![8, 2048]⟩
abbrev S1x1x2048 : Shape := ⟨3, ![1, 1, 2048]⟩
abbrev S1x8x2048 : Shape := ⟨3, ![1, 8, 2048]⟩
abbrev S8x1 : Shape := ⟨2, ![8, 1]⟩

abbrev nBuf : Space → Nat
  | .hbm => 51
  | .vmem => 16
  | .smem => 0
  | _ => 0

abbrev bufTy : (tb : Table) → Fin (tcTables nBuf tb) → BufTy
  | .hbm, ⟨0, _⟩ => ⟨S128x30x2048, .f32⟩
  | .hbm, ⟨1, _⟩ => ⟨S1024x2048, .f32⟩
  | .hbm, ⟨2, _⟩ => ⟨S1024x2048, .f32⟩
  | .hbm, ⟨3, _⟩ => ⟨S1024x1024, .f32⟩
  | .hbm, ⟨4, _⟩ => ⟨S31x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x1024, .f32⟩
  | .hbm, ⟨9, _⟩ => ⟨S38, .i32⟩
  | .hbm, ⟨10, _⟩ => ⟨S38x1, .i32⟩
  | .hbm, ⟨11, _⟩ => ⟨S8, .i32⟩
  | .hbm, ⟨12, _⟩ => ⟨S1x8, .i32⟩
  | .hbm, ⟨13, _⟩ => ⟨S38x8, .i32⟩
  | .hbm, ⟨14, _⟩ => ⟨S38x8, .i32⟩
  | .hbm, ⟨15, _⟩ => ⟨S38x8, .i32⟩
  | .hbm, ⟨16, _⟩ => ⟨S_, .i32⟩
  | .hbm, ⟨17, _⟩ => ⟨S38x8, .i32⟩
  | .hbm, ⟨18, _⟩ => ⟨S38x8, .i1⟩
  | .hbm, ⟨19, _⟩ => ⟨S_, .i32⟩
  | .hbm, ⟨20, _⟩ => ⟨S38x8, .i32⟩
  | .hbm, ⟨21, _⟩ => ⟨S38x8, .i1⟩
  | .hbm, ⟨22, _⟩ => ⟨S38x8, .i1⟩
  | .hbm, ⟨23, _⟩ => ⟨S38x8x1, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S38x8, .i32⟩
  | .hbm, ⟨28, _⟩ => ⟨S38x8, .i32⟩
  | .hbm, ⟨29, _⟩ => ⟨S_, .i32⟩
  | .hbm, ⟨30, _⟩ => ⟨S38x8, .i32⟩
  | .hbm, ⟨31, _⟩ => ⟨S38x8, .i32⟩
  | .hbm, ⟨32, _⟩ => ⟨S_, .i32⟩
  | .hbm, ⟨33, _⟩ => ⟨S38x8, .i32⟩
  | .hbm, ⟨34, _⟩ => ⟨S38x8, .i1⟩
  | .hbm, ⟨35, _⟩ => ⟨S_, .i32⟩
  | .hbm, ⟨36, _⟩ => ⟨S38x8, .i32⟩
  | .hbm, ⟨37, _⟩ => ⟨S38x8, .i32⟩
  | .hbm, ⟨38, _⟩ => ⟨S38x8, .i32⟩
  | .hbm, ⟨39, _⟩ => ⟨S38x8x1, .i32⟩
  | .hbm, ⟨40, _⟩ => ⟨S38x8x2048, .f32⟩
  | .hbm, ⟨41, _⟩ => ⟨S_, .f32⟩
  | .hbm, ⟨42, _⟩ => ⟨S_, .f32⟩
  | .hbm, ⟨43, _⟩ => ⟨S38x8x2048, .i1⟩
  | .hbm, ⟨44, _⟩ => ⟨S38x8x2048, .f32⟩
  | .hbm, ⟨45, _⟩ => ⟨S38x8x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S2048x1024, .bf16⟩
  | .hbm, ⟨50, _⟩ => ⟨S1024x1024, .f32⟩
  | .local _ .vmem, ⟨0, _⟩ => ⟨S16x30x2048, .f32⟩
  | .local _ .vmem, ⟨1, _⟩ => ⟨S16x30x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x1024, .f32⟩
  | .local _ .vmem, ⟨7, _⟩ => ⟨S128x1024, .f32⟩
  | .local _ .vmem, ⟨8, _⟩ => ⟨S38x8x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S128x1024, .f32⟩
  | .local _ .vmem, ⟨14, _⟩ => ⟨S128x1024, .f32⟩
  | .local _ .vmem, ⟨15, _⟩ => ⟨S128x2048, .f32⟩
  | _, _ => ⟨S128x30x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_c_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v9 : BitVec 32 := Scalar.muli arg12 c8_i32
  v9
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v12 : Index := Scalar.indexCast arg12
  let c0_9 : Index := 0#32
  let c0_10 : Index := 0#32
  ![v12.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v20 : Index := Scalar.indexCast arg12
  let c1 : Index := 1#32
  let c0_14 : Index := 0#32
  ![v20.toNat, 1, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v28 : Index := Scalar.indexCast arg12
  let c2 : Index := 2#32
  let c0_18 : Index := 0#32
  ![v28.toNat, 2, 0]
def k0_off4 (k0_t1 : Fin k0_t1_loop.trips) : Fin 3 → Nat :=
  let c0_i32 : BitVec 32 := 0#32
  let c1_i32 : BitVec 32 := 1#32
  let arg12 : BitVec 32 := Scf.iv c0_i32 c1_i32 k0_t1
  let v36 : Index := Scalar.indexCast arg12
  let c3 : Index := 3#32
  let c0_22 : Index := 0#32
  ![v36.toNat, 3, 0]
def k0_off5 (k0_t1 : Fin k0_t1_loop.trips) : Fin 3 → Nat :=
  let c0_i32 : BitVec 32 := 0#32
  let c1_i32 : BitVec 32 := 1#32
  let arg12 : BitVec 32 := Scf.iv c0_i32 c1_i32 k0_t1
  let v44 : Index := Scalar.indexCast arg12
  let c4 : Index := 4#32
  let c0_26 : Index := 0#32
  ![v44.toNat, 4, 0]
def k0_off6 (k0_t1 : Fin k0_t1_loop.trips) : Fin 3 → Nat :=
  let c0_i32 : BitVec 32 := 0#32
  let c1_i32 : BitVec 32 := 1#32
  let arg12 : BitVec 32 := Scf.iv c0_i32 c1_i32 k0_t1
  let v52 : Index := Scalar.indexCast arg12
  let c5 : Index := 5#32
  let c0_30 : Index := 0#32
  ![v52.toNat, 5, 0]
def k0_off7 (k0_t1 : Fin k0_t1_loop.trips) : Fin 3 → Nat :=
  let c0_i32 : BitVec 32 := 0#32
  let c1_i32 : BitVec 32 := 1#32
  let arg12 : BitVec 32 := Scf.iv c0_i32 c1_i32 k0_t1
  let v60 : Index := Scalar.indexCast arg12
  let c6 : Index := 6#32
  let c0_34 : Index := 0#32
  ![v60.toNat, 6, 0]
def k0_off8 (k0_t1 : Fin k0_t1_loop.trips) : Fin 3 → Nat :=
  let c0_i32 : BitVec 32 := 0#32
  let c1_i32 : BitVec 32 := 1#32
  let arg12 : BitVec 32 := Scf.iv c0_i32 c1_i32 k0_t1
  let v68 : Index := Scalar.indexCast arg12
  let c7 : Index := 7#32
  let c0_38 : Index := 0#32
  ![v68.toNat, 7, 0]
def k0_off9 (k0_t1 : Fin k0_t1_loop.trips) : Fin 3 → Nat :=
  let c0_i32 : BitVec 32 := 0#32
  let c1_i32 : BitVec 32 := 1#32
  let arg12 : BitVec 32 := Scf.iv c0_i32 c1_i32 k0_t1
  let v76 : Index := Scalar.indexCast arg12
  let c8 : Index := 8#32
  let c0_42 : Index := 0#32
  ![v76.toNat, 8, 0]
def k0_off10 (k0_t1 : Fin k0_t1_loop.trips) : Fin 3 → Nat :=
  let c0_i32 : BitVec 32 := 0#32
  let c1_i32 : BitVec 32 := 1#32
  let arg12 : BitVec 32 := Scf.iv c0_i32 c1_i32 k0_t1
  let v84 : Index := Scalar.indexCast arg12
  let c9 : Index := 9#32
  let c0_46 : Index := 0#32
  ![v84.toNat, 9, 0]
def k0_off11 (k0_t1 : Fin k0_t1_loop.trips) : Fin 3 → Nat :=
  let c0_i32 : BitVec 32 := 0#32
  let c1_i32 : BitVec 32 := 1#32
  let arg12 : BitVec 32 := Scf.iv c0_i32 c1_i32 k0_t1
  let v92 : Index := Scalar.indexCast arg12
  let c10 : Index := 10#32
  let c0_50 : Index := 0#32
  ![v92.toNat, 10, 0]
def k0_off12 (k0_t1 : Fin k0_t1_loop.trips) : Fin 3 → Nat :=
  let c0_i32 : BitVec 32 := 0#32
  let c1_i32 : BitVec 32 := 1#32
  let arg12 : BitVec 32 := Scf.iv c0_i32 c1_i32 k0_t1
  let v100 : Index := Scalar.indexCast arg12
  let c11 : Index := 11#32
  let c0_54 : Index := 0#32
  ![v100.toNat, 11, 0]
def k0_off13 (k0_t1 : Fin k0_t1_loop.trips) : Fin 3 → Nat :=
  let c0_i32 : BitVec 32 := 0#32
  let c1_i32 : BitVec 32 := 1#32
  let arg12 : BitVec 32 := Scf.iv c0_i32 c1_i32 k0_t1
  let v108 : Index := Scalar.indexCast arg12
  let c12 : Index := 12#32
  let c0_58 : Index := 0#32
  ![v108.toNat, 12, 0]
def k0_off14 (k0_t1 : Fin k0_t1_loop.trips) : Fin 3 → Nat :=
  let c0_i32 : BitVec 32 := 0#32
  let c1_i32 : BitVec 32 := 1#32
  let arg12 : BitVec 32 := Scf.iv c0_i32 c1_i32 k0_t1
  let v116 : Index := Scalar.indexCast arg12
  let c13 : Index := 13#32
  let c0_62 : Index := 0#32
  ![v116.toNat, 13, 0]
def k0_off15 (k0_t1 : Fin k0_t1_loop.trips) : Fin 3 → Nat :=
  let c0_i32 : BitVec 32 := 0#32
  let c1_i32 : BitVec 32 := 1#32
  let arg12 : BitVec 32 := Scf.iv c0_i32 c1_i32 k0_t1
  let v124 : Index := Scalar.indexCast arg12
  let c14 : Index := 14#32
  let c0_66 : Index := 0#32
  ![v124.toNat, 14, 0]
def k0_off16 (k0_t1 : Fin k0_t1_loop.trips) : Fin 3 → Nat :=
  let c0_i32 : BitVec 32 := 0#32
  let c1_i32 : BitVec 32 := 1#32
  let arg12 : BitVec 32 := Scf.iv c0_i32 c1_i32 k0_t1
  let v132 : Index := Scalar.indexCast arg12
  let c15 : Index := 15#32
  let c0_70 : Index := 0#32
  ![v132.toNat, 15, 0]
def k0_off17 (k0_t1 : Fin k0_t1_loop.trips) : Fin 3 → Nat :=
  let c0_i32 : BitVec 32 := 0#32
  let c1_i32 : BitVec 32 := 1#32
  let arg12 : BitVec 32 := Scf.iv c0_i32 c1_i32 k0_t1
  let v140 : Index := Scalar.indexCast arg12
  let c16 : Index := 16#32
  let c0_74 : Index := 0#32
  ![v140.toNat, 16, 0]
def k0_off18 (k0_t1 : Fin k0_t1_loop.trips) : Fin 3 → Nat :=
  let c0_i32 : BitVec 32 := 0#32
  let c1_i32 : BitVec 32 := 1#32
  let arg12 : BitVec 32 := Scf.iv c0_i32 c1_i32 k0_t1
  let v148 : Index := Scalar.indexCast arg12
  let c17 : Index := 17#32
  let c0_78 : Index := 0#32
  ![v148.toNat, 17, 0]
def k0_off19 (k0_t1 : Fin k0_t1_loop.trips) : Fin 3 → Nat :=
  let c0_i32 : BitVec 32 := 0#32
  let c1_i32 : BitVec 32 := 1#32
  let arg12 : BitVec 32 := Scf.iv c0_i32 c1_i32 k0_t1
  let v156 : Index := Scalar.indexCast arg12
  let c18 : Index := 18#32
  let c0_82 : Index := 0#32
  ![v156.toNat, 18, 0]
def k0_off20 (k0_t1 : Fin k0_t1_loop.trips) : Fin 3 → Nat :=
  let c0_i32 : BitVec 32 := 0#32
  let c1_i32 : BitVec 32 := 1#32
  let arg12 : BitVec 32 := Scf.iv c0_i32 c1_i32 k0_t1
  let v164 : Index := Scalar.indexCast arg12
  let c19 : Index := 19#32
  let c0_86 : Index := 0#32
  ![v164.toNat, 19, 0]
def k0_off21 (k0_t1 : Fin k0_t1_loop.trips) : Fin 3 → Nat :=
  let c0_i32 : BitVec 32 := 0#32
  let c1_i32 : BitVec 32 := 1#32
  let arg12 : BitVec 32 := Scf.iv c0_i32 c1_i32 k0_t1
  let v172 : Index := Scalar.indexCast arg12
  let c20 : Index := 20#32
  let c0_90 : Index := 0#32
  ![v172.toNat, 20, 0]
def k0_off22 (k0_t1 : Fin k0_t1_loop.trips) : Fin 3 → Nat :=
  let c0_i32 : BitVec 32 := 0#32
  let c1_i32 : BitVec 32 := 1#32
  let arg12 : BitVec 32 := Scf.iv c0_i32 c1_i32 k0_t1
  let v180 : Index := Scalar.indexCast arg12
  let c21 : Index := 21#32
  let c0_94 : Index := 0#32
  ![v180.toNat, 21, 0]
def k0_off23 (k0_t1 : Fin k0_t1_loop.trips) : Fin 3 → Nat :=
  let c0_i32 : BitVec 32 := 0#32
  let c1_i32 : BitVec 32 := 1#32
  let arg12 : BitVec 32 := Scf.iv c0_i32 c1_i32 k0_t1
  let v188 : Index := Scalar.indexCast arg12
  let c22 : Index := 22#32
  let c0_98 : Index := 0#32
  ![v188.toNat, 22, 0]
def k0_off24 (k0_t1 : Fin k0_t1_loop.trips) : Fin 3 → Nat :=
  let c0_i32 : BitVec 32 := 0#32
  let c1_i32 : BitVec 32 := 1#32
  let arg12 : BitVec 32 := Scf.iv c0_i32 c1_i32 k0_t1
  let v196 : Index := Scalar.indexCast arg12
  let c23 : Index := 23#32
  let c0_102 : Index := 0#32
  ![v196.toNat, 23, 0]
def k0_off25 (k0_t1 : Fin k0_t1_loop.trips) : Fin 3 → Nat :=
  let c0_i32 : BitVec 32 := 0#32
  let c1_i32 : BitVec 32 := 1#32
  let arg12 : BitVec 32 := Scf.iv c0_i32 c1_i32 k0_t1
  let v204 : Index := Scalar.indexCast arg12
  let c24 : Index := 24#32
  let c0_106 : Index := 0#32
  ![v204.toNat, 24, 0]
def k0_off26 (k0_t1 : Fin k0_t1_loop.trips) : Fin 3 → Nat :=
  let c0_i32 : BitVec 32 := 0#32
  let c1_i32 : BitVec 32 := 1#32
  let arg12 : BitVec 32 := Scf.iv c0_i32 c1_i32 k0_t1
  let v212 : Index := Scalar.indexCast arg12
  let c25 : Index := 25#32
  let c0_110 : Index := 0#32
  ![v212.toNat, 25, 0]
def k0_off27 (k0_t1 : Fin k0_t1_loop.trips) : Fin 3 → Nat :=
  let c0_i32 : BitVec 32 := 0#32
  let c1_i32 : BitVec 32 := 1#32
  let arg12 : BitVec 32 := Scf.iv c0_i32 c1_i32 k0_t1
  let v220 : Index := Scalar.indexCast arg12
  let c26 : Index := 26#32
  let c0_114 : Index := 0#32
  ![v220.toNat, 26, 0]
def k0_off28 (k0_t1 : Fin k0_t1_loop.trips) : Fin 3 → Nat :=
  let c0_i32 : BitVec 32 := 0#32
  let c1_i32 : BitVec 32 := 1#32
  let arg12 : BitVec 32 := Scf.iv c0_i32 c1_i32 k0_t1
  let v228 : Index := Scalar.indexCast arg12
  let c27 : Index := 27#32
  let c0_118 : Index := 0#32
  ![v228.toNat, 27, 0]
def k0_off29 (k0_t1 : Fin k0_t1_loop.trips) : Fin 3 → Nat :=
  let c0_i32 : BitVec 32 := 0#32
  let c1_i32 : BitVec 32 := 1#32
  let arg12 : BitVec 32 := Scf.iv c0_i32 c1_i32 k0_t1
  let v236 : Index := Scalar.indexCast arg12
  let c28 : Index := 28#32
  let c0_122 : Index := 0#32
  ![v236.toNat, 28, 0]
def k0_off30 (k0_t1 : Fin k0_t1_loop.trips) : Fin 3 → Nat :=
  let c0_i32 : BitVec 32 := 0#32
  let c1_i32 : BitVec 32 := 1#32
  let arg12 : BitVec 32 := Scf.iv c0_i32 c1_i32 k0_t1
  let v244 : Index := Scalar.indexCast arg12
  let c29 : Index := 29#32
  let c0_126 : Index := 0#32
  ![v244.toNat, 29, 0]
def k0_off31 (k0_t1 : Fin k0_t1_loop.trips) (c0_i32_130 : BitVec 32) : Fin 2 → Nat :=
  let c0_i32 : BitVec 32 := 0#32
  let c1_i32 : BitVec 32 := 1#32
  let arg12 : BitVec 32 := Scf.iv c0_i32 c1_i32 k0_t1
  let c8_i32 : BitVec 32 := 8#32
  let v9 : BitVec 32 := Scalar.muli arg12 c8_i32
  let v10 : BitVec 32 := v9
  let v252 : BitVec 32 := Scalar.addi v10 c0_i32_130
  let v253 : Index := Scalar.indexCast v252
  let c0_131 : Index := 0#32
  ![v253.toNat, 0]
def k0_off32 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v9 : BitVec 32 := Scalar.muli arg12 c8_i32
  let v10 : BitVec 32 := v9
  let v324 : Index := Scalar.indexCast v10
  let c0_162 : Index := 0#32
  ![v324.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x30x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S38x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S128x30x2048 : Shape := ⟨3, ![128, 30, 2048]⟩
abbrev S1024x2048 : Shape := ⟨2, ![1024, 2048]⟩
abbrev S1024x1024 : Shape := ⟨2, ![1024, 1024]⟩
abbrev S31x2048 : Shape := ⟨2, ![31, 2048]⟩
abbrev S2048 : Shape := ⟨1, ![2048]⟩
abbrev S2048x1024 : Shape := ⟨2, ![2048, 1024]⟩
abbrev S128x8x2048 : Shape := ⟨3, ![128, 8, 2048]⟩
abbrev S128x38x2048 : Shape := ⟨3, ![128, 38, 2048]⟩
abbrev S1x2048 : Shape := ⟨2, ![1, 2048]⟩
abbrev S1x1x2048 : Shape := ⟨3, ![1, 1, 2048]⟩
abbrev S_ : Shape := ⟨0, ![]⟩
abbrev S128x8 : Shape := ⟨2, ![128, 8]⟩
abbrev S128x8x1 : Shape := ⟨3, ![128, 8, 1]⟩

abbrev nBuf : Space → Nat
  | .hbm => 273
  | .vmem => 0
  | .smem => 0
  | _ => 0

abbrev hbmTy0_0 (i : Nat) : BufTy := match i % 128 with
  | 0 => ⟨S128x30x2048, .f32⟩
  | 1 => ⟨S1024x2048, .f32⟩
  | 2 => ⟨S1024x2048, .f32⟩
  | 3 => ⟨S1024x1024, .f32⟩
  | 4 => ⟨S31x2048, .f32⟩
  | 5 => ⟨S2048, .f32⟩
  | 6 => ⟨S2048, .f32⟩
  | 7 => ⟨S2048, .f32⟩
  | 8 => ⟨S2048x1024, .f32⟩
  | 9 => ⟨S128x8x2048, .f32⟩
  | 10 => ⟨S128x38x2048, .f32⟩
  | 11 => ⟨S128x8x2048, .f32⟩
  | 12 => ⟨S1x2048, .f32⟩
  | 13 => ⟨S2048, .f32⟩
  | 14 => ⟨S1x1x2048, .f32⟩
  | 15 => ⟨S128x8x2048, .f32⟩
  | 16 => ⟨S128x8x2048, .f32⟩
  | 17 => ⟨S_, .f32⟩
  | 18 => ⟨S128x8x2048, .f32⟩
  | 19 => ⟨S128x8x2048, .f32⟩
  | 20 => ⟨S128x8x2048, .f32⟩
  | 21 => ⟨S1x2048, .f32⟩
  | 22 => ⟨S2048, .f32⟩
  | 23 => ⟨S1x1x2048, .f32⟩
  | 24 => ⟨S128x8x2048, .f32⟩
  | 25 => ⟨S128x8x2048, .f32⟩
  | 26 => ⟨S128x8x2048, .f32⟩
  | 27 => ⟨S128x8x2048, .f32⟩
  | 28 => ⟨S1x2048, .f32⟩
  | 29 => ⟨S2048, .f32⟩
  | 30 => ⟨S1x1x2048, .f32⟩
  | 31 => ⟨S128x8x2048, .f32⟩
  | 32 => ⟨S128x8x2048, .f32⟩
  | 33 => ⟨S128x8x2048, .f32⟩
  | 34 => ⟨S128x8x2048, .f32⟩
  | 35 => ⟨S1x2048, .f32⟩
  | 36 => ⟨S2048, .f32⟩
  | 37 => ⟨S1x1x2048, .f32⟩
  | 38 => ⟨S128x8x2048, .f32⟩
  | 39 => ⟨S128x8x2048, .f32⟩
  | 40 => ⟨S128x8x2048, .f32⟩
  | 41 => ⟨S128x8x2048, .f32⟩
  | 42 => ⟨S1x2048, .f32⟩
  | 43 => ⟨S2048, .f32⟩
  | 44 => ⟨S1x1x2048, .f32⟩
  | 45 => ⟨S128x8x2048, .f32⟩
  | 46 => ⟨S128x8x2048, .f32⟩
  | 47 => ⟨S128x8x2048, .f32⟩
  | 48 => ⟨S128x8x2048, .f32⟩
  | 49 => ⟨S1x2048, .f32⟩
  | 50 => ⟨S2048, .f32⟩
  | 51 => ⟨S1x1x2048, .f32⟩
  | 52 => ⟨S128x8x2048, .f32⟩
  | 53 => ⟨S128x8x2048, .f32⟩
  | 54 => ⟨S128x8x2048, .f32⟩
  | 55 => ⟨S128x8x2048, .f32⟩
  | 56 => ⟨S1x2048, .f32⟩
  | 57 => ⟨S2048, .f32⟩
  | 58 => ⟨S1x1x2048, .f32⟩
  | 59 => ⟨S128x8x2048, .f32⟩
  | 60 => ⟨S128x8x2048, .f32⟩
  | 61 => ⟨S128x8x2048, .f32⟩
  | 62 => ⟨S128x8x2048, .f32⟩
  | 63 => ⟨S1x2048, .f32⟩
  | 64 => ⟨S2048, .f32⟩
  | 65 => ⟨S1x1x2048, .f32⟩
  | 66 => ⟨S128x8x2048, .f32⟩
  | 67 => ⟨S128x8x2048, .f32⟩
  | 68 => ⟨S128x8x2048, .f32⟩
  | 69 => ⟨S128x8x2048, .f32⟩
  | 70 => ⟨S1x2048, .f32⟩
  | 71 => ⟨S2048, .f32⟩
  | 72 => ⟨S1x1x2048, .f32⟩
  | 73 => ⟨S128x8x2048, .f32⟩
  | 74 => ⟨S128x8x2048, .f32⟩
  | 75 => ⟨S128x8x2048, .f32⟩
  | 76 => ⟨S128x8x2048, .f32⟩
  | 77 => ⟨S1x2048, .f32⟩
  | 78 => ⟨S2048, .f32⟩
  | 79 => ⟨S1x1x2048, .f32⟩
  | 80 => ⟨S128x8x2048, .f32⟩
  | 81 => ⟨S128x8x2048, .f32⟩
  | 82 => ⟨S128x8x2048, .f32⟩
  | 83 => ⟨S128x8x2048, .f32⟩
  | 84 => ⟨S1x2048, .f32⟩
  | 85 => ⟨S2048, .f32⟩
  | 86 => ⟨S1x1x2048, .f32⟩
  | 87 => ⟨S128x8x2048, .f32⟩
  | 88 => ⟨S128x8x2048, .f32⟩
  | 89 => ⟨S128x8x2048, .f32⟩
  | 90 => ⟨S128x8x2048, .f32⟩
  | 91 => ⟨S1x2048, .f32⟩
  | 92 => ⟨S2048, .f32⟩
  | 93 => ⟨S1x1x2048, .f32⟩
  | 94 => ⟨S128x8x2048, .f32⟩
  | 95 => ⟨S128x8x2048, .f32⟩
  | 96 => ⟨S128x8x2048, .f32⟩
  | 97 => ⟨S128x8x2048, .f32⟩
  | 98 => ⟨S1x2048, .f32⟩
  | 99 => ⟨S2048, .f32⟩
  | 100 => ⟨S1x1x2048, .f32⟩
  | 101 => ⟨S128x8x2048, .f32⟩
  | 102 => ⟨S128x8x2048, .f32⟩
  | 103 => ⟨S128x8x2048, .f32⟩
  | 104 => ⟨S128x8x2048, .f32⟩
  | 105 => ⟨S1x2048, .f32⟩
  | 106 => ⟨S2048, .f32⟩
  | 107 => ⟨S1x1x2048, .f32⟩
  | 108 => ⟨S128x8x2048, .f32⟩
  | 109 => ⟨S128x8x2048, .f32⟩
  | 110 => ⟨S128x8x2048, .f32⟩
  | 111 => ⟨S128x8x2048, .f32⟩
  | 112 => ⟨S1x2048, .f32⟩
  | 113 => ⟨S2048, .f32⟩
  | 114 => ⟨S1x1x2048, .f32⟩
  | 115 => ⟨S128x8x2048, .f32⟩
  | 116 => ⟨S128x8x2048, .f32⟩
  | 117 => ⟨S128x8x2048, .f32⟩
  | 118 => ⟨S128x8x2048, .f32⟩
  | 119 => ⟨S1x2048, .f32⟩
  | 120 => ⟨S2048, .f32⟩
  | 121 => ⟨S1x1x2048, .f32⟩
  | 122 => ⟨S128x8x2048, .f32⟩
  | 123 => ⟨S128x8x2048, .f32⟩
  | 124 => ⟨S128x8x2048, .f32⟩
  | 125 => ⟨S128x8x2048, .f32⟩
  | 126 => ⟨S1x2048, .f32⟩
  | 127 => ⟨S2048, .f32⟩
  | _ => ⟨S128x30x2048, .f32⟩

abbrev hbmTy0_1 (i : Nat) : BufTy := match i % 128 with
  | 0 => ⟨S1x1x2048, .f32⟩
  | 1 => ⟨S128x8x2048, .f32⟩
  | 2 => ⟨S128x8x2048, .f32⟩
  | 3 => ⟨S128x8x2048, .f32⟩
  | 4 => ⟨S128x8x2048, .f32⟩
  | 5 => ⟨S1x2048, .f32⟩
  | 6 => ⟨S2048, .f32⟩
  | 7 => ⟨S1x1x2048, .f32⟩
  | 8 => ⟨S128x8x2048, .f32⟩
  | 9 => ⟨S128x8x2048, .f32⟩
  | 10 => ⟨S128x8x2048, .f32⟩
  | 11 => ⟨S128x8x2048, .f32⟩
  | 12 => ⟨S1x2048, .f32⟩
  | 13 => ⟨S2048, .f32⟩
  | 14 => ⟨S1x1x2048, .f32⟩
  | 15 => ⟨S128x8x2048, .f32⟩
  | 16 => ⟨S128x8x2048, .f32⟩
  | 17 => ⟨S128x8x2048, .f32⟩
  | 18 => ⟨S128x8x2048, .f32⟩
  | 19 => ⟨S1x2048, .f32⟩
  | 20 => ⟨S2048, .f32⟩
  | 21 => ⟨S1x1x2048, .f32⟩
  | 22 => ⟨S128x8x2048, .f32⟩
  | 23 => ⟨S128x8x2048, .f32⟩
  | 24 => ⟨S128x8x2048, .f32⟩
  | 25 => ⟨S128x8x2048, .f32⟩
  | 26 => ⟨S1x2048, .f32⟩
  | 27 => ⟨S2048, .f32⟩
  | 28 => ⟨S1x1x2048, .f32⟩
  | 29 => ⟨S128x8x2048, .f32⟩
  | 30 => ⟨S128x8x2048, .f32⟩
  | 31 => ⟨S128x8x2048, .f32⟩
  | 32 => ⟨S128x8x2048, .f32⟩
  | 33 => ⟨S1x2048, .f32⟩
  | 34 => ⟨S2048, .f32⟩
  | 35 => ⟨S1x1x2048, .f32⟩
  | 36 => ⟨S128x8x2048, .f32⟩
  | 37 => ⟨S128x8x2048, .f32⟩
  | 38 => ⟨S128x8x2048, .f32⟩
  | 39 => ⟨S128x8x2048, .f32⟩
  | 40 => ⟨S1x2048, .f32⟩
  | 41 => ⟨S2048, .f32⟩
  | 42 => ⟨S1x1x2048, .f32⟩
  | 43 => ⟨S128x8x2048, .f32⟩
  | 44 => ⟨S128x8x2048, .f32⟩
  | 45 => ⟨S128x8x2048, .f32⟩
  | 46 => ⟨S128x8x2048, .f32⟩
  | 47 => ⟨S1x2048, .f32⟩
  | 48 => ⟨S2048, .f32⟩
  | 49 => ⟨S1x1x2048, .f32⟩
  | 50 => ⟨S128x8x2048, .f32⟩
  | 51 => ⟨S128x8x2048, .f32⟩
  | 52 => ⟨S128x8x2048, .f32⟩
  | 53 => ⟨S128x8x2048, .f32⟩
  | 54 => ⟨S1x2048, .f32⟩
  | 55 => ⟨S2048, .f32⟩
  | 56 => ⟨S1x1x2048, .f32⟩
  | 57 => ⟨S128x8x2048, .f32⟩
  | 58 => ⟨S128x8x2048, .f32⟩
  | 59 => ⟨S128x8x2048, .f32⟩
  | 60 => ⟨S128x8x2048, .f32⟩
  | 61 => ⟨S1x2048, .f32⟩
  | 62 => ⟨S2048, .f32⟩
  | 63 => ⟨S1x1x2048, .f32⟩
  | 64 => ⟨S128x8x2048, .f32⟩
  | 65 => ⟨S128x8x2048, .f32⟩
  | 66 => ⟨S128x8x2048, .f32⟩
  | 67 => ⟨S128x8x2048, .f32⟩
  | 68 => ⟨S1x2048, .f32⟩
  | 69 => ⟨S2048, .f32⟩
  | 70 => ⟨S1x1x2048, .f32⟩
  | 71 => ⟨S128x8x2048, .f32⟩
  | 72 => ⟨S128x8x2048, .f32⟩
  | 73 => ⟨S128x8x2048, .f32⟩
  | 74 => ⟨S128x8x2048, .f32⟩
  | 75 => ⟨S1x2048, .f32⟩
  | 76 => ⟨S2048, .f32⟩
  | 77 => ⟨S1x1x2048, .f32⟩
  | 78 => ⟨S128x8x2048, .f32⟩
  | 79 => ⟨S128x8x2048, .f32⟩
  | 80 => ⟨S128x8x2048, .f32⟩
  | 81 => ⟨S128x8x2048, .f32⟩
  | 82 => ⟨S1x2048, .f32⟩
  | 83 => ⟨S2048, .f32⟩
  | 84 => ⟨S1x1x2048, .f32⟩
  | 85 => ⟨S128x8x2048, .f32⟩
  | 86 => ⟨S128x8x2048, .f32⟩
  | 87 => ⟨S128x8x2048, .f32⟩
  | 88 => ⟨S128x8x2048, .f32⟩
  | 89 => ⟨S1x2048, .f32⟩
  | 90 => ⟨S2048, .f32⟩
  | 91 => ⟨S1x1x2048, .f32⟩
  | 92 => ⟨S128x8x2048, .f32⟩
  | 93 => ⟨S128x8x2048, .f32⟩
  | 94 => ⟨S128x8x2048, .f32⟩
  | 95 => ⟨S128x8x2048, .f32⟩
  | 96 => ⟨S1x2048, .f32⟩
  | 97 => ⟨S2048, .f32⟩
  | 98 => ⟨S1x1x2048, .f32⟩
  | 99 => ⟨S128x8x2048, .f32⟩
  | 100 => ⟨S128x8x2048, .f32⟩
  | 101 => ⟨S128x8x2048, .f32⟩
  | 102 => ⟨S1x1x2048, .f32⟩
  | 103 => ⟨S128x8x2048, .f32⟩
  | 104 => ⟨S128x8x2048, .f32⟩
  | 105 => ⟨S_, .f32⟩
  | 106 => ⟨S128x8, .f32⟩
  | 107 => ⟨S128x8x1, .f32⟩
  | 108 => ⟨S_, .f32⟩
  | 109 => ⟨S128x8x1, .f32⟩
  | 110 => ⟨S128x8x1, .f32⟩
  | 111 => ⟨S128x8x2048, .f32⟩
  | 112 => ⟨S128x8x2048, .f32⟩
  | 113 => ⟨S128x8x2048, .f32⟩
  | 114 => ⟨S_, .f32⟩
  | 115 => ⟨S128x8, .f32⟩
  | 116 => ⟨S128x8x1, .f32⟩
  | 117 => ⟨S_, .f32⟩
  | 118 => ⟨S128x8x1, .f32⟩
  | 119 => ⟨S128x8x1, .f32⟩
  | 120 => ⟨S_, .f32⟩
  | 121 => ⟨S128x8x1, .f32⟩
  | 122 => ⟨S128x8x1, .f32⟩
  | 123 => ⟨S128x8x1, .f32⟩
  | 124 => ⟨S128x8x2048, .f32⟩
  | 125 => ⟨S128x8x2048, .f32⟩
  | 126 => ⟨S1x1x2048, .f32⟩
  | 127 => ⟨S128x8x2048, .f32⟩
  | _ => ⟨S128x30x2048, .f32⟩

abbrev hbmTy0_2 (i : Nat) : BufTy := match i % 128 with
  | 0 => ⟨S128x8x2048, .f32⟩
  | 1 => ⟨S1x1x2048, .f32⟩
  | 2 => ⟨S128x8x2048, .f32⟩
  | 3 => ⟨S128x8x2048, .f32⟩
  | 4 => ⟨S128x8x2048, .f32⟩
  | 5 => ⟨S128x8x2048, .f32⟩
  | 6 => ⟨S_, .f32⟩
  | 7 => ⟨S128x8x2048, .f32⟩
  | 8 => ⟨S128x8x2048, .f32⟩
  | 9 => ⟨S_, .f32⟩
  | 10 => ⟨S128x8x2048, .f32⟩
  | 11 => ⟨S128x8x2048, .f32⟩
  | 12 => ⟨S128x8x2048, .f32⟩
  | 13 => ⟨S1024x2048, .f32⟩
  | 14 => ⟨S1024x2048, .f32⟩
  | 15 => ⟨S1024x1024, .f32⟩
  | 16 => ⟨S1024x1024, .f32⟩
  | _ => ⟨S128x30x2048, .f32⟩

abbrev hbmTy (i : Nat) : BufTy := match i / 128 with
  | 0 => hbmTy0_0 i
  | 1 => hbmTy0_1 i
  | 2 => hbmTy0_2 i
  | _ => ⟨S128x30x2048, .f32⟩

abbrev bufTy : (tb : Table) → Fin (tcTables nBuf tb) → BufTy
  | .hbm, ⟨i, _⟩ => hbmTy i
  | _, _ => ⟨S128x30x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_cst_0 : Ref sig .tc := ⟨.hbm, 233, rfl⟩
abbrev main_v223 : Ref sig .tc := ⟨.hbm, 234, rfl⟩
abbrev main_v224 : Ref sig .tc := ⟨.hbm, 235, rfl⟩
abbrev main_cst_1 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_cst_2 : Ref sig .tc := ⟨.hbm, 242, rfl⟩
abbrev main_v230 : Ref sig .tc := ⟨.hbm, 243, rfl⟩
abbrev main_v231 : Ref sig .tc := ⟨.hbm, 244, rfl⟩
abbrev main_cst_3 : Ref sig .tc := ⟨.hbm, 245, rfl⟩
abbrev main_v232 : Ref sig .tc := ⟨.hbm, 246, rfl⟩
abbrev main_v233 : Ref sig .tc := ⟨.hbm, 247, rfl⟩
abbrev main_cst_4 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩

abbrev nD : Nat := 1
abbrev τ : Topo := Topo.v7x

variable {F : FTy → Type} [FloatOps F]
-- ==== Proof.ConvAKernelIdeal.lean ====
module
public import proofs.«01_k».proof.Proof.Gen.KernelIdeal.Loops
public import Idealize.ShloMosaic.Lib.WritesUnit
public import Idealize.ShloMosaic.Lib.ValueIdxCore
public import Idealize.ShloMosaic.Lib.Pipeline.ValueKit.Tiles
@[expose] public section
noncomputable section
/-! # The inner loop of the convolution: what a trip writes -/
namespace Cert.Proof.KernelIdeal
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

/-- The loops run sixteen trips each. -/
theorem trips1 : k0_t1_loop.trips = 16 := by decide
theorem trips2 : k0_t2_loop.trips = 16 := by decide

/-- The block of one trip of the inner loop: thirty-one taps over the sixty-four rows `X`, the weights' rows `w`
and the bias `b`, as the kernel adds them. -/
def slab (X : Vec F S64x128 .f32) (w : Fin 31 → Vec F S1x128 .f32) (b : Vec F S1x128 .f32) : FVec F S32x128 .f32 :=
  k0_pay19 (k0_pay18 X (k0_pay6 X) (k0_pay7 X) (k0_pay8 X) (k0_pay9 X) (k0_pay10 X) (k0_pay11 X)
    (k0_pay16 X (k0_pay5 X) (k0_pay6 X) (k0_pay7 X) (k0_pay8 X) (k0_pay9 X) (k0_pay10 X) (k0_pay11 X)
      (k0_pay14 (k0_pay5 X) (k0_pay6 X) (k0_pay7 X) (k0_pay8 X) (k0_pay9 X) (k0_pay10 X) (k0_pay11 X) (k0_pay12 X (w 0) (w 1) (w 2) (w 3) (w 4) (w 5)) (k0_pay13 X) (w 6) (w 7) (w 8) (w 9) (w 10) (w 11) (w 12) (w 13))
      (k0_pay15 X (w 14)) (w 15) (w 16) (w 17) (w 18) (w 19) (w 20) (w 21) (w 22))
    (k0_pay17 (k0_pay5 X)) (w 23) (w 24) (w 25) (w 26) (w 27) (w 28) (w 29) (w 30) b)

/-- Row `j` of the weights, columns `128 k …`. -/
def rowW (x : Vec F S31x2048 .f32) (k : Fin 16) (j : Fin 31) : Vec F S1x128 .f32 :=
  fun y => x (ix2 (n0 := 31) (n1 := 2048) j ⟨128 * k.val + (y 1).val, by have := k.isLt; have : (y 1).val < 128 := (y 1).isLt; omega⟩)

/-- The bias row, columns `128 k …`. -/
def rowB (x : Vec F S1x2048 .f32) (k : Fin 16) : Vec F S1x128 .f32 :=
  fun y => x (ix2 (n0 := 1) (n1 := 2048) 0 ⟨128 * k.val + (y 1).val, by have := k.isLt; have : (y 1).val < 128 := (y 1).isLt; omega⟩)

/-- Sixty-four rows of the padded values from row `32 t`, columns `128 k …`. -/
def bigX (x : Vec F S544x2048 .f32) (t k : Fin 16) : Vec F S64x128 .f32 :=
  fun y => x (ix2 (n0 := 544) (n1 := 2048)
    ⟨32 * t.val + (y 0).val, by have := t.isLt; have : (y 0).val < 64 := (y 0).isLt; omega⟩
    ⟨128 * k.val + (y 1).val, by have := k.isLt; have : (y 1).val < 128 := (y 1).isLt; omega⟩)

/-- A load of one row and 128 columns of the weights reads `rowW`. -/
theorem ld_rowW (x : Vec F S31x2048 .f32) (off : Fin 2 → ℕ) (inb) (k : Fin 16) (j : Fin 31) (h : off = ![j.val, 128 * k.val]) :
    View.ld x (Rect.unit (s := S31x2048) off S1x128.size inb) = rowW x k j := by
  subst h
  funext y
  refine View.ld_unit_apply_of x _ _ _ y _ (Fin.forall_fin_two.mpr ⟨?_, rfl⟩)
  have : (y 0).val < 1 := (y 0).isLt
  show j.val = j.val + (y 0).val
  omega

/-- A load of 128 columns of the bias reads `rowB`. -/
theorem ld_rowB (x : Vec F S1x2048 .f32) (off : Fin 2 → ℕ) (inb) (k : Fin 16) (h : off = ![0, 128 * k.val]) :
    View.ld x (Rect.unit (s := S1x2048) off S1x128.size inb) = rowB x k := by
  subst h
  funext y
  refine View.ld_unit_apply_of x _ _ _ y _ (Fin.forall_fin_two.mpr ⟨?_, rfl⟩)
  have : (y 0).val < 1 := (y 0).isLt
  show 0 = 0 + (y 0).val
  omega

/-- A load of sixty-four rows and 128 columns of the padded values reads `bigX`. -/
theorem ld_bigX (x : Vec F S544x2048 .f32) (off : Fin 2 → ℕ) (inb) (t k : Fin 16) (h : off = ![32 * t.val, 128 * k.val]) :
    View.ld x (Rect.unit (s := S544x2048) off S64x128.size inb) = bigX x t k := by
  subst h
  funext y
  exact View.ld_unit_apply_of x _ _ _ y _ (Fin.forall_fin_two.mpr ⟨rfl, rfl⟩)

/-- The rows the convolution leaves for trip `t` of the outer loop, all 2048 columns. -/
def crow (x5 : Vec F S31x2048 .f32) (x6 : Vec F S1x2048 .f32) (x11 : Vec F S544x2048 .f32) (t : Fin 16) : Vec F S32x2048 .f32 :=
  fun y => slab (bigX x11 t ⟨(y 1).val / 128, by have : (y 1).val < 2048 := (y 1).isLt; omega⟩)
    (rowW x5 ⟨(y 1).val / 128, by have : (y 1).val < 2048 := (y 1).isLt; omega⟩)
    (rowB x6 ⟨(y 1).val / 128, by have : (y 1).val < 2048 := (y 1).isLt; omega⟩)
    (ix2 (n0 := 32) (n1 := 128) ⟨(y 0).val, (y 0).isLt⟩ ⟨(y 1).val % 128, Nat.mod_lt _ (by decide)⟩)

/-- What a trip of the inner loop writes. -/
theorem tripL_eq (𝒱 : Variants) (c : Dev nD) (bd : Option 𝒱.V) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole) (c0 c1 : BitVec 32) (t : Fin k0_t1_loop.trips) (v23 : BitVec 32)
    (X5 : BufTy.Contents (Elt F) arg5.view.ty) (X6 : BufTy.Contents (Elt F) arg6.view.ty) (X11 : BufTy.Contents (Elt F) arg11.view.ty)
    (k : Fin k0_t2_loop.trips) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 c0 c1 t v23 X5 X6 X11 k
      = [⟨Rect.unit (s := S512x2048) (k0_off34 t k) S32x128.size (k0_off34_inb t k),
          slab (bigX (arg11.view.read (Elt F) X11) (t.cast trips1) (k.cast trips2)) (rowW (arg5.view.read (Elt F) X5) (k.cast trips2))
            (rowB (arg6.view.read (Elt F) X6) (k.cast trips2))⟩] := by
  rw [← ld_bigX _ _ (k0_off1_inb t k) (t.cast trips1) (k.cast trips2) (k0_off1_eq t k), ← ld_rowB _ _ (k0_off33_inb k) (k.cast trips2) (k0_off33_eq k)]
  unfold slab
  rw [← ld_rowW _ _ (k0_off2_inb k) (k.cast trips2) 0 (k0_off2_eq k), ← ld_rowW _ _ (k0_off3_inb k) (k.cast trips2) 1 (k0_off3_eq k), ← ld_rowW _ _ (k0_off4_inb k) (k.cast trips2) 2 (k0_off4_eq k), ← ld_rowW _ _ (k0_off5_inb k) (k.cast trips2) 3 (k0_off5_eq k), ← ld_rowW _ _ (k0_off6_inb k) (k.cast trips2) 4 (k0_off6_eq k), ← ld_rowW _ _ (k0_off7_inb k) (k.cast trips2) 5 (k0_off7_eq k), ← ld_rowW _ _ (k0_off8_inb k) (k.cast trips2) 6 (k0_off8_eq k), ← ld_rowW _ _ (k0_off9_inb k) (k.cast trips2) 7 (k0_off9_eq k), ← ld_rowW _ _ (k0_off10_inb k) (k.cast trips2) 8 (k0_off10_eq k), ← ld_rowW _ _ (k0_off11_inb k) (k.cast trips2) 9 (k0_off11_eq k), ← ld_rowW _ _ (k0_off12_inb k) (k.cast trips2) 10 (k0_off12_eq k), ← ld_rowW _ _ (k0_off13_inb k) (k.cast trips2) 11 (k0_off13_eq k), ← ld_rowW _ _ (k0_off14_inb k) (k.cast trips2) 12 (k0_off14_eq k), ← ld_rowW _ _ (k0_off15_inb k) (k.cast trips2) 13 (k0_off15_eq k), ← ld_rowW _ _ (k0_off16_inb k) (k.cast trips2) 14 (k0_off16_eq k), ← ld_rowW _ _ (k0_off17_inb k) (k.cast trips2) 15 (k0_off17_eq k), ← ld_rowW _ _ (k0_off18_inb k) (k.cast trips2) 16 (k0_off18_eq k), ← ld_rowW _ _ (k0_off19_inb k) (k.cast trips2) 17 (k0_off19_eq k), ← ld_rowW _ _ (k0_off20_inb k) (k.cast trips2) 18 (k0_off20_eq k), ← ld_rowW _ _ (k0_off21_inb k) (k.cast trips2) 19 (k0_off21_eq k), ← ld_rowW _ _ (k0_off22_inb k) (k.cast trips2) 20 (k0_off22_eq k), ← ld_rowW _ _ (k0_off23_inb k) (k.cast trips2) 21 (k0_off23_eq k), ← ld_rowW _ _ (k0_off24_inb k) (k.cast trips2) 22 (k0_off24_eq k), ← ld_rowW _ _ (k0_off25_inb k) (k.cast trips2) 23 (k0_off25_eq k), ← ld_rowW _ _ (k0_off26_inb k) (k.cast trips2) 24 (k0_off26_eq k), ← ld_rowW _ _ (k0_off27_inb k) (k.cast trips2) 25 (k0_off27_eq k), ← ld_rowW _ _ (k0_off28_inb k) (k.cast trips2) 26 (k0_off28_eq k), ← ld_rowW _ _ (k0_off29_inb k) (k.cast trips2) 27 (k0_off29_eq k), ← ld_rowW _ _ (k0_off30_inb k) (k.cast trips2) 28 (k0_off30_eq k), ← ld_rowW _ _ (k0_off31_inb k) (k.cast trips2) 29 (k0_off31_eq k), ← ld_rowW _ _ (k0_off32_inb k) (k.cast trips2) 30 (k0_off32_eq k)]
  unfold tripL_k0_t2 trip_k0_t2
  rfl

end Cert.Proof.KernelIdeal
-- ==== Proof.ConvBKernelIdeal.lean ====
module
public import proofs.«01_k».proof.Proof.ConvAKernelIdeal
public import proofs.«01_k».proof.Proof.Gen.KernelIdeal.Frame
@[expose] public section
noncomputable section
/-! # The outer loop of the convolution: what its trips leave -/
namespace Cert.Proof.KernelIdeal
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

/-- After `k` trips of the inner loop the first `128 k` columns of the trip's rows hold the convolution. -/
theorem read_pb (𝒱 : Variants) (c : Dev nD) (bd : Option 𝒱.V) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole) (c0 c1 : BitVec 32) (t : Fin k0_t1_loop.trips) (v23 : BitVec 32)
    (X5 : BufTy.Contents (Elt F) arg5.view.ty) (X6 : BufTy.Contents (Elt F) arg6.view.ty) (X11 : BufTy.Contents (Elt F) arg11.view.ty)
    (f : BufTy.Contents (Elt F) arg12.view.ty) (k : ℕ) (hk : k ≤ 16) (y : S512x2048.Idx) (z : S32x2048.Idx)
    (h0 : (y 0).val = 32 * t.val + (z 0).val) (h1 : (y 1).val = (z 1).val) (hlt : (z 1).val < 128 * k) :
    arg12.view.read (Elt F) (arg12.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 c0 c1 t v23 X5 X6 X11 k)) y
      = crow (arg5.view.read (Elt F) X5) (arg6.view.read (Elt F) X6) (arg11.view.read (Elt F) X11) (t.cast trips1) z := by
  induction k with
  | zero => omega
  | succ k ih =>
    have hk' : k < k0_t2_loop.trips := by rw [trips2]; omega
    rw [show k + 1 = (⟨k, hk'⟩ : Fin k0_t2_loop.trips).val + 1 from rfl, pb_k0_t2_succ, tripL_eq]
    rw [List.singleton_append]
    have hz0 : (z 0).val < 32 := (z 0).isLt
    by_cases hc : (z 1).val < 128 * k
    · rw [View.read_writes_cons_unit_of_not_mem _ _ _ _ _ y (k0_off34_eq t ⟨k, hk'⟩) 1 (Or.inl (by
        show (y 1).val < 128 * k
        omega))]
      exact ih (by omega) hc
    · refine (View.read_writes_cons_unit_of_mem arg12.view f (k0_off34_inb t ⟨k, hk'⟩) _ _ y
        (ix2 (n0 := 32) (n1 := 128) ⟨(z 0).val, hz0⟩ ⟨(z 1).val % 128, Nat.mod_lt _ (by decide)⟩)
        (k0_off34_eq t ⟨k, hk'⟩) (Fin.forall_fin_two.mpr ⟨h0, by
          show (y 1).val = 128 * k + (z 1).val % 128
          omega⟩)).trans ?_
      have hq : (⟨(z 1).val / 128, by have : (z 1).val < 2048 := (z 1).isLt; omega⟩ : Fin 16) = (⟨k, hk'⟩ : Fin k0_t2_loop.trips).cast trips2 :=
        Fin.ext (by show (z 1).val / 128 = k; omega)
      unfold crow
      rw [hq]

/-- The rows loaded after the inner loop. -/
theorem load_pb (𝒱 : Variants) (c : Dev nD) (bd : Option 𝒱.V) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole) (c0 c1 : BitVec 32) (t : Fin k0_t1_loop.trips) (v23 : BitVec 32)
    (X5 : BufTy.Contents (Elt F) arg5.view.ty) (X6 : BufTy.Contents (Elt F) arg6.view.ty) (X11 : BufTy.Contents (Elt F) arg11.view.ty)
    (f : BufTy.Contents (Elt F) arg12.view.ty) :
    View.readAt (Elt F) arg12.view (Rect.unit (s := S512x2048) (k0_off35 t) S32x2048.size (k0_off35_inb t)).toLoadRect
        (arg12.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 c0 c1 t v23 X5 X6 X11 k0_t2_loop.trips))
      = crow (arg5.view.read (Elt F) X5) (arg6.view.read (Elt F) X6) (arg11.view.read (Elt F) X11) (t.cast trips1) := by
  funext z
  rw [View.readAt_apply]
  have e0 : k0_off35 t 0 = 32 * t.val := congrFun (k0_off35_eq t) 0
  have e1 : k0_off35 t 1 = 0 := congrFun (k0_off35_eq t) 1
  refine read_pb 𝒱 c bd i arg2 harg2 arg3 harg3 arg4 harg4 arg5 harg5 arg6 harg6 arg7 harg7 arg8 harg8 arg9 harg9 arg10 harg10 arg11 harg11 arg12 harg12 arg13 harg13 c0 c1 t v23 X5 X6 X11 f _ (by rw [trips2]) _ z ?_ ?_ ?_
  · show k0_off35 t 0 + 1 * (z 0).val = _
    rw [e0, Nat.one_mul]
  · show k0_off35 t 1 + 1 * (z 1).val = _
    rw [e1, Nat.one_mul, Nat.zero_add]
  · have : (z 1).val < 2048 := (z 1).isLt
    rw [trips2]; omega

/-- Thirty-two rows of the gate's block from row `32 t`. -/
def rowsG (x : Vec F S1x512x2048 .f32) (t : Fin 16) : Vec F S1x32x2048 .f32 :=
  fun y => x (ix3 (n0 := 1) (n1 := 512) (n2 := 2048) 0 ⟨32 * t.val + (y 1).val, by have := t.isLt; have : (y 1).val < 32 := (y 1).isLt; omega⟩ ⟨(y 2).val, (y 2).isLt⟩)

/-- A load of thirty-two rows of the gate's block reads `rowsG`. -/
theorem ld_rowsG (x : Vec F S1x512x2048 .f32) (off : Fin 3 → ℕ) (inb) (t : Fin 16) (h : off = ![0, 32 * t.val, 0]) :
    View.ld x (Rect.unit (s := S1x512x2048) off S1x32x2048.size inb) = rowsG x t := by
  subst h
  funext y
  refine View.ld_unit_apply_of x _ _ _ y _ (fun a => ?_)
  have : (y 0).val < 1 := (y 0).isLt
  match a with
  | ⟨0, _⟩ => show 0 = 0 + (y 0).val; omega
  | ⟨1, _⟩ => rfl
  | ⟨2, _⟩ => show (y 2).val = 0 + (y 2).val; omega

/-- The rows an outer trip stores: layer norm, silu and gate of the convolution's rows. -/
def ypay (x3 : Vec F S1x512x2048 .f32) (x5 : Vec F S31x2048 .f32) (x6 x7 x8 : Vec F S1x2048 .f32) (x11 : Vec F S544x2048 .f32)
    (t : Fin 16) : FVec F S32x2048 .bf16 :=
  k0_pay20 (crow x5 x6 x11 t) x7 x8 (rowsG x3 t)

/-- The pieces the outer trips before `k` store. -/
def pieces (x3 : Vec F S1x512x2048 .f32) (x5 : Vec F S31x2048 .f32) (x6 x7 x8 : Vec F S1x2048 .f32) (x11 : Vec F S544x2048 .f32) :
    ℕ → List (View.Piece (Elt F) S512x2048 .bf16)
  | 0 => []
  | k + 1 => if h : k < k0_t1_loop.trips then
      ⟨Rect.unit (s := S512x2048) (k0_off35 ⟨k, h⟩) S32x2048.size (k0_off35_inb ⟨k, h⟩), ypay x3 x5 x6 x7 x8 x11 ((⟨k, h⟩ : Fin _).cast trips1)⟩
        :: pieces x3 x5 x6 x7 x8 x11 k
    else pieces x3 x5 x6 x7 x8 x11 k

/-- One more trip stores one more piece. -/
theorem pieces_succ (x3 : Vec F S1x512x2048 .f32) (x5 : Vec F S31x2048 .f32) (x6 x7 x8 : Vec F S1x2048 .f32) (x11 : Vec F S544x2048 .f32)
    (k : Fin k0_t1_loop.trips) :
    pieces x3 x5 x6 x7 x8 x11 (k.val + 1)
      = ⟨Rect.unit (s := S512x2048) (k0_off35 k) S32x2048.size (k0_off35_inb k), ypay x3 x5 x6 x7 x8 x11 (k.cast trips1)⟩
        :: pieces x3 x5 x6 x7 x8 x11 k.val := by
  rw [pieces]; exact dif_pos k.isLt

/-- The whole of what the outer loop stores. -/
def yval (x3 : Vec F S1x512x2048 .f32) (x5 : Vec F S31x2048 .f32) (x6 x7 x8 : Vec F S1x2048 .f32) (x11 : Vec F S544x2048 .f32) :
    Vec F S512x2048 .bf16 :=
  fun y => ypay x3 x5 x6 x7 x8 x11 ⟨(y 0).val / 32, by have : (y 0).val < 512 := (y 0).isLt; omega⟩
    (ix2 (n0 := 32) (n1 := 2048) ⟨(y 0).val % 32, Nat.mod_lt _ (by decide)⟩ ⟨(y 1).val, (y 1).isLt⟩)

/-- After `k` outer trips the first `32 k` rows of the buffer hold `yval`. -/
theorem read_pieces (arg13 : Memref sig .tc .vmem S512x2048 .bf16) (f : BufTy.Contents (Elt F) arg13.view.ty)
    (x3 : Vec F S1x512x2048 .f32) (x5 : Vec F S31x2048 .f32) (x6 x7 x8 : Vec F S1x2048 .f32) (x11 : Vec F S544x2048 .f32)
    (k : ℕ) (hk : k ≤ 16) (y : S512x2048.Idx) (hlt : (y 0).val < 32 * k) :
    arg13.view.read (Elt F) (arg13.view.writes (Elt F) f (pieces x3 x5 x6 x7 x8 x11 k)) y = yval x3 x5 x6 x7 x8 x11 y := by
  induction k with
  | zero => omega
  | succ k ih =>
    have hk' : k < k0_t1_loop.trips := by rw [trips1]; omega
    rw [show k + 1 = (⟨k, hk'⟩ : Fin k0_t1_loop.trips).val + 1 from rfl, pieces_succ]
    by_cases hc : (y 0).val < 32 * k
    · rw [View.read_writes_cons_unit_of_not_mem _ _ _ _ _ y (k0_off35_eq ⟨k, hk'⟩) 0 (Or.inl hc)]
      exact ih (by omega) hc
    · refine (View.read_writes_cons_unit_of_mem arg13.view f (k0_off35_inb ⟨k, hk'⟩) _ _ y
        (ix2 (n0 := 32) (n1 := 2048) ⟨(y 0).val % 32, Nat.mod_lt _ (by decide)⟩ ⟨(y 1).val, (y 1).isLt⟩)
        (k0_off35_eq ⟨k, hk'⟩) (Fin.forall_fin_two.mpr ⟨by
          show (y 0).val = 32 * k + (y 0).val % 32
          omega, by show (y 1).val = 0 + (y 1).val; omega⟩)).trans ?_
      have hq : (⟨(y 0).val / 32, by have : (y 0).val < 512 := (y 0).isLt; omega⟩ : Fin 16) = (⟨k, hk'⟩ : Fin k0_t1_loop.trips).cast trips1 :=
        Fin.ext (by show (y 0).val / 32 = k; omega)
      unfold yval
      rw [hq]

/-- After all outer trips the whole buffer holds `yval`. -/
theorem read_pieces_all (arg13 : Memref sig .tc .vmem S512x2048 .bf16) (f : BufTy.Contents (Elt F) arg13.view.ty)
    (x3 : Vec F S1x512x2048 .f32) (x5 : Vec F S31x2048 .f32) (x6 x7 x8 : Vec F S1x2048 .f32) (x11 : Vec F S544x2048 .f32) :
    arg13.view.read (Elt F) (arg13.view.writes (Elt F) f (pieces x3 x5 x6 x7 x8 x11 k0_t1_loop.trips)) = yval x3 x5 x6 x7 x8 x11 :=
  funext fun y => read_pieces arg13 f x3 x5 x6 x7 x8 x11 _ (by rw [trips1]) y (by
    have : (y 0).val < 512 := (y 0).isLt
    rw [trips1]; omega)

abbrev 𝒱₀ : Variants := Variants.none

/-- The outer loop's invariant: the operands at their contents, the convolution's buffer at anything, and the rows
stored so far. -/
abbrev inv1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole)
    (X3 : BufTy.Contents (Elt F) arg3.view.ty) (X5 : BufTy.Contents (Elt F) arg5.view.ty) (X6 : BufTy.Contents (Elt F) arg6.view.ty)
    (X7 : BufTy.Contents (Elt F) arg7.view.ty) (X8 : BufTy.Contents (Elt F) arg8.view.ty) (X11 : BufTy.Contents (Elt F) arg11.view.ty)
    (G13 : BufTy.Contents (Elt F) arg13.view.ty) (k : ℕ) (_u : PUnit) : sProp 𝕄 :=
  iprop((arg3.view.loc (c : Thread nD τ) ↦[arg3.view.set]{fullShare} X3) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} X8) ∗ (arg11.view.loc (c : Thread nD τ) ↦[arg11.view.set]{fullShare} X11)
    ∗ (∃ f, arg12.view.loc (c : Thread nD τ) ↦[arg12.view.set]{fullShare} f)
    ∗ (∃ f, (arg13.view.loc (c : Thread nD τ) ↦[arg13.view.set]{fullShare} f)
        ∗ ⌜f = arg13.view.writes (Elt F) G13 (pieces (arg3.view.read (Elt F) X3) (arg5.view.read (Elt F) X5) (arg6.view.read (Elt F) X6)
            (arg7.view.read (Elt F) X7) (arg8.view.read (Elt F) X8) (arg11.view.read (Elt F) X11) k)⌝))

set_option maxHeartbeats 4000000 in
set_option warn.classDefReducibility false in
@[sl_loop] def loopInv_k0_t1 (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole)
    (X3 : BufTy.Contents (Elt F) arg3.view.ty) (X5 : BufTy.Contents (Elt F) arg5.view.ty) (X6 : BufTy.Contents (Elt F) arg6.view.ty)
    (X7 : BufTy.Contents (Elt F) arg7.view.ty) (X8 : BufTy.Contents (Elt F) arg8.view.ty) (X11 : BufTy.Contents (Elt F) arg11.view.ty)
    (G13 : BufTy.Contents (Elt F) arg13.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 where
  inv := inv1 c i arg2 harg2 arg3 harg3 arg4 harg4 arg5 harg5 arg6 harg6 arg7 harg7 arg8 harg8 arg9 harg9 arg10 harg10 arg11 harg11 arg12 harg12 arg13 harg13 X3 X5 X6 X7 X8 X11 G13
  step k acc := by
    unfold k0_t1_body
    iintro ⟨H3, H5, H6, H7, H8, H11, ⟨%f12, H12⟩, ⟨%f13, H13, %h13⟩⟩
    sl_exec
    sl_step
    isplitl [H3]; · iexact H3
    isplitl [H5]; · iexact H5
    isplitl [H6]; · iexact H6
    isplitl [H7]; · iexact H7
    isplitl [H8]; · iexact H8
    isplitl [H11]; · iexact H11
    isplitl [H12]; · iexists _; iexact H12
    iexists _; isplitl [H13]; · iexact H13
    ipureintro
    rw [pieces_succ, h13, ← View.writes_append, List.singleton_append]
    refine congrArg (fun w => arg13.view.writes (Elt F) G13 (⟨Rect.unit (s := S512x2048) (k0_off35 k) S32x2048.size (k0_off35_inb k), w⟩ :: _)) ?_
    unfold loopInv_k0_t1.sl.r loopInv_k0_t1.sl.v26 ypay
    refine congr (congr (congr (congrArg k0_pay20 ?_) ?_) ?_) ?_
    · exact load_pb 𝒱₀ c none i arg2 harg2 arg3 harg3 arg4 harg4 arg5 harg5 arg6 harg6 arg7 harg7 arg8 harg8 arg9 harg9 arg10 harg10 arg11 harg11 arg12 harg12 arg13 harg13 _ _ k _ X5 X6 X11 f12
    · exact View.ld_unit_zero (by decide) _ _
    · exact View.ld_unit_zero (by decide) _ _
    · exact ld_rowsG _ _ _ _ (k0_off36_eq k)

end Cert.Proof.KernelIdeal
-- ==== Proof.ConvCKernelIdeal.lean ====
module
public import proofs.«01_k».proof.Proof.ConvBKernelIdeal
public import Idealize.ShloMosaic.Lib.VecWindow
@[expose] public section
noncomputable section
/-! # A run of the convolution's body -/
namespace Cert.Proof.KernelIdeal
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

/-- The padded values: thirty-two carried rows `p`, then the block's 512 rows. -/
def x11A (p : Vec F S32x2048 .f32) (x2 : Vec F S1x512x2048 .f32) : Vec F S544x2048 .f32 :=
  fun y => if h : (y 0).val < 32 then p (ix2 (n0 := 32) (n1 := 2048) ⟨(y 0).val, h⟩ ⟨(y 1).val, (y 1).isLt⟩)
    else x2 (ix3 (n0 := 1) (n1 := 512) (n2 := 2048) 0 ⟨(y 0).val - 32, by have : (y 0).val < 544 := (y 0).isLt; omega⟩ ⟨(y 1).val, (y 1).isLt⟩)

/-- The last thirty-two rows of the padded values. -/
def tailOf (x : Vec F S544x2048 .f32) : Vec F S32x2048 .f32 :=
  fun y => x (ix2 (n0 := 544) (n1 := 2048) ⟨512 + (y 0).val, by have : (y 0).val < 32 := (y 0).isLt; omega⟩ ⟨(y 1).val, (y 1).isLt⟩)

/-- The block the body stores, from the operands' blocks and the carried rows `p`. -/
def outv (x2 x3 : Vec F S1x512x2048 .f32) (x4 : Vec F S1x512x1024 .f32) (x5 : Vec F S31x2048 .f32) (x6 x7 x8 : Vec F S1x2048 .f32)
    (x9 : Vec F S2048x1024 .bf16) (p : Vec F S32x2048 .f32) : Vec F S1x512x1024 .f32 :=
  k0_pay4 x4 (yval x3 x5 x6 x7 x8 (x11A p x2)) x9

/-- The block of values as it is stored, at an element. -/
theorem pay3_apply (x2 : Vec F S1x512x2048 .f32) (y : S512x2048.Idx) :
    k0_pay3 x2 y = x2 (ix3 (n0 := 1) (n1 := 512) (n2 := 2048) 0 ⟨(y 0).val, (y 0).isLt⟩ ⟨(y 1).val, (y 1).isLt⟩) := by
  unfold k0_pay3
  rw [shapeCast_self]
  exact (shapeCast_dropUnit_apply _ x2 _ y).trans (congrArg x2 (funext fun a => by
    match a with
    | ⟨0, _⟩ => rfl
    | ⟨1, _⟩ => rfl
    | ⟨2, _⟩ => rfl))

/-- What the carried rows and the block leave in the padded buffer. -/
theorem read_x11A (arg11 : Memref sig .tc .vmem S544x2048 .f32) (f : BufTy.Contents (Elt F) arg11.view.ty)
    (arg2 : Memref sig .tc .vmem S1x512x2048 .f32) (harg2 : arg2.IsWhole)
    (i2 i3 i4) (x2 : Vec F S1x512x2048 .f32) (p : Vec F S32x2048 .f32) :
    arg11.view.read (Elt F) (arg11.view.writes (Elt F) f
      [⟨Rect.unit (s := S544x2048) ![32, 0] S512x2048.size i2, k0_pay3 (View.readAt (Elt F) arg2.view
          (Rect.unit (s := S1x512x2048) ![0, 0, 0] S1x512x2048.size i3).toLoadRect (harg2.unread x2))⟩,
        ⟨Rect.unit (s := S544x2048) ![0, 0] S32x2048.size i4, p⟩]) = x11A p x2 := by
  rw [show View.readAt (Elt F) arg2.view (Rect.unit (s := S1x512x2048) ![0, 0, 0] S1x512x2048.size i3).toLoadRect (harg2.unread x2) = x2 from
    (View.ld_unit_zero (by decide) _ _).trans (harg2.read_unread x2)]
  funext y
  have h544 : (y 0).val < 544 := (y 0).isLt
  unfold x11A
  by_cases h : (y 0).val < 32
  · rw [dif_pos h]
    refine (View.read_writes_cons_unit_of_not_mem arg11.view f i2 _ _ y rfl 0 (Or.inl h)).trans ?_
    exact View.read_writes_cons_unit_of_mem arg11.view f i4 p [] y _ rfl (Fin.forall_fin_two.mpr ⟨by
      show (y 0).val = 0 + (y 0).val; omega, by show (y 1).val = 0 + (y 1).val; omega⟩)
  · rw [dif_neg h]
    refine (View.read_writes_cons_unit_of_mem arg11.view f i2 _ _ y
      (ix2 (n0 := 512) (n1 := 2048) ⟨(y 0).val - 32, by omega⟩ ⟨(y 1).val, (y 1).isLt⟩) rfl (Fin.forall_fin_two.mpr ⟨by
        show (y 0).val = 32 + ((y 0).val - 32); omega, by show (y 1).val = 0 + (y 1).val; omega⟩)).trans ?_
    exact pay3_apply x2 _

/-- The rows carried over are the last thirty-two of the padded values. -/
theorem carry (arg11 : Memref sig .tc .vmem S544x2048 .f32) (harg11 : arg11.IsWhole) (i5) (x11 : Vec F S544x2048 .f32) :
    k0_pay2 (View.readAt (Elt F) arg11.view (Rect.unit (s := S544x2048) ![512, 0] S32x2048.size i5).toLoadRect (harg11.unread x11))
      = tailOf x11 := by
  unfold k0_pay2
  rw [shapeCast_self]
  refine (congrArg (fun u => View.ld u (Rect.unit (s := S544x2048) ![512, 0] S32x2048.size i5)) (harg11.read_unread x11)).trans ?_
  funext y
  refine View.ld_unit_apply_of x11 _ _ _ y _ (Fin.forall_fin_two.mpr ⟨rfl, by show (y 1).val = 0 + (y 1).val; omega⟩)

/-- A whole buffer that holds the contents `x` spells is owned at `x`. -/
theorem owns_unread (c : Dev nD) {sh : Shape} {e : EltTy} (arg : Memref sig .tc .vmem sh e) (harg : arg.IsWhole) (x : Vec F sh e) :
    (iprop(arg.view.loc (c : Thread nD τ) ↦[arg.view.set]{fullShare} harg.unread x) : sProp 𝕄)
      ⊢ iprop(∃ f, ⌜arg.view.read (Elt F) f = x⌝ ∗ (arg.view.loc (c : Thread nD τ) ↦[arg.view.set]{fullShare} f)) := by
  iintro H
  iexists _; isplitr
  · ipureintro; exact harg.read_unread x
  iexact H

/-- A point is its sequence's first block, or it is not: what the body's two conditions are, and the rows carried in. -/
theorem first_or_next (i : grid0.Coords) (x11 : Vec F S544x2048 .f32) :
    (Scalar.cmpi .ne (Scalar.extui (Scalar.cmpi .eq (BitVec.ofNat 32 (i 1).val) 0#32)) 0#32 = 1#1
      ∧ ¬ Scalar.cmpi .ne (Scalar.extui (Scalar.cmpi .sgt (BitVec.ofNat 32 (i 1).val) 0#32)) 0#32 = 1#1
      ∧ (if (i 1).val = 0 then k0_pay1 else tailOf x11) = k0_pay1 (F := F))
    ∨ (¬ Scalar.cmpi .ne (Scalar.extui (Scalar.cmpi .eq (BitVec.ofNat 32 (i 1).val) 0#32)) 0#32 = 1#1
      ∧ Scalar.cmpi .ne (Scalar.extui (Scalar.cmpi .sgt (BitVec.ofNat 32 (i 1).val) 0#32)) 0#32 = 1#1
      ∧ (if (i 1).val = 0 then k0_pay1 else tailOf x11) = tailOf x11) := by
  have hlt : (i 1).val < 8 := (i 1).isLt
  by_cases hi : (i 1).val = 0
  · exact Or.inl ⟨by rw [hi]; decide, by rw [hi]; decide, if_pos hi⟩
  · refine Or.inr ⟨?_, ?_, if_neg hi⟩
    all_goals
      generalize (i 1).val = n at hi hlt
      interval_cases n <;> first | exact absurd rfl hi | decide

set_option maxHeartbeats 16000000 in
/-- What the body does at a point: it carries in zeros at a sequence's first block and the last rows of the padded values
    at the others, and leaves the result block and the padded values. -/
theorem body (c : Dev nD) (i : grid0.Coords) (arg2 : Memref sig .tc .vmem S1x512x2048 .f32) (harg2 : arg2.IsWhole) (arg3 : Memref sig .tc .vmem S1x512x2048 .f32) (harg3 : arg3.IsWhole) (arg4 : Memref sig .tc .vmem S1x512x1024 .f32) (harg4 : arg4.IsWhole) (arg5 : Memref sig .tc .vmem S31x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S1x512x1024 .f32) (harg10 : arg10.IsWhole) (arg11 : Memref sig .tc .vmem S544x2048 .f32) (harg11 : arg11.IsWhole) (arg12 : Memref sig .tc .vmem S512x2048 .f32) (harg12 : arg12.IsWhole) (arg13 : Memref sig .tc .vmem S512x2048 .bf16) (harg13 : arg13.IsWhole) (x2 : Vec F S1x512x2048 .f32) (x3 : Vec F S1x512x2048 .f32) (x4 : Vec F S1x512x1024 .f32) (x5 : Vec F S31x2048 .f32) (x6 : Vec F S1x2048 .f32) (x7 : Vec F S1x2048 .f32) (x8 : Vec F S1x2048 .f32) (x9 : Vec F S2048x1024 .bf16) (x11 : Vec F S544x2048 .f32) (p : Vec F S32x2048 .f32) (hp : p = if (i 1).val = 0 then k0_pay1 else tailOf x11) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ (∃ d, owns (c : Thread nD τ) arg12 fullShare d) ∗ (∃ d, owns (c : Thread nD τ) arg13 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outv x2 x3 x4 x5 x6 x7 x8 x9 p) ∗ owns (c : Thread nD τ) arg11 fullShare (x11A p x2) ∗ (∃ d, owns (c : Thread nD τ) arg12 fullShare d) ∗ (∃ d, owns (c : Thread nD τ) arg13 fullShare d)) -∗ K ⟨⟩))
      ⊢ wp frame (wpE (defs₀ (F := F)) 𝒱₀ c none) Set.univ (cc0_conv_prompt i arg2 harg2 arg3 harg3 arg4 harg4 arg5 harg5 arg6 harg6 arg7 harg7 arg8 harg8 arg9 harg9 arg10 harg10 arg11 harg11 arg12 harg12 arg13 harg13) K := by
  subst hp
  rcases first_or_next i x11 with ⟨hc1, hc2, h⟩ | ⟨hc1, hc2, h⟩
  all_goals
    rw [h]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11
    sl_unfold [cc0_conv_prompt]
    sl_exec!
    sl_step
    iapply Hk
    isplitl [H2]; · iapply (owns_unread c arg2 harg2 x2); iexact H2
    isplitl [H3]; · iapply (owns_unread c arg3 harg3 x3); iexact H3
    isplitl [H4]; · iapply (owns_unread c arg4 harg4 x4); iexact H4
    isplitl [H5]; · iapply (owns_unread c arg5 harg5 x5); iexact H5
    isplitl [H6]; · iapply (owns_unread c arg6 harg6 x6); iexact H6
    isplitl [H7]; · iapply (owns_unread c arg7 harg7 x7); iexact H7
    isplitl [H8]; · iapply (owns_unread c arg8 harg8 x8); iexact H8
    isplitl [H9]; · iapply (owns_unread c arg9 harg9 x9); iexact H9
    isplitl [H10]
    · iexists _; isplitr; swap; · iexact H10
      ipureintro
      first | unfold body.sl.H10_1 | unfold body.sl.H10_1_1
      unfold outv
      refine (View.read_writes_full arg10.view _ _ _ _).trans ?_
      refine congr (congr (congrArg k0_pay4 ?_) ?_) ?_
      · exact (View.ld_unit_zero (by decide) _ _).trans (harg4.read_unread x4)
      · first | unfold body.sl.v14 | unfold body.sl.v14_1
        rw [harg3.read_unread, harg5.read_unread, harg6.read_unread, harg7.read_unread, harg8.read_unread]
        refine (View.ld_unit_zero (by decide) _ _).trans ((read_pieces_all arg13 _ _ _ _ _ _ _).trans (congrArg (yval x3 x5 x6 x7 x8) ?_))
        first | unfold body.sl.H11_2 | unfold body.sl.H11_2_1
        exact (read_x11A arg11 _ arg2 harg2 _ _ _ x2 _).trans (by first | rfl | rw [carry])
      · exact (View.ld_unit_zero (by decide) _ _).trans (harg9.read_unread x9)
    isplitl [H11]
    · iexists _; isplitr; swap; · iexact H11
      ipureintro
      first | unfold body.sl.H11_2 | unfold body.sl.H11_2_1
      exact (read_x11A arg11 _ arg2 harg2 _ _ _ x2 _).trans (by first | rfl | rw [carry])
    isplitl [H12]
    · iexists _; iexists _; isplitr; swap; · iexact H12
      ipureintro; rfl
    iexists _; iexists _; isplitr; swap; · iexact H13
    ipureintro; rfl

end Cert.Proof.KernelIdeal
-- ==== Proof.ConvDKernelIdeal.lean ====
module
public import proofs.«01_k».proof.Proof.ConvCKernelIdeal
@[expose] public section
noncomputable section
/-! # The data the pipeline tracks for the convolution's call -/
namespace Cert.Proof.KernelIdeal
open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The rows carried into point `t`: zeros at a sequence's first block, else the last rows of the block before. -/
def tailAt (c : Dev nD) (t : Fin cfg0.N) : Vec F S32x2048 .f32 :=
  if t.val % 8 = 0 then k0_pay1 else
    fun y => (iblk m c 0 ⟨t.val - 1, Nat.lt_of_le_of_lt (Nat.sub_le _ _) t.isLt⟩ : Vec F S1x512x2048 .f32)
      (ix3 (n0 := 1) (n1 := 512) (n2 := 2048) 0 ⟨480 + (y 0).val, by have : (y 0).val < 32 := (y 0).isLt; omega⟩ ⟨(y 1).val, (y 1).isLt⟩)

/-- The block the body leaves at point `t`. -/
def outAt (c : Dev nD) (t : Fin cfg0.N) : Vec F S1x512x1024 .f32 :=
  outv (iblk m c 0 t) (iblk m c 1 t) (iblk m c 2 t) (iblk m c 3 t) (iblk m c 4 t) (iblk m c 5 t) (iblk m c 6 t) (iblk m c 7 t) (tailAt m c t)

/-- The scratch buffers before point `t`: the padded values end in the rows carried into `t`. -/
def Φs (c : Dev nD) (t : ℕ) : sProp 𝕄 :=
  iprop((∃ x11, owns (c : Thread nD τ) (Memref.whole cc0_scratch0) fullShare x11
      ∗ ⌜∀ s : Fin cfg0.N, s.val = t → s.val % 8 ≠ 0 → tailOf x11 = tailAt m c s⌝)
    ∗ (∃ d, owns (c : Thread nD τ) (Memref.whole cc0_scratch1) fullShare d)
    ∗ (∃ d, owns (c : Thread nD τ) (Memref.whole cc0_scratch2) fullShare d) ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Φs m c t.val
  q _ := fullShare
  owed _ := 0

/-- The data start from the arrays the host program hands to the call. -/
theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The second coordinate of point `t` is its place in the sequence of eight blocks. -/
theorem coords_1 : ∀ t : Fin grid0.N, ((grid0.coords t) 1).val = t.val % 8 := by decide
theorem coords_0 : ∀ t : Fin grid0.N, ((grid0.coords t) 0).val = t.val / 8 := by decide

/-- After point `t` the padded values end in the rows the next point of the sequence starts from. -/
theorem tail_next (c : Dev nD) (t : Fin cfg0.N) (p : Vec F S32x2048 .f32) (s : Fin cfg0.N) (hs : s.val = t.val + 1) (h : s.val % 8 ≠ 0) :
    tailOf (x11A p (iblk m c 0 t)) = tailAt m c s := by
  funext y
  have h32 : (y 0).val < 32 := (y 0).isLt
  obtain rfl : t = ⟨s.val - 1, Nat.lt_of_le_of_lt (Nat.sub_le _ _) s.isLt⟩ := Fin.ext (by show t.val = s.val - 1; omega)
  unfold tailOf x11A tailAt
  rw [if_neg h, dif_neg (by show ¬ 512 + (y 0).val < 32; omega)]
  refine congrArg (iblk m c 0 _ : Vec F S1x512x2048 .f32) (funext fun a => ?_)
  match a with
  | ⟨0, _⟩ => rfl
  | ⟨1, _⟩ => exact Fin.ext (by show 512 + (y 0).val - 32 = 480 + (y 0).val; omega)
  | ⟨2, _⟩ => rfl

set_option maxHeartbeats 4000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rewrite [show (dats m 0 c).Φ t.succ = Φs m c (t.val + 1) from rfl, show (dats m 0 c).Φ t.castSucc = Φs m c t.val from rfl,
    show (dats m 0 c).owesAt () t.succ = (dats m 0 c).owesAt () t.castSucc from rfl, after0_0, after0_1, after0_2, after0_3, after0_4, after0_5, after0_6, after0_7, after0_8]
  unfold Φs
  iintro ⟨⟨⟨%x11, H11, %hx⟩, H12, H13, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hp : tailAt m c t = if ((grid0.coords t) 1).val = 0 then k0_pay1 else tailOf x11 := by
    rw [coords_1 t]
    by_cases hi : t.val % 8 = 0
    · unfold tailAt; rw [if_pos hi, if_pos hi]
    · rw [if_neg hi, hx t rfl hi]
  unfold outAt
  iapply (body (F := F) c _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) x11 (tailAt m c t) hp _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H11]; · iexact H11
  isplitl [H12]; · iexact H12
  isplitl [H13]; · iexact H13
  iintro ⟨H0, H1, H2, H3, H4, H5, H6, H7, H8, H11, H12, H13⟩
  isplitl [H11 H12 H13 Hr]
  · isplitl [H11]
    · iexists _
      isplitl [H11]
      · iexact H11
      ipureintro
      exact fun s hs h => tail_next m c t _ s hs h
    isplitl [H12]; · iexact H12
    isplitl [H13]; · iexact H13
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The scratch the call owns at its start is what the data ask for at the first point. -/
theorem hin (c : Dev nD) : Pipeline.ΦA spec0 c ⊢ (dats (F := F) m 0 c).Φ 0 := by
  show Pipeline.ΦA spec0 c ⊢ Φs m c 0
  unfold Pipeline.ΦA Φs
  rw [scopedRest0_eq]
  simp only [owns_whole]
  iintro ⟨⟨⟨%f, H11⟩, H12, H13⟩, Hr⟩
  isplitl [H11]
  · iexists f
    isplitl [H11]
    · iexact H11
    ipureintro
    intro s hs h
    omega
  isplitl [H12]; · iexact H12
  isplitl [H13]; · iexact H13
  iexact Hr

/-- What the data leave after the last point is the scratch the call gives back. -/
theorem hout (c : Dev nD) : (dats (F := F) m 0 c).Φ (Fin.last cfg0.N) ⊢ Pipeline.ΦA spec0 c := by
  show Φs m c (Fin.last cfg0.N).val ⊢ Pipeline.ΦA spec0 c
  unfold Pipeline.ΦA Φs
  rw [scopedRest0_eq]
  simp only [owns_whole]
  iintro ⟨⟨%x11, H11, -⟩, H12, H13, Hr⟩
  isplitl [H11 H12 H13]
  · isplitl [H11]; · iexists x11; iexact H11
    isplitl [H12]; · iexact H12
    iexact H13
  iexact Hr

set_option backward.isDefEq.respectTransparency.types false in
/-- Every run of the program ends with the pipeline's arrays at what the proof data says. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hin := hin m) (hout := hout m)

/-- The frame claim, at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) fun _ _ => rfl) (run_main m ρ)

end Cert.Proof.KernelIdeal
-- ==== Proof.ConvFrame.lean ====
module
public import proofs.«01_k».proof.Defs
public import proofs.«01_k».proof.Proof.ConvDKernelIdeal
public import proofs.«01_k».proof.Proof.Gen.Kernel.Frame
@[expose] public section
noncomputable section
/-! # The convolution's frame as printed, from the frame of its idealization -/
namespace Cert.Proof.Kernel
open Cert.Kernel Cert.Kernel.Gen
open Idealize.ShloMosaic Idealize.ShloMosaic.TcCoe Idealize.SL.Sem
variable {F : FTy → Type} [FloatOps F]

/-- No operation was rewritten, so the two programs are the same one. -/
theorem main_eq : (main (F := F)) = Cert.KernelIdeal.main (F := F) := rfl

/-- The body, at every operand. -/
theorem body_eq : (@cc0_conv_prompt F _ _) = @Cert.KernelIdeal.cc0_conv_prompt F _ _ := rfl

/-- The printed program's definitions are those of the idealized one. -/
theorem defs0_eq : (defs₀ (F := F)) = Cert.KernelIdeal.defs₀ (F := F) := by
  unfold defs₀ Cert.KernelIdeal.defs₀
  refine congrArg Defs.onTc ?_
  funext l a
  match l, a with
  | 0, (t, s) => rfl

/-- The frame claim of the printed program. -/
theorem quiescent : Cert.quiescent_Kernel := fun m ρ _ => by
  have h := Cert.Proof.KernelIdeal.frame (F := Bits) m ρ
  unfold defs
  rw [defs0_eq]
  exact h

end Cert.Proof.Kernel
-- ==== Proof.ConvMath.lean ====
module
public import Idealize.ShloMosaic.PureOps.Ideal
public import Idealize.ShloMosaic.Lib.IdealHost
@[expose] public section
noncomputable section
/-! # The mathematics of the convolution layer's mixer

The causal convolution of a sequence of rows with thirty-one taps, the layer norm of its result, and the gated
output projection with the residual, as functions of one result row. -/
namespace Cert.Proof.ConvMath
open Idealize.ShloMosaic
open scoped BigOperators

/-- The thirty-one taps, added in order from zero. -/
def taps (f : Fin 31 → EReal) : EReal :=
  0 + f 0 + f 1 + f 2 + f 3 + f 4 + f 5 + f 6 + f 7 + f 8 + f 9 + f 10 + f 11 + f 12 + f 13 + f 14 + f 15 + f 16 + f 17 + f 18 + f 19
    + f 20 + f 21 + f 22 + f 23 + f 24 + f 25 + f 26 + f 27 + f 28 + f 29 + f 30

/-- Row `n` of a sequence preceded by thirty rows of zeros, in one column. -/
def padded (v : Fin 4096 → EReal) (n : Nat) : EReal :=
  if h : 30 ≤ n ∧ n < 4126 then v ⟨n - 30, by omega⟩ else 0

/-- The convolution at row `s` of one column. -/
def conv (v : Fin 4096 → EReal) (w : Fin 31 → EReal) (b : EReal) (s : Nat) : EReal :=
  taps (fun j => padded v (s + j.val) * w j) + b

/-- The mean of a row. -/
def mean (c : Fin 2048 → EReal) : EReal := Ideal.div (∑ k : Fin 2048, c k) (Ideal.ofBits .f32 0x45000000#32)

/-- The layer norm of a row at entry `k`. -/
def lnorm (c g b : Fin 2048 → EReal) (k : Fin 2048) : EReal :=
  (c k - mean c) * Ideal.rsqrt (mean (fun j => (c j - mean c) * (c j - mean c)) + Ideal.ofBits .f32 0x358637BD#32) * g k + b k

/-- Entry `k` of the row that is multiplied by the output weights. -/
def gated (c g b z : Fin 2048 → EReal) (k : Fin 2048) : EReal :=
  lnorm c g b k * Ideal.logistic (lnorm c g b k) * z k

/-- One result. -/
def outRow (c g b z w : Fin 2048 → EReal) (x : EReal) : EReal := x + ∑ k : Fin 2048, gated c g b z k * w k

end Cert.Proof.ConvMath
-- ==== Proof.ConvEKernelIdeal.lean ====
module
public import proofs.«01_k».proof.Proof.ConvDKernelIdeal
public import proofs.«01_k».proof.Proof.ConvMath
public import Idealize.ShloMosaic.Lib.MatmulPlain
public import Idealize.ShloMosaic.Lib.Pipeline.ValueKit
public import Idealize.ShloMosaic.Lib.Pointwise.Tactic
public import Idealize.ShloMosaic.Lib.Pointwise.Reduce
@[expose] public section
noncomputable section
/-! # What the body of the convolution's call leaves in its result block, element by element -/
namespace Cert.Proof.ConvVal
open Cert.KernelIdeal Cert.KernelIdeal.Gen Cert.Proof.KernelIdeal
open Idealize.ShloMosaic Idealize.ShloMosaic.TcCoe Idealize.ShloMosaic.Tactic
open Cert.Proof.ConvMath
open scoped BigOperators

/-- Fifty-six of the sixty-four rows, from any of the first eight, are a slice. -/
theorem slices56 : ∀ p : Fin 8, S64x128.Slices ![p.val, 0] S56x128 := by decide
theorem slices32of56 : ∀ o : Fin 25, S56x128.Slices ![o.val, 0] S32x128 := by decide
theorem slices32of64 : ∀ o : Fin 33, S64x128.Slices ![o.val, 0] S32x128 := by decide

/-- The thirty-two rows from row `j + 2` on, as the body reads them: straight from the sixty-four rows where `j + 2` is a
    multiple of eight, and from a copy of the rows shifted by the remainder otherwise. -/
def tapRows (X : Vec Ideal S64x128 .f32) (j : Fin 31) : FVec Ideal S32x128 .f32 :=
  if _hp : (j.val + 2) % 8 = 0 then
    extractStridedSlice S32x128 ![8 * ((j.val + 2) / 8), 0] X (slices32of64 ⟨8 * ((j.val + 2) / 8), by omega⟩)
  else
    extractStridedSlice S32x128 ![8 * ((j.val + 2) / 8), 0]
      (extractStridedSlice S56x128 ![(j.val + 2) % 8, 0] X (slices56 ⟨(j.val + 2) % 8, by omega⟩)) (slices32of56 ⟨8 * ((j.val + 2) / 8), by omega⟩)

/-- The rows tap `j` reads, at an element. -/
theorem tapRows_apply (X : Vec Ideal S64x128 .f32) (j : Fin 31) (r : Fin 32) (q : Fin 128) :
    tapRows X j (ix2 r q) = X (ix2 ⟨r.val + j.val + 2, by omega⟩ q) := by
  unfold tapRows
  split
  · rename_i hp
    refine extractStridedSlice_apply _ X _ (ix2 r q) (ix2 ⟨r.val + j.val + 2, by omega⟩ q) fun a => ?_
    match a with
    | ⟨0, _⟩ => show r.val + j.val + 2 = 8 * ((j.val + 2) / 8) + r.val; omega
    | ⟨1, _⟩ => exact (Nat.zero_add _).symm
  · rename_i hp
    refine (extractStridedSlice_apply _ _ _ (ix2 r q) (ix2 ⟨8 * ((j.val + 2) / 8) + r.val, by omega⟩ q) fun a => ?_).trans
      (extractStridedSlice_apply _ X _ _ (ix2 ⟨r.val + j.val + 2, by omega⟩ q) fun a => ?_)
    · match a with
      | ⟨0, _⟩ => rfl
      | ⟨1, _⟩ => exact (Nat.zero_add _).symm
    · match a with
      | ⟨0, _⟩ => show r.val + j.val + 2 = (j.val + 2) % 8 + (8 * ((j.val + 2) / 8) + r.val); omega
      | ⟨1, _⟩ => exact (Nat.zero_add _).symm

/-- Tap `j` of the body: its rows, each multiplied by row `j` of the weights. -/
def tapOf (X : Vec Ideal S64x128 .f32) (w : Fin 31 → Vec Ideal S1x128 .f32) (j : Fin 31) : FVec Ideal S32x128 .f32 :=
  mulf (tapRows X j) (broadcastTo S32x128 (w j) broadcasts_S1x128_S32x128)

/-- The product of tap `j`, at an element. -/
theorem tapOf_apply (X : Vec Ideal S64x128 .f32) (w : Fin 31 → Vec Ideal S1x128 .f32) (j : Fin 31) (r : Fin 32) (q : Fin 128) :
    tapOf X w j (ix2 r q) = X (ix2 ⟨r.val + j.val + 2, by omega⟩ q) * w j (ix2 0 q) :=
  congrArg₂ (· * ·) (tapRows_apply X j r q) (by pointwise)

/-- The convolution's block adds the taps in order from zero, then the bias. -/
theorem slab_eq (X : Vec Ideal S64x128 .f32) (w : Fin 31 → Vec Ideal S1x128 .f32) (b : Vec Ideal S1x128 .f32) (i : S32x128.Idx) :
    slab X w b i = taps (fun j => tapOf X w j i) + broadcastTo S32x128 b broadcasts_S1x128_S32x128 i := by
  simp only [slab, k0_pay19, k0_pay18, k0_pay17, k0_pay16, k0_pay15, k0_pay14, k0_pay13, k0_pay12, k0_pay11, k0_pay10, k0_pay9, k0_pay8, k0_pay7, k0_pay6, k0_pay5, shapeCast_self]
  unfold taps
  rw [← Ideal.ofBits_zero_f32]
  rfl

/-- The convolution's block at an element. -/
theorem slab_apply (X : Vec Ideal S64x128 .f32) (w : Fin 31 → Vec Ideal S1x128 .f32) (b : Vec Ideal S1x128 .f32) (r : Fin 32) (q : Fin 128) :
    slab X w b (ix2 r q) = taps (fun j => X (ix2 ⟨r.val + j.val + 2, by omega⟩ q) * w j (ix2 0 q)) + b (ix2 0 q) :=
  (slab_eq X w b _).trans (congrArg₂ (· + ·) (congrArg taps (funext fun j => tapOf_apply X w j r q)) (by pointwise))

end Cert.Proof.ConvVal
-- ==== Proof.Layout.lean ====
module
public import Idealize.ShloMosaic.PureOps.Ideal
public import Idealize.ShloMosaic.Lib.IdealHost
public import Idealize.ShloMosaic.Lib.Pipeline.Value
public import Idealize.ShloMosaic.Lib.Pointwise.Tactic
public import Idealize.ShloMosaic.Lib.Pointwise.Reduce
@[expose] public section
noncomputable section
/-! # Reshapes and row sums the three calls share -/
namespace Cert.Proof.Layout
open Idealize.ShloMosaic
open scoped BigOperators

/-- A row's sum, kept as a column. -/
theorem rowSum_apply {R N : Nat} (v : FVec Ideal ⟨2, ![R, N]⟩ .f32) (h : (⟨2, ![R, N]⟩ : Shape).Reduces [1] ⟨1, ![R]⟩) (h1) (h2) (h3) (r : Fin R) :
    shapeCast ⟨2, ![R, 1]⟩ (multiReduction .add [1] ⟨1, ![R]⟩ v 0x00000000#32 h h1 h2) h3 (ix2 r 0) = ∑ k : Fin N, v (ix2 r k) := by
  refine (shapeCast_apply _ h3 (ix2 r 0) (ix1 r) ?_).trans ?_
  · rewrite [Shape.rowMajor_val_one, Shape.rowMajor_val_two]; show r.val = r.val * 1 + 0; omega
  · refine (Ideal.multiReduction_add_single v _ h h1 h2 (ix1 r)).trans ?_
    refine Finset.sum_congr rfl fun k _ => congrArg v ?_
    funext a
    match a with
    | ⟨0, _⟩ => rfl
    | ⟨1, _⟩ => rfl

/-- A vector stored as one row. -/
theorem row_apply {N : Nat} (v : Shape.Idx ⟨1, ![N]⟩ → EReal) (h : (⟨1, ![N]⟩ : Shape).ShapeCasts ⟨2, ![1, N]⟩) (j : Fin N) :
    shapeCast ⟨2, ![1, N]⟩ v h (ix2 0 j) = v (ix1 j) := by
  refine shapeCast_apply v h (ix2 0 j) (ix1 j) ?_
  rewrite [Shape.rowMajor_val_one, Shape.rowMajor_val_two]
  show j.val = 0 * N + j.val
  omega

/-- An array stored with its batch and its sequence as one axis. -/
theorem rows_apply {N : Nat} (v : Shape.Idx ⟨3, ![4, 4096, N]⟩ → EReal) (h : (⟨3, ![4, 4096, N]⟩ : Shape).ShapeCasts ⟨2, ![16384, N]⟩)
    (i : Shape.Idx ⟨2, ![16384, N]⟩) (b : Fin 4) (s : Fin 4096) (q : Fin N) (h0 : (i 0).val = 4096 * b.val + s.val) (h1 : (i 1).val = q.val) :
    shapeCast ⟨2, ![16384, N]⟩ v h i = v (ix3 b s q) := by
  refine shapeCast_apply v h i (ix3 b s q) ?_
  rewrite [Shape.rowMajor_val_three, Shape.rowMajor_val_two]
  show (b.val * 4096 + s.val) * N + q.val = (i 0).val * N + (i 1).val
  rw [h0, h1, Nat.mul_comm b.val]

end Cert.Proof.Layout
-- ==== Proof.ConvFKernelIdeal.lean ====
module
public import proofs.«01_k».proof.Proof.ConvEKernelIdeal
public import proofs.«01_k».proof.Proof.Layout
@[expose] public section
noncomputable section
/-! # The result block of the convolution's call, from the operands' blocks -/
namespace Cert.Proof.ConvVal
open Cert.KernelIdeal Cert.KernelIdeal.Gen Cert.Proof.KernelIdeal
open Idealize.ShloMosaic Idealize.ShloMosaic.TcCoe Idealize.ShloMosaic.Tactic
open Cert.Proof.ConvMath Cert.Proof.Layout
open scoped BigOperators

/-- A matrix agrees at two indices with equal coordinates. -/
theorem at2 {n m : Nat} (x : (Shape.Idx ⟨2, ![n, m]⟩) → EReal) (i j : Shape.Idx ⟨2, ![n, m]⟩) (h0 : (i 0).val = (j 0).val) (h1 : (i 1).val = (j 1).val) : x i = x j :=
  congrArg x (funext fun a => Fin.ext (by match a with | ⟨0, _⟩ => exact h0 | ⟨1, _⟩ => exact h1))

/-- The convolution's rows at an element. -/
theorem crow_apply (x5 : Vec Ideal S31x2048 .f32) (x6 : Vec Ideal S1x2048 .f32) (x11 : Vec Ideal S544x2048 .f32) (t : Fin 16) (r : Fin 32) (d : Fin 2048) :
    crow x5 x6 x11 t (ix2 r d)
      = taps (fun j => x11 (ix2 ⟨32 * t.val + r.val + j.val + 2, by omega⟩ d) * x5 (ix2 j d)) + x6 (ix2 0 d) := by
  unfold crow
  refine (slab_apply _ _ _ ⟨r.val, r.isLt⟩ ⟨d.val % 128, Nat.mod_lt _ (by decide)⟩).trans ?_
  refine congrArg₂ (· + ·) (congrArg taps (funext fun j => congrArg₂ (· * ·) ?_ ?_)) ?_
  · exact at2 x11 _ _ (by show 32 * t.val + (r.val + j.val + 2) = 32 * t.val + r.val + j.val + 2; omega)
      (by show 128 * (d.val / 128) + d.val % 128 = d.val; omega)
  · exact at2 x5 _ _ rfl (by show 128 * (d.val / 128) + d.val % 128 = d.val; omega)
  · exact at2 x6 _ _ rfl (by show 128 * (d.val / 128) + d.val % 128 = d.val; omega)

/-- The normalised, gated rows at an element. -/
theorem pay20_apply (c : Vec Ideal S32x2048 .f32) (g b : Vec Ideal S1x2048 .f32) (z : Vec Ideal S1x32x2048 .f32) (r : Fin 32) (k : Fin 2048) :
    k0_pay20 (F := Ideal) c g b z (ix2 r k)
      = gated (fun j => c (ix2 r j)) (fun j => g (ix2 0 j)) (fun j => b (ix2 0 j)) (fun j => z (ix3 0 r j)) k := by
  unfold gated lnorm mean
  simp only [k0_pay20, shapeCast_self]
  pointwise [rowSum_apply]

/-- The normalised, gated rows of the whole block at an element. -/
theorem yval_apply (x3 : Vec Ideal S1x512x2048 .f32) (x5 : Vec Ideal S31x2048 .f32) (x6 x7 x8 : Vec Ideal S1x2048 .f32) (x11 : Vec Ideal S544x2048 .f32)
    (R : Fin 512) (k : Fin 2048) :
    yval x3 x5 x6 x7 x8 x11 (ix2 R k)
      = gated (fun d => taps (fun j => x11 (ix2 ⟨R.val + j.val + 2, by omega⟩ d) * x5 (ix2 j d)) + x6 (ix2 0 d))
          (fun j => x7 (ix2 0 j)) (fun j => x8 (ix2 0 j)) (fun j => x3 (ix3 0 R j)) k := by
  unfold yval ypay
  refine (pay20_apply _ _ _ _ ⟨R.val % 32, Nat.mod_lt _ (by decide)⟩ k).trans ?_
  refine congrArg₂ (fun c z => gated c (fun j => x7 (ix2 0 j)) (fun j => x8 (ix2 0 j)) z k) (funext fun d => ?_) (funext fun d => ?_)
  · refine (crow_apply x5 x6 x11 _ _ d).trans ?_
    refine congrArg₂ (· + ·) (congrArg taps (funext fun j => congrArg₂ (· * ·) ?_ rfl)) rfl
    exact at2 x11 _ _ (by show 32 * (R.val / 32) + R.val % 32 + j.val + 2 = R.val + j.val + 2; omega) rfl
  · unfold rowsG
    refine congrArg x3 (funext fun a => Fin.ext ?_)
    match a with
    | ⟨0, _⟩ => rfl
    | ⟨1, _⟩ => show 32 * (R.val / 32) + R.val % 32 = R.val; omega
    | ⟨2, _⟩ => rfl

/-- The output projection with the residual, at an element. -/
theorem pay4_apply (x : Vec Ideal S1x512x1024 .f32) (y : Vec Ideal S512x2048 .bf16) (w : Vec Ideal S2048x1024 .bf16) (R : Fin 512) (e : Fin 1024) :
    k0_pay4 (F := Ideal) x y w (ix3 0 R e) = x (ix3 0 R e) + ∑ k : Fin 2048, y (ix2 R k) * w (ix2 k e) := by
  simp only [k0_pay4, shapeCast_self]
  refine (shapeCast_apply _ _ (ix3 0 R e) (ix2 R e) ?_).trans ?_
  · rewrite [Shape.rowMajor_val_three, Shape.rowMajor_val_two]; show R.val * 1024 + e.val = (0 * 512 + R.val) * 1024 + e.val; omega
  refine congrArg₂ (· + ·) ?_ ?_
  · refine shapeCast_apply (s := S1x512x1024) (t := S512x1024) x _ (ix2 R e) (ix3 0 R e) ?_
    rewrite [Shape.rowMajor_val_three, Shape.rowMajor_val_two]; show (0 * 512 + R.val) * 1024 + e.val = R.val * 1024 + e.val; omega
  · refine (Ideal.matmul_plain_apply none _ w _ R e).trans ?_
    show Ideal.ofBits .f32 0x00000000#32 + _ = _
    rw [Ideal.ofBits_zero_f32, zero_add]
    refine Finset.sum_congr rfl fun k _ => congrArg₂ (· * ·) (congrArg y ?_) (congrArg w ?_)
    all_goals
      funext a
      match a with
      | ⟨0, _⟩ => rfl
      | ⟨1, _⟩ => rfl

/-- The result block at an element. -/
theorem outv_apply (x2 x3 : Vec Ideal S1x512x2048 .f32) (x4 : Vec Ideal S1x512x1024 .f32) (x5 : Vec Ideal S31x2048 .f32) (x6 x7 x8 : Vec Ideal S1x2048 .f32)
    (x9 : Vec Ideal S2048x1024 .bf16) (p : Vec Ideal S32x2048 .f32) (R : Fin 512) (e : Fin 1024) :
    outv x2 x3 x4 x5 x6 x7 x8 x9 p (ix3 0 R e)
      = outRow (fun d => taps (fun j => x11A p x2 (ix2 ⟨R.val + j.val + 2, by omega⟩ d) * x5 (ix2 j d)) + x6 (ix2 0 d))
          (fun j => x7 (ix2 0 j)) (fun j => x8 (ix2 0 j)) (fun j => x3 (ix3 0 R j)) (fun k => x9 (ix2 k e)) (x4 (ix3 0 R e)) := by
  unfold outv outRow
  refine (pay4_apply _ _ _ R e).trans (congrArg₂ (· + ·) rfl (Finset.sum_congr rfl fun k _ => ?_))
  exact congrArg (· * x9 (ix2 k e)) (yval_apply x3 x5 x6 x7 x8 _ R k)

end Cert.Proof.ConvVal
-- ==== Proof.ConvGKernelIdeal.lean ====
module
public import proofs.«01_k».proof.Proof.ConvFKernelIdeal
@[expose] public section
noncomputable section
/-! # The array the convolution's call leaves, from the arguments -/
namespace Cert.Proof.ConvVal
open Cert.KernelIdeal Cert.KernelIdeal.Gen Cert.Proof.KernelIdeal
open Idealize.ShloMosaic Idealize.ShloMosaic.TcCoe Idealize.ShloMosaic.Tactic
open Cert.Proof.ConvMath Cert.Proof.Layout
open Idealize.ShloMosaic.Pipeline (Dat Cfg Window)
open scoped BigOperators

variable (m : (ℓ : Loc nD τ sig) → Buf (Elt Ideal) ℓ)

/-- The result at an element, from the arguments. -/
def res (v z : Vec Ideal S4x4096x2048 .f32) (x : Vec Ideal S4x4096x1024 .f32) (dw : Vec Ideal S31x2048 .f32) (db g b : Vec Ideal S2048 .f32)
    (w : Vec Ideal S2048x1024 .f32) : Vec Ideal S4x4096x1024 .f32 := fun i =>
  outRow (fun d => conv (fun n => v (ix3 (i 0) n d)) (fun j => dw (ix2 j d)) (db (ix1 d)) (i 1).val)
    (fun j => g (ix1 j)) (fun j => b (ix1 j)) (fun j => z (ix3 (i 0) (i 1) j)) (fun k => w (ix2 k (i 2))) (x i)

/-- The three vectors of the arguments reach the call as one row each. -/
theorem V_rows (c : Dev nD) :
    (V m c main_v0 : Vec Ideal S1x2048 .f32) = shapeCast S1x2048 (m ((c : Thread nD τ).loc main_arg4) : Vec Ideal S2048 .f32) shapeCasts_S2048_S1x2048
    ∧ (V m c main_v1 : Vec Ideal S1x2048 .f32) = shapeCast S1x2048 (m ((c : Thread nD τ).loc main_arg5) : Vec Ideal S2048 .f32) shapeCasts_S2048_S1x2048
    ∧ (V m c main_v2 : Vec Ideal S1x2048 .f32) = shapeCast S1x2048 (m ((c : Thread nD τ).loc main_arg6) : Vec Ideal S2048 .f32) shapeCasts_S2048_S1x2048 := by
  refine ⟨?_, ?_, ?_⟩
  all_goals
    first
      | show StableHlo.after hostOps0 (fun b => m (c, b)) main_v0 = _
      | show StableHlo.after hostOps0 (fun b => m (c, b)) main_v1 = _
      | show StableHlo.after hostOps0 (fun b => m (c, b)) main_v2 = _
    simp only [hostOps0, List.flatten_cons, List.flatten_nil, List.append_nil, List.cons_append, List.nil_append]
    after_results_simp <;> rfl

/-- The output weights reach the call as they are. -/
theorem V_v3 (c : Dev nD) : (V m c main_v3 : Vec Ideal S2048x1024 .bf16)
    = (m ((c : Thread nD τ).loc main_arg7) : Vec Ideal S2048x1024 .f32) := by
  show StableHlo.after hostOps0 (fun b => m (c, b)) main_v3 = _
  simp only [hostOps0, List.flatten_cons, List.flatten_nil, List.append_nil, List.cons_append, List.nil_append]
  after_results_simp <;> rfl

/-- Where each window's block of a point lies. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 0] ∧ win0_8.index t = ![t.val / 8, t.val % 8, 0] :=
  (by decide +kernel : ∀ t : Fin grid0.N, _)

/-- An array read at the place of a row of point `t`, at two names of that place. -/
theorem place {N : Nat} (v : Shape.Idx ⟨3, ![4, 4096, N]⟩ → EReal) (t : Fin cfg0.N) (R : Fin 512) (d : Fin N) (b : Fin 4) (s : Fin 4096)
    (hb : b.val = t.val / 8) (hs : s.val = 512 * (t.val % 8) + R.val) (i : Shape.Idx ⟨3, ![4, 4096, N]⟩)
    (h0 : (i 0).val = t.val / 8) (h1 : (i 1).val = t.val % 8 * 512 + R.val) (h2 : (i 2).val = d.val) : v i = v (ix3 b s d) := by
  refine congrArg v (funext fun a => Fin.ext ?_)
  match a with
  | ⟨0, _⟩ => show (i 0).val = b.val; omega
  | ⟨1, _⟩ => show (i 1).val = s.val; omega
  | ⟨2, _⟩ => exact h2

/-- The blocks of the values, of the gates and of the residual at a point, at an element. -/
theorem read0 (c : Dev nD) (t : Fin cfg0.N) (R : Fin 512) (d : Fin 2048) (b : Fin 4) (s : Fin 4096) (hb : b.val = t.val / 8) (hs : s.val = 512 * (t.val % 8) + R.val) :
    (iblk m c 0 t : Vec Ideal S1x512x2048 .f32) (ix3 0 R d) = (m ((c : Thread nD τ).loc main_arg0) : Vec Ideal S4x4096x2048 .f32) (ix3 b s d) := by
  refine Eq.trans ?_ (congrFun (V_main_arg0 m c) _)
  blk_simp [iblk, idx]
  exact place (V m c main_arg0 : Vec Ideal S4x4096x2048 .f32) t R d b s hb hs _ (by blk_simp [idx]; rfl) (by blk_simp [idx]) (by blk_simp [idx])

/-- The gate's block of a point, at an element. -/
theorem read1 (c : Dev nD) (t : Fin cfg0.N) (R : Fin 512) (d : Fin 2048) (b : Fin 4) (s : Fin 4096) (hb : b.val = t.val / 8) (hs : s.val = 512 * (t.val % 8) + R.val) :
    (iblk m c 1 t : Vec Ideal S1x512x2048 .f32) (ix3 0 R d) = (m ((c : Thread nD τ).loc main_arg1) : Vec Ideal S4x4096x2048 .f32) (ix3 b s d) := by
  refine Eq.trans ?_ (congrFun (V_main_arg1 m c) _)
  blk_simp [iblk, idx]
  exact place (V m c main_arg1 : Vec Ideal S4x4096x2048 .f32) t R d b s hb hs _ (by blk_simp [idx]; rfl) (by blk_simp [idx]) (by blk_simp [idx])

/-- The residual's block of a point, at an element. -/
theorem read2 (c : Dev nD) (t : Fin cfg0.N) (R : Fin 512) (d : Fin 1024) (b : Fin 4) (s : Fin 4096) (hb : b.val = t.val / 8) (hs : s.val = 512 * (t.val % 8) + R.val) :
    (iblk m c 2 t : Vec Ideal S1x512x1024 .f32) (ix3 0 R d) = (m ((c : Thread nD τ).loc main_arg2) : Vec Ideal S4x4096x1024 .f32) (ix3 b s d) := by
  refine Eq.trans ?_ (congrFun (V_main_arg2 m c) _)
  blk_simp [iblk, idx]
  exact place (V m c main_arg2 : Vec Ideal S4x4096x1024 .f32) t R d b s hb hs _ (by blk_simp [idx]; rfl) (by blk_simp [idx]) (by blk_simp [idx])

/-- The taps' block of a point is the argument. -/
theorem read3 (c : Dev nD) (t : Fin cfg0.N) (j : Fin 31) (d : Fin 2048) :
    (iblk m c 3 t : Vec Ideal S31x2048 .f32) (ix2 j d) = (m ((c : Thread nD τ).loc main_arg3) : Vec Ideal S31x2048 .f32) (ix2 j d) := by
  refine Eq.trans ?_ (congrFun (V_main_arg3 m c) _)
  blk_simp [iblk, idx]
  refine congrArg (V m c main_arg3 : Vec Ideal S31x2048 .f32) (funext fun a => Fin.ext ?_)
  match a with
  | ⟨0, _⟩ => blk_simp [idx]
  | ⟨1, _⟩ => blk_simp [idx]

/-- The blocks of the bias, of the norm's gain and of its shift are the arguments. -/
theorem readRows (c : Dev nD) (t : Fin cfg0.N) (d : Fin 2048) :
    (iblk m c 4 t : Vec Ideal S1x2048 .f32) (ix2 0 d) = (m ((c : Thread nD τ).loc main_arg4) : Vec Ideal S2048 .f32) (ix1 d)
    ∧ (iblk m c 5 t : Vec Ideal S1x2048 .f32) (ix2 0 d) = (m ((c : Thread nD τ).loc main_arg5) : Vec Ideal S2048 .f32) (ix1 d)
    ∧ (iblk m c 6 t : Vec Ideal S1x2048 .f32) (ix2 0 d) = (m ((c : Thread nD τ).loc main_arg6) : Vec Ideal S2048 .f32) (ix1 d) := by
  obtain ⟨e4, e5, e6⟩ := V_rows m c
  refine ⟨Eq.trans ?_ ((congrFun e4 (ix2 0 d)).trans (row_apply (m ((c : Thread nD τ).loc main_arg4) : Vec Ideal S2048 .f32) _ d)),
    Eq.trans ?_ ((congrFun e5 (ix2 0 d)).trans (row_apply (m ((c : Thread nD τ).loc main_arg5) : Vec Ideal S2048 .f32) _ d)),
    Eq.trans ?_ ((congrFun e6 (ix2 0 d)).trans (row_apply (m ((c : Thread nD τ).loc main_arg6) : Vec Ideal S2048 .f32) _ d))⟩
  all_goals
    blk_simp [iblk, idx]
    refine at2 (n := 1) (m := 2048) _ _ _ ?_ ?_ <;> blk_simp [idx]

/-- The output weights' block of a point is the argument. -/
theorem read7 (c : Dev nD) (t : Fin cfg0.N) (k : Fin 2048) (e : Fin 1024) :
    (iblk m c 7 t : Vec Ideal S2048x1024 .bf16) (ix2 k e) = (m ((c : Thread nD τ).loc main_arg7) : Vec Ideal S2048x1024 .f32) (ix2 k e) := by
  refine Eq.trans ?_ (congrFun (V_v3 m c) _)
  blk_simp [iblk, idx]
  refine congrArg (V m c main_v3 : Vec Ideal S2048x1024 .bf16) (funext fun a => Fin.ext ?_)
  match a with
  | ⟨0, _⟩ => blk_simp [idx]
  | ⟨1, _⟩ => blk_simp [idx]

/-- The rows carried into a sequence's first block are zero. -/
theorem pay1_apply (i : S32x2048.Idx) : k0_pay1 (F := Ideal) i = 0 := by
  simp only [k0_pay1, shapeCast_self]
  exact Ideal.ofBits_zero_f32

/-- The padded values of a point: the sequence preceded by zeros, from thirty-two rows before the point's block. -/
theorem x11_apply (c : Dev nD) (t : Fin cfg0.N) (n : Nat) (hn : n < 544) (h2 : 2 ≤ n) (d : Fin 2048) (b : Fin 4) (hb : b.val = t.val / 8) (N : Nat)
    (hN : N + 2 = 512 * (t.val % 8) + n) :
    x11A (tailAt m c t) (iblk m c 0 t : Vec Ideal S1x512x2048 .f32) (ix2 ⟨n, hn⟩ d)
      = padded (fun s => (m ((c : Thread nD τ).loc main_arg0) : Vec Ideal S4x4096x2048 .f32) (ix3 b s d)) N := by
  have ht : t.val < 32 := t.isLt
  unfold x11A padded
  by_cases h : n < 32
  · refine (dif_pos h).trans ?_
    unfold tailAt
    by_cases h8 : t.val % 8 = 0
    · rw [if_pos h8, dif_neg (by omega)]
      exact pay1_apply _
    · rw [if_neg h8, dif_pos (by omega)]
      exact read0 m c ⟨t.val - 1, Nat.lt_of_le_of_lt (Nat.sub_le _ _) t.isLt⟩ ⟨480 + n, by omega⟩ d b ⟨N - 30, by omega⟩
        (by show b.val = (t.val - 1) / 8; omega) (by show N - 30 = 512 * ((t.val - 1) % 8) + (480 + n); omega)
  · refine (dif_neg h).trans ?_
    rw [dif_pos (by omega)]
    exact read0 m c t ⟨n - 32, by omega⟩ d b ⟨N - 30, by omega⟩ hb (by show N - 30 = 512 * (t.val % 8) + (n - 32); omega)

/-- Equal rows and columns give equal results. -/
theorem outRow_congr {c c' g g' b b' z z' w w' : Fin 2048 → EReal} {x x' : EReal} (h1 : c = c') (h2 : g = g') (h3 : b = b') (h4 : z = z') (h5 : w = w')
    (h6 : x = x') : outRow c g b z w x = outRow c' g' b' z' w' x' := by subst h1 h2 h3 h4 h5 h6; rfl

/-- What the body leaves at a point is the result at the element's place in the array. -/
theorem out_eq (c : Dev nD) (t : Fin cfg0.N) (y : S1x512x1024.Idx) (i : S4x4096x1024.Idx)
    (h0 : (i 0).val = t.val / 8) (h1 : (i 1).val = 512 * (t.val % 8) + (y 1).val) (h2 : (i 2).val = (y 2).val) :
    outAt m c t y = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) i := by
  obtain ⟨R, hR⟩ : ∃ R : Fin 512, R = y 1 := ⟨y 1, rfl⟩
  obtain ⟨e, he⟩ : ∃ e : Fin 1024, e = y 2 := ⟨y 2, rfl⟩
  have hy : y = ix3 0 R e := by
    funext a
    match a with
    | ⟨0, _⟩ => exact Fin.ext (by have : (y 0).val < 1 := (y 0).isLt; show (y 0).val = 0; omega)
    | ⟨1, _⟩ => exact hR.symm
    | ⟨2, _⟩ => exact he.symm
  have h1' : (i 1).val = 512 * (t.val % 8) + R.val := by rw [hR]; exact h1
  have h2' : (i 2 : Fin 1024) = e := Fin.ext (by rw [he]; exact h2)
  rw [hy]
  unfold outAt
  refine (outv_apply _ _ _ _ _ _ _ _ _ R e).trans ?_
  unfold res
  refine outRow_congr (funext fun d => ?_) (funext fun j => (readRows m c t j).2.1) (funext fun j => (readRows m c t j).2.2)
    (funext fun j => read1 m c t R j (i 0) (i 1) h0 h1') (funext fun k => ?_) ?_
  · unfold conv
    refine congrArg₂ (· + ·) (congrArg taps (funext fun j => congrArg₂ (· * ·) ?_ (read3 m c t j d))) (readRows m c t d).1
    exact x11_apply m c t _ _ (by omega) d (i 0) h0 _ (by rw [h1']; omega)
  · exact (read7 m c t k e).trans (congrArg (fun q => (m ((c : Thread nD τ).loc main_arg7) : Vec Ideal S2048x1024 .f32) (ix2 k q)) h2'.symm)
  · refine (read2 m c t R e (i 0) (i 1) h0 h1').trans ?_
    refine congrArg (m ((c : Thread nD τ).loc main_arg2) : Vec Ideal S4x4096x1024 .f32) (funext fun a => ?_)
    match a with
    | ⟨0, _⟩ => rfl
    | ⟨1, _⟩ => rfl
    | ⟨2, _⟩ => exact h2'.symm

/-- The result array at the end of a run. -/
theorem final8 (c : Dev nD) : (dats m 0 c).arrAt 8 cfg0.N
    = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t hf y => ?_
  blk_simp
  rw [after0_8]
  refine out_eq m c t y _ ?_ ?_ ?_
  · blk_simp [idx]
  · blk_simp [idx]; show t.val % 8 * 512 + _ = _; omega
  · blk_simp [idx]

end Cert.Proof.ConvVal
-- ==== Proof.ConvHReference.lean ====
module
public import proofs.«01_k».proof.Proof.Gen.ReferenceIdeal.Read
public import proofs.«01_k».proof.Proof.ConvMath
public import Idealize.ShloMosaic.Lib.Pipeline.Value
public import Idealize.ShloMosaic.Lib.Pointwise.Tactic
@[expose] public section
noncomputable section
/-! # The reference of the convolution's call, element by element -/
namespace Cert.Proof.ConvRef
open Cert.ReferenceIdeal Cert.ReferenceIdeal.Gen Cert.ReferenceIdeal.Read
open Idealize.ShloMosaic Idealize.ShloMosaic.TcCoe Idealize.ShloMosaic.Tactic
open Cert.Proof.ConvMath
open scoped BigOperators

/-- The sequence preceded by its thirty rows of zeros. -/
theorem v1_apply (v : Vec Ideal S4x4096x2048 .f32) (b : Fin 4) (n : Fin 4126) (d : Fin 2048) :
    val_main_v1 (F := Ideal) v (ix3 b n d) = padded (fun s => v (ix3 b s d)) n.val := by
  unfold val_main_v1 padded
  have hn := n.isLt
  by_cases h : n.val < 30
  · rw [dif_neg (by omega)]
    refine (concatenate_pair_apply_left (t := S4x4126x2048) (s₁ := S4x30x2048) (s₂ := S4x4096x2048) 1 _ v _ (ix3 b n d) rfl (ix3 b ⟨n.val, h⟩ d) fun a => ?_).trans ?_
    · match a with
      | ⟨0, _⟩ => rfl
      | ⟨1, _⟩ => rfl
      | ⟨2, _⟩ => rfl
    · rw [val_main_v0_apply]
      exact Ideal.ofBits_zero_f32
  · rw [dif_pos (by omega)]
    refine concatenate_pair_apply_right (t := S4x4126x2048) (s₁ := S4x30x2048) (s₂ := S4x4096x2048) 1 _ v _ (ix3 b n d) rfl rfl (ix3 b ⟨n.val - 30, by omega⟩ d) (fun a ha => ?_) ?_
    · match a with
      | ⟨0, _⟩ => rfl
      | ⟨1, _⟩ => exact absurd rfl ha
      | ⟨2, _⟩ => rfl
    · show n.val - 30 + 30 = n.val; omega

/-- The reference's padded values, at an element. -/
theorem v1_at (v : Vec Ideal S4x4096x2048 .f32) (i : S4x4126x2048.Idx) (b : Fin 4) (d : Fin 2048) (n : Nat) (hn : n < 4126)
    (h0 : (i 0).val = b.val) (h1 : (i 1).val = n) (h2 : (i 2).val = d.val) :
    val_main_v1 (F := Ideal) v i = padded (fun s => v (ix3 b s d)) n := by
  have e : i = ix3 b ⟨n, hn⟩ d := by
    funext a
    match a with
    | ⟨0, _⟩ => exact Fin.ext h0
    | ⟨1, _⟩ => exact Fin.ext h1
    | ⟨2, _⟩ => exact Fin.ext h2
  rw [e, v1_apply]

/-- The weights agree at two indices with equal coordinates. -/
theorem dw_at (w : Vec Ideal S31x2048 .f32) (i : S31x2048.Idx) (j : Fin 31) (d : Fin 2048) (h0 : (i 0).val = j.val) (h1 : (i 1).val = d.val) :
    w i = w (ix2 j d) :=
  congrArg w (funext fun a => Fin.ext (by match a with | ⟨0, _⟩ => exact h0 | ⟨1, _⟩ => exact h1))

/-- The rows of each tap are a slice of the padded values. -/
theorem rows_slices : ∀ j : Fin 31, S4x4126x2048.Slices ![0, j.val, 0] S4x4096x2048 := by decide
theorem weight_slices : ∀ j : Fin 31, S31x2048.Slices ![j.val, 0] S1x2048 := by decide

/-- Tap `j` as the reference writes it: the rows from row `j` of the padded sequence, each multiplied by row `j` of the weights. -/
def tapOf (v : Vec Ideal S4x4096x2048 .f32) (w : Vec Ideal S31x2048 .f32) (j : Fin 31) : FVec Ideal S4x4096x2048 .f32 :=
  mulf (extractStridedSlice S4x4096x2048 ![0, j.val, 0] (val_main_v1 (F := Ideal) v) (rows_slices j))
    (broadcastInDim S4x4096x2048 ![0, 1, 2] bcast_S1x1x2048_S4x4096x2048_0_1_2
      (broadcastInDim S1x1x2048 ![2] bcast_S2048_S1x1x2048_2
        (shapeCast S2048 (extractStridedSlice S1x2048 ![j.val, 0] w (weight_slices j)) shapeCasts_S1x2048_S2048)))

/-- Tap `j` at an element. -/
theorem tap_apply (v : Vec Ideal S4x4096x2048 .f32) (w : Vec Ideal S31x2048 .f32) (j : Fin 31) (b : Fin 4) (s : Fin 4096) (d : Fin 2048) :
    tapOf v w j (ix3 b s d) = padded (fun s => v (ix3 b s d)) (s.val + j.val) * w (ix2 j d) := by
  unfold tapOf
  refine congrArg₂ (· * ·) ((extractStridedSlice_apply _ _ _ (ix3 b s d) (ix3 b ⟨j.val + s.val, by omega⟩ d) fun a => ?_).trans
    (v1_at v _ b d (s.val + j.val) (by omega) rfl (Nat.add_comm _ _) rfl)) ?_
  · match a with
    | ⟨0, _⟩ => exact (Nat.zero_add _).symm
    | ⟨1, _⟩ => rfl
    | ⟨2, _⟩ => exact (Nat.zero_add _).symm
  · refine (shapeCast_apply _ _ (ix1 d) (ix2 (0 : Fin 1) d) ?_).trans
      ((extractStridedSlice_apply _ _ _ (ix2 (0 : Fin 1) d) (ix2 j d) fun a => ?_))
    · rewrite [Shape.rowMajor_val_one, Shape.rowMajor_val_two]; show 0 * 2048 + d.val = d.val; omega
    · match a with
      | ⟨0, _⟩ => rfl
      | ⟨1, _⟩ => exact (Nat.zero_add _).symm

/-- The taps are added in order from zero. -/
theorem v219_apply (v : Vec Ideal S4x4096x2048 .f32) (w : Vec Ideal S31x2048 .f32) (i : S4x4096x2048.Idx) :
    val_main_v219 (F := Ideal) v w i = taps (fun j => tapOf v w j i) := by
  unfold taps
  rw [← Ideal.ofBits_zero_f32]
  rfl

/-- The reference's convolution. -/
theorem v222_apply (v : Vec Ideal S4x4096x2048 .f32) (w : Vec Ideal S31x2048 .f32) (db : Vec Ideal S2048 .f32) (b : Fin 4) (s : Fin 4096) (d : Fin 2048) :
    val_main_v222 (F := Ideal) v w db (ix3 b s d) = conv (fun n => v (ix3 b n d)) (fun j => w (ix2 j d)) (db (ix1 d)) s.val := by
  unfold conv
  rw [val_main_v222_apply, val_main_v221_apply, val_main_v220_apply, v219_apply]
  refine congrArg₂ (· + ·) (congrArg taps (funext fun j => tap_apply v w j b s d)) (congrArg db (funext fun a => ?_))
  match a with | ⟨0, _⟩ => rfl

/-- The mean of a row of the convolution. -/
theorem v226_apply (v : Vec Ideal S4x4096x2048 .f32) (w : Vec Ideal S31x2048 .f32) (db : Vec Ideal S2048 .f32) (i : S4x4096x1.Idx) (b : Fin 4) (s : Fin 4096)
    (h0 : (i 0).val = b.val) (h1 : (i 1).val = s.val) :
    val_main_v226 (F := Ideal) v w db i = mean (fun d => conv (fun n => v (ix3 b n d)) (fun j => w (ix2 j d)) (db (ix1 d)) s.val) := by
  rw [val_main_v226_apply, val_main_v224_apply, val_main_v223_apply, val_main_v225_apply]
  unfold mean
  refine congrArg₂ Ideal.div ?_ rfl
  refine Eq.trans (congrArg₂ (· + ·) Ideal.ofBits_zero_f32 (Finset.sum_congr rfl fun k _ => ?_)) (zero_add _)
  refine (congrArg (val_main_v222 (F := Ideal) v w db) (funext fun a => ?_)).trans (v222_apply v w db b s k)
  match a with
  | ⟨0, _⟩ => exact Fin.ext h0
  | ⟨1, _⟩ => exact Fin.ext h1
  | ⟨2, _⟩ => rfl

/-- The convolution with its bias, at an element. -/
theorem v228_apply (v : Vec Ideal S4x4096x2048 .f32) (w : Vec Ideal S31x2048 .f32) (db : Vec Ideal S2048 .f32) (b : Fin 4) (s : Fin 4096) (d : Fin 2048) :
    val_main_v228 (F := Ideal) v w db (ix3 b s d) = conv (fun n => v (ix3 b n d)) (fun j => w (ix2 j d)) (db (ix1 d)) s.val
      - mean (fun d => conv (fun n => v (ix3 b n d)) (fun j => w (ix2 j d)) (db (ix1 d)) s.val) := by
  rw [val_main_v228_apply, val_main_v227_apply, v222_apply, v226_apply v w db _ b s rfl rfl]
  rfl

/-- The layer norm. -/
theorem v244_apply (v : Vec Ideal S4x4096x2048 .f32) (w : Vec Ideal S31x2048 .f32) (db g lb : Vec Ideal S2048 .f32) (b : Fin 4) (s : Fin 4096) (d : Fin 2048) :
    val_main_v244 (F := Ideal) v w db g lb (ix3 b s d) = lnorm (fun d => conv (fun n => v (ix3 b n d)) (fun j => w (ix2 j d)) (db (ix1 d)) s.val)
      (fun j => g (ix1 j)) (fun j => lb (ix1 j)) d := by
  rw [val_main_v244_apply, val_main_v241_apply, val_main_v238_apply, v228_apply, val_main_v237_apply, val_main_v236_apply, val_main_v235_apply,
    val_main_v233_apply, val_main_v231_apply, val_main_v230_apply, val_main_v232_apply, val_main_v234_apply, val_main_v240_apply, val_main_v239_apply,
    val_main_v243_apply, val_main_v242_apply]
  unfold lnorm
  refine congrArg₂ (· + ·) (congrArg₂ (· * ·) (congrArg₂ (· * ·) rfl (congrArg Ideal.rsqrt (congrArg₂ (· + ·) ?_ rfl))) (congrArg g (funext fun a => ?_)))
    (congrArg lb (funext fun a => ?_))
  · rw [show ∀ c, mean c = Ideal.div (∑ k : Fin 2048, c k) (Ideal.ofBits .f32 0x45000000#32) from fun _ => rfl]
    refine congrArg₂ Ideal.div ?_ rfl
    refine Eq.trans (congrArg₂ (· + ·) Ideal.ofBits_zero_f32 (Finset.sum_congr rfl fun k _ => ?_)) (zero_add _)
    rw [val_main_v229_apply]
    refine (congrArg (fun i => val_main_v228 (F := Ideal) v w db i * val_main_v228 (F := Ideal) v w db i) (funext fun a => ?_)).trans
      (congrArg₂ (· * ·) (v228_apply v w db b s k) (v228_apply v w db b s k))
    match a with
    | ⟨0, _⟩ => rfl
    | ⟨1, _⟩ => rfl
    | ⟨2, _⟩ => rfl
  · match a with | ⟨0, _⟩ => rfl
  · match a with | ⟨0, _⟩ => rfl

/-- The gated rows. -/
theorem v246_apply (v z : Vec Ideal S4x4096x2048 .f32) (w : Vec Ideal S31x2048 .f32) (db g lb : Vec Ideal S2048 .f32) (b : Fin 4) (s : Fin 4096) (d : Fin 2048) :
    val_main_v246 (F := Ideal) v z w db g lb (ix3 b s d) = gated (fun d => conv (fun n => v (ix3 b n d)) (fun j => w (ix2 j d)) (db (ix1 d)) s.val)
      (fun j => g (ix1 j)) (fun j => lb (ix1 j)) (fun j => z (ix3 b s j)) d := by
  rw [val_main_v246_apply, val_main_v245_apply, val_main_call0_v5_apply, val_main_call0_v4_apply, val_main_call0_v3_apply, val_main_call0_v2_apply,
    val_main_call0_v1_apply, val_main_call0_v0_apply, v244_apply]
  unfold gated
  show _ * Ideal.div (Ideal.ofBits .f32 0x3F800000#32) (Ideal.ofBits .f32 0x3F800000#32 + _) * _ = _
  rw [Ideal.ofBits_one_f32]
  rfl

/-- The reference's result. -/
theorem v248_apply (v z : Vec Ideal S4x4096x2048 .f32) (x : Vec Ideal S4x4096x1024 .f32) (w : Vec Ideal S31x2048 .f32) (db g lb : Vec Ideal S2048 .f32)
    (wo : Vec Ideal S2048x1024 .f32) (b : Fin 4) (s : Fin 4096) (e : Fin 1024) :
    val_main_v248 (F := Ideal) v z x w db g lb wo (ix3 b s e) = outRow (fun d => conv (fun n => v (ix3 b n d)) (fun j => w (ix2 j d)) (db (ix1 d)) s.val)
      (fun j => g (ix1 j)) (fun j => lb (ix1 j)) (fun j => z (ix3 b s j)) (fun k => wo (ix2 k e)) (x (ix3 b s e)) := by
  rw [val_main_v248_apply, val_main_v247_apply]
  unfold outRow
  refine congrArg₂ (· + ·) rfl (Finset.sum_congr rfl fun k _ => congrArg₂ (· * ·) ?_ (congrArg wo (funext fun a => ?_)))
  · refine (congrArg (val_main_v246 (F := Ideal) v z w db g lb) (funext fun a => ?_)).trans (v246_apply v z w db g lb b s k)
    match a with
    | ⟨0, _⟩ => rfl
    | ⟨1, _⟩ => rfl
    | ⟨2, _⟩ => rfl
  · match a with
    | ⟨0, _⟩ => rfl
    | ⟨1, _⟩ => rfl

end Cert.Proof.ConvRef
-- ==== Proof.ConvI.lean ====
module
public import proofs.«01_k».proof.Defs
public import proofs.«01_k».proof.Proof.ConvGKernelIdeal
public import proofs.«01_k».proof.Proof.ConvHReference
public import proofs.«01_k».proof.Proof.Gen.ReferenceIdeal.Run
@[expose] public section
noncomputable section
/-! # The convolution's call computes what its reference computes -/
namespace Cert.Proof.ConvVal
open Idealize.ShloMosaic Idealize.ShloMosaic.TcCoe Idealize.SL.Sem

/-- The reference's result array, element by element. -/
theorem ref248 (v z : Vec Ideal Cert.ReferenceIdeal.S4x4096x2048 .f32) (x : Vec Ideal Cert.ReferenceIdeal.S4x4096x1024 .f32)
    (w : Vec Ideal Cert.ReferenceIdeal.S31x2048 .f32) (db g lb : Vec Ideal Cert.ReferenceIdeal.S2048 .f32) (wo : Vec Ideal Cert.ReferenceIdeal.S2048x1024 .f32) :
    Cert.ReferenceIdeal.Read.val_main_v248 (F := Ideal) v z x w db g lb wo = res v z x w db g lb wo := by
  funext i
  obtain ⟨b, s, e, rfl⟩ : ∃ (b : Fin 4) (s : Fin 4096) (e : Fin 1024), i = ix3 b s e :=
    ⟨i 0, i 1, i 2, by funext a; match a with | ⟨0, _⟩ => rfl | ⟨1, _⟩ => rfl | ⟨2, _⟩ => rfl⟩
  exact ConvRef.v248_apply v z x w db g lb wo b s e

/-- Two facts about the ends of all runs hold together. -/
theorem both {Λ : Labels} {nD : Nat} {τ : Topo} {sig : RefSig} {Val : EltTy → Type} {defs : Defs nD τ sig Val Λ}
    {p : (c : Thread nD τ) → Prog (TpuEff nD τ sig Val Λ c.2) PUnit}
    {s : MemSt nD τ sig Val} {Q Q' : PUnit × MemSt nD τ sig Val → Prop} (h : θ_run defs p s Q) (h' : θ_run defs p s Q') :
    θ_run defs p s fun r => Q r ∧ Q' r :=
  ⟨fun t ht hf => ⟨h.post t ht hf, h'.post t ht hf⟩, h.progress, h.fair⟩

/-- The convolution's call leaves in its result array what the reference computes. -/
theorem algebraic : Cert.algebraic_KernelIdeal_ReferenceIdeal := by
  intro m g m' g' _ harg
  refine ⟨fun c => res (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · have hf := Cert.KernelIdeal.Gen.frame_of m g (Cert.Proof.KernelIdeal.dats m) (fun _ _ => rfl)
      ((θ_run _ _ _).mono (fun r h => h.1) (Cert.Proof.KernelIdeal.run_main m g))
    refine (θ_run _ _ _).mono (fun r h c => ?_) (both hf (Cert.Proof.KernelIdeal.run_main m g))
    exact ⟨((h.2.1 c).1 8).trans (final8 m c), h.1 c⟩
  · refine (θ_run _ _ _).mono (fun r h c => ?_) (Cert.ReferenceIdeal.Value.run m' g')
    obtain ⟨h248, ha⟩ := h c
    obtain ⟨e0, e1, e2, e3, e4, e5, e6, e7⟩ := harg c
    refine ⟨?_, ha⟩
    refine h248.trans ((Cert.ReferenceIdeal.Read.val_main_v248_eq _).trans ((ref248 _ _ _ _ _ _ _ _).trans ?_))
    exact congr (congr (congr (congr (congr (congr (congr (congrArg res e0) e1) e2) e3) e4) e5) e6) e7

end Cert.Proof.ConvVal
-- ==== Proof.RowMath.lean ====
module
public import Idealize.ShloMosaic.PureOps.Ideal
public import Idealize.ShloMosaic.Lib.IdealHost
@[expose] public section
noncomputable section
/-! # The mathematics of one row

What the projections compute, one row of the input at a time: a row scaled to unit mean square, and its
products with the columns of the weights. -/
namespace Cert.Proof.RowMath
open Idealize.ShloMosaic
open scoped BigOperators

/-- Entry `k` of a row scaled to unit mean square and by the gain. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The scaled row times one column of the weights. -/
def proj (x g w : Fin 1024 → EReal) : EReal := ∑ k : Fin 1024, nrm x g k * w k

/-- What happens to a product before it is stored as a query: it is scaled by one eighth. -/
def fq (p : EReal) : EReal := p * Ideal.ofBits .f32 0x3E000000#32

/-- What happens to a product before it is stored as an output gate: it is multiplied by its own logistic. -/
def fs (p : EReal) : EReal := p * Ideal.logistic p

/-- What happens to a product before it is stored as a branch gate: its logistic is taken. -/
def fl (p : EReal) : EReal := Ideal.logistic p

end Cert.Proof.RowMath
-- ==== Proof.InprojA.lean ====
module
public import proofs.«01_k».proof.Proof.Gen.Kernel2Ideal.Value
public import proofs.«01_k».proof.Proof.RowMath
public import proofs.«01_k».proof.Proof.Layout
public import Idealize.ShloMosaic.Lib.MatmulPlain
public import Idealize.ShloMosaic.Lib.Pipeline.ValueKit
public import Idealize.ShloMosaic.Lib.Pointwise.Tactic
public import Idealize.ShloMosaic.Lib.Pointwise.Reduce
@[expose] public section
noncomputable section
/-! # What the body of the convolution layers' input projection leaves in its two result blocks -/
namespace Cert.Proof.Inproj
open Cert.Kernel2Ideal Cert.Kernel2Ideal.Gen
open Idealize.ShloMosaic Idealize.ShloMosaic.TcCoe Idealize.ShloMosaic.Tactic
open Cert.Proof.RowMath Cert.Proof.Layout
open scoped BigOperators

/-- The normalised rows at an element. -/
theorem pay3_apply (v0 : Vec Ideal S256x1024 .f32) (v2 : Vec Ideal S1x1024 .f32) (r : Fin 256) (k : Fin 1024) :
    k0_pay3 (F := Ideal) v0 v2 (ix2 r k) = nrm (fun j => v0 (ix2 r j)) (fun j => v2 (ix2 0 j)) k := by
  unfold nrm
  simp only [k0_pay3, shapeCast_self]
  pointwise [rowSum_apply]

/-- A product of the rows with a slab of the weights, at an element. -/
theorem mm_apply (h : FVec Ideal S256x1024 .bf16) (w : FVec Ideal S1024x512 .bf16) (r : Fin 256) (q : Fin 512) :
    matmul dot_S256x1024_S1024x512_S256x512_1_0_0_1_n_n none h w (constant S256x512 .f32 0x00000000#32) (ix2 r q)
      = ∑ k : Fin 1024, h (ix2 r k) * w (ix2 k q) := by
  refine (Ideal.matmul_plain_apply none h w _ r q).trans ?_
  show Ideal.ofBits .f32 0x00000000#32 + _ = _
  rw [Ideal.ofBits_zero_f32, zero_add]
  refine Finset.sum_congr rfl fun k _ => congrArg₂ (· * ·) (congrArg h ?_) (congrArg w ?_)
  all_goals
    funext a
    match a with
    | ⟨0, _⟩ => rfl
    | ⟨1, _⟩ => rfl

/-- The gated product of one chunk. -/
def glu (h : FVec Ideal S256x1024 .bf16) (wa wg : FVec Ideal S1024x512 .bf16) : FVec Ideal S256x512 .f32 :=
  mulf (matmul dot_S256x1024_S1024x512_S256x512_1_0_0_1_n_n none h wa (constant S256x512 .f32 0x00000000#32))
    (logistic (matmul dot_S256x1024_S1024x512_S256x512_1_0_0_1_n_n none h wg (constant S256x512 .f32 0x00000000#32)))

/-- Each of the eight stored values is a gated product: four of the values, then four of the output gates. -/
theorem pay1_eq (h : FVec Ideal S256x1024 .bf16) (wa wg : Vec Ideal S1024x512 .bf16) :
    k0_pay1 h (k0_pay11 wa) (constant S256x512 .f32 0x00000000#32) wg = glu h wa wg := by
  simp only [k0_pay1, k0_pay11, shapeCast_self]; rfl
theorem pay7_eq (h : FVec Ideal S256x1024 .bf16) (wa wg : Vec Ideal S1024x512 .bf16) :
    k0_pay7 h (k0_pay6 wa) (constant S256x512 .f32 0x00000000#32) wg = glu h wa wg := by
  simp only [k0_pay7, k0_pay6, shapeCast_self]; rfl
theorem pay9_eq (h : FVec Ideal S256x1024 .bf16) (wa wg : Vec Ideal S1024x512 .bf16) : k0_pay9 h wa wg = glu h wa wg := by
  simp only [k0_pay9, shapeCast_self]; rfl
theorem pay4_eq (v0 : Vec Ideal S256x1024 .f32) (v2 : Vec Ideal S1x1024 .f32) (wa wg : Vec Ideal S1024x512 .bf16) :
    k0_pay4 v0 v2 wa wg = glu (k0_pay3 v0 v2) wa wg := by
  simp only [k0_pay4, shapeCast_self]; rfl
theorem pay2_eq (h : FVec Ideal S256x1024 .bf16) (w : Vec Ideal S1024x512 .bf16) : k0_pay2 h w = glu h w w := by
  simp only [k0_pay2, shapeCast_self]; rfl
theorem pay8_eq (h : FVec Ideal S256x1024 .bf16) (w : Vec Ideal S1024x512 .bf16) : k0_pay8 h w = glu h w w := by
  simp only [k0_pay8, shapeCast_self]; rfl
theorem pay10_eq (h : FVec Ideal S256x1024 .bf16) (w : Vec Ideal S1024x512 .bf16) : k0_pay10 h w = glu h w w := by
  simp only [k0_pay10, shapeCast_self]; rfl
theorem pay5_eq (v0 : Vec Ideal S256x1024 .f32) (v2 : Vec Ideal S1x1024 .f32) (w : Vec Ideal S1024x512 .bf16) :
    k0_pay5 v0 v2 w = glu (k0_pay3 v0 v2) w w := by
  simp only [k0_pay5, shapeCast_self]; rfl

/-- The gated product as a function of the row and the two columns. -/
def G (x g wa wg : Fin 1024 → EReal) : EReal := proj x g wa * Ideal.logistic (proj x g wg)

/-- The gated product at an element. -/
theorem glu_apply (v0 : Vec Ideal S256x1024 .f32) (v2 : Vec Ideal S1x1024 .f32) (wa wg : FVec Ideal S1024x512 .bf16) (r : Fin 256) (q : Fin 512) :
    glu (k0_pay3 v0 v2) wa wg (ix2 r q)
      = G (fun j => v0 (ix2 r j)) (fun j => v2 (ix2 0 j)) (fun j => wa (ix2 j q)) (fun j => wg (ix2 j q)) := by
  have e : ∀ w : FVec Ideal S1024x512 .bf16,
      matmul dot_S256x1024_S1024x512_S256x512_1_0_0_1_n_n none (k0_pay3 v0 v2) w (constant S256x512 .f32 0x00000000#32) (ix2 r q)
        = proj (fun j => v0 (ix2 r j)) (fun j => v2 (ix2 0 j)) (fun j => w (ix2 j q)) := fun w => by
    rw [mm_apply]
    exact Finset.sum_congr rfl fun k _ => by rw [pay3_apply]
  show matmul dot_S256x1024_S1024x512_S256x512_1_0_0_1_n_n none (k0_pay3 v0 v2) wa (constant S256x512 .f32 0x00000000#32) (ix2 r q)
    * Ideal.logistic (matmul dot_S256x1024_S1024x512_S256x512_1_0_0_1_n_n none (k0_pay3 v0 v2) wg (constant S256x512 .f32 0x00000000#32) (ix2 r q)) = _
  rw [e, e]; rfl

/-- A load of 512 columns of the weights from column `o`, at an element. -/
theorem ld_w (x2 : Vec Ideal S1024x6144 .bf16) (o : Nat) (inb) (k : Fin 1024) (q : Fin 512) (i : S1024x6144.Idx)
    (h0 : (i 0).val = k.val) (h1 : (i 1).val = o + q.val) :
    View.ld x2 (Rect.unit (s := S1024x6144) ![0, o] S1024x512.size inb) (ix2 k q) = x2 i := by
  refine View.ld_unit_apply_of x2 _ _ inb _ i fun a => ?_
  match a with
  | ⟨0, _⟩ => exact h0.trans (Nat.zero_add _).symm
  | ⟨1, _⟩ => exact h1

/-- The column of the weights that starts at `o`, for the result's column `j`. -/
def col (x2 : Vec Ideal S1024x6144 .bf16) (o : Nat) (ho : o ≤ 4096) (j : Fin 2048) : Fin 1024 → EReal :=
  fun k => x2 (ix2 k ⟨o + j.val, by omega⟩)

/-- What the body leaves in the two result blocks, at an element. -/
def B (o : Nat) (ho : o ≤ 4096) (o' : Nat) (ho' : o' ≤ 4096) (x0 : Vec Ideal S256x1024 .f32) (x1 : Vec Ideal S1x1024 .f32) (x2 : Vec Ideal S1024x6144 .bf16)
    (y : S256x2048.Idx) : EReal :=
  G (fun j => x0 (ix2 (y 0) j)) (fun j => x1 (ix2 0 j)) (col x2 o ho (y 1)) (col x2 o' ho' (y 1))

/-- One stored piece agrees with `B`. -/
theorem piece (p : Nat) (o : Nat) (ho : o ≤ 4096) (o' : Nat) (ho' : o' ≤ 4096) (x0 : Vec Ideal S256x1024 .f32) (x1 : Vec Ideal S1x1024 .f32)
    (x2 : Vec Ideal S1024x6144 .bf16) (inb : ∀ a, (![0, p] : Fin 2 → Nat) a + S256x512.size a ≤ S256x2048.size a) (inb1) (inb2)
    (x : (Rect.unit (s := S256x2048) ![0, p] S256x512.size inb).shape.Idx) :
    glu (k0_pay3 x0 x1) (View.ld x2 (Rect.unit (s := S1024x6144) ![0, o + p] S1024x512.size inb1))
        (View.ld x2 (Rect.unit (s := S1024x6144) ![0, o' + p] S1024x512.size inb2)) x
      = B o ho o' ho' x0 x1 x2 ((Rect.unit (s := S256x2048) ![0, p] S256x512.size inb).emb x) := by
  obtain ⟨r, q, rfl⟩ : ∃ (r : Fin 256) (q : Fin 512), x = ix2 r q :=
    ⟨x 0, x 1, by funext a; match a with | ⟨0, _⟩ => rfl | ⟨1, _⟩ => rfl⟩
  have e0 : ((Rect.unit (s := S256x2048) ![0, p] S256x512.size inb).emb (ix2 r q)) 0 = r :=
    Fin.ext ((ValueKit.rect_emb_unit_val (s := S256x2048) ![0, p] S256x512.size inb (ix2 r q) 0).trans (Nat.zero_add r.val))
  have e1 : ((((Rect.unit (s := S256x2048) ![0, p] S256x512.size inb).emb (ix2 r q)) 1 : Fin 2048) : Nat) = p + q.val :=
    ValueKit.rect_emb_unit_val (s := S256x2048) ![0, p] S256x512.size inb (ix2 r q) 1
  unfold B
  rw [e0]
  refine (glu_apply x0 x1 _ _ r q).trans ?_
  refine congrArg₂ (G _ _) ?_ ?_
  · funext j
    exact ld_w x2 _ inb1 j q _ rfl (by show o + _ = o + p + _; rw [e1]; omega)
  · funext j
    exact ld_w x2 _ inb2 j q _ rfl (by show o' + _ = o' + p + _; rw [e1]; omega)

/-- What the body leaves in the values' block. -/
theorem out3_eq (x0 : Vec Ideal S256x1024 .f32) (x1 : Vec Ideal S1x1024 .f32) (x2 : Vec Ideal S1024x6144 .bf16) :
    out0_3 x0 x1 x2 = B 0 (by omega) 2048 (by omega) x0 x1 x2 := by
  unfold out0_3 k0_pay12
  rw [View.ld_unit_zero (by decide), View.ld_unit_zero (by decide), pay1_eq, pay9_eq, pay7_eq, pay4_eq]
  funext y
  refine View.canon_apply_of_pieces _ _ ?_ y (cover0_3 _ _ _ _ y)
  intro p hp
  simp only [List.mem_cons, List.not_mem_nil, or_false] at hp
  rcases hp with rfl | rfl | rfl | rfl
  · intro x
    exact piece 1536 0 (by omega) 2048 (by omega) x0 x1 x2 inb_S256x2048_S256x512_0_1536 inb_S1024x6144_S1024x512_0_1536 inb_S1024x6144_S1024x512_0_3584 x
  · intro x
    exact piece 1024 0 (by omega) 2048 (by omega) x0 x1 x2 inb_S256x2048_S256x512_0_1024 inb_S1024x6144_S1024x512_0_1024 inb_S1024x6144_S1024x512_0_3072 x
  · intro x
    exact piece 512 0 (by omega) 2048 (by omega) x0 x1 x2 inb_S256x2048_S256x512_0_512 inb_S1024x6144_S1024x512_0_512 inb_S1024x6144_S1024x512_0_2560 x
  · intro x
    exact piece 0 0 (by omega) 2048 (by omega) x0 x1 x2 inb_S256x2048_S256x512_0_0 inb_S1024x6144_S1024x512_0_0 inb_S1024x6144_S1024x512_0_2048 x

/-- What the body leaves in the output gates' block. -/
theorem out4_eq (x0 : Vec Ideal S256x1024 .f32) (x1 : Vec Ideal S1x1024 .f32) (x2 : Vec Ideal S1024x6144 .bf16) :
    out0_4 x0 x1 x2 = B 4096 (by omega) 4096 (by omega) x0 x1 x2 := by
  unfold out0_4 k0_pay12
  rw [View.ld_unit_zero (by decide), View.ld_unit_zero (by decide), pay2_eq, pay10_eq, pay8_eq, pay5_eq]
  funext y
  refine View.canon_apply_of_pieces _ _ ?_ y (cover0_4 _ _ _ _ y)
  intro p hp
  simp only [List.mem_cons, List.not_mem_nil, or_false] at hp
  rcases hp with rfl | rfl | rfl | rfl
  · intro x
    exact piece 1536 4096 (by omega) 4096 (by omega) x0 x1 x2 inb_S256x2048_S256x512_0_1536 inb_S1024x6144_S1024x512_0_5632 inb_S1024x6144_S1024x512_0_5632 x
  · intro x
    exact piece 1024 4096 (by omega) 4096 (by omega) x0 x1 x2 inb_S256x2048_S256x512_0_1024 inb_S1024x6144_S1024x512_0_5120 inb_S1024x6144_S1024x512_0_5120 x
  · intro x
    exact piece 512 4096 (by omega) 4096 (by omega) x0 x1 x2 inb_S256x2048_S256x512_0_512 inb_S1024x6144_S1024x512_0_4608 inb_S1024x6144_S1024x512_0_4608 x
  · intro x
    exact piece 0 4096 (by omega) 4096 (by omega) x0 x1 x2 inb_S256x2048_S256x512_0_0 inb_S1024x6144_S1024x512_0_4096 inb_S1024x6144_S1024x512_0_4096 x

end Cert.Proof.Inproj
-- ==== Proof.InprojB.lean ====
module
public import proofs.«01_k».proof.Proof.InprojA
@[expose] public section
noncomputable section
/-! # The two result arrays of the convolution layers' input projection, element by element -/
namespace Cert.Proof.Inproj
open Cert.Kernel2Ideal Cert.Kernel2Ideal.Gen
open Idealize.ShloMosaic Idealize.ShloMosaic.TcCoe Idealize.ShloMosaic.Tactic
open Cert.Proof.RowMath Cert.Proof.Layout
open Idealize.ShloMosaic.Pipeline (Dat Cfg Window)
open scoped BigOperators

variable (m : (ℓ : Loc nD τ sig) → Buf (Elt Ideal) ℓ)

/-- The result at an element, from the arguments. -/
def res (o : Nat) (ho : o ≤ 4096) (o' : Nat) (ho' : o' ≤ 4096) (x : Vec Ideal S4x4096x1024 .f32) (g : Vec Ideal S1024 .f32)
    (w : Vec Ideal S1024x6144 .f32) : Vec Ideal S16384x2048 .f32 := fun i =>
  have h0 : (i 0).val < 16384 := (i 0).isLt
  G (fun j => x (ix3 ⟨(i 0).val / 4096, by omega⟩ ⟨(i 0).val % 4096, by omega⟩ j)) (fun j => g (ix1 j)) (col w o ho (i 1)) (col w o' ho' (i 1))

/-- The rows reach the call with batch and sequence as one axis. -/
theorem V_v0 (c : Dev nD) : (V m c main_v0 : Vec Ideal S16384x1024 .f32)
    = shapeCast S16384x1024 (m ((c : Thread nD τ).loc main_arg0) : Vec Ideal S4x4096x1024 .f32) shapeCasts_S4x4096x1024_S16384x1024 := by
  show StableHlo.after hostOps0 (fun b => m (c, b)) main_v0 = _
  simp only [hostOps0]
  after_results_simp <;> rfl

/-- The gain reaches the call as one row. -/
theorem V_v1 (c : Dev nD) : (V m c main_v1 : Vec Ideal S1x1024 .f32)
    = shapeCast S1x1024 (m ((c : Thread nD τ).loc main_arg1) : Vec Ideal S1024 .f32) shapeCasts_S1024_S1x1024 := by
  show StableHlo.after hostOps0 (fun b => m (c, b)) main_v1 = _
  simp only [hostOps0]
  after_results_simp <;> rfl

/-- The weights reach the call as they are. -/
theorem V_v2 (c : Dev nD) : (V m c main_v2 : Vec Ideal S1024x6144 .bf16)
    = (m ((c : Thread nD τ).loc main_arg2) : Vec Ideal S1024x6144 .f32) := by
  show StableHlo.after hostOps0 (fun b => m (c, b)) main_v2 = _
  simp only [hostOps0]
  after_results_simp <;> rfl

/-- Where each window's block of a point lies. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The rows' block of a point, at an element. -/
theorem read0 (c : Dev nD) (t : Fin cfg0.N) (r : Fin 256) (j : Fin 1024) (R : Fin 16384) (hR : R.val = 256 * t.val + r.val) :
    (iblk m c 0 t : Vec Ideal S256x1024 .f32) (ix2 r j)
      = (m ((c : Thread nD τ).loc main_arg0) : Vec Ideal S4x4096x1024 .f32)
          (ix3 ⟨R.val / 4096, by omega⟩ ⟨R.val % 4096, by omega⟩ j) := by
  have e : (iblk m c 0 t : Vec Ideal S256x1024 .f32) (ix2 r j) = (V m c main_v0 : Vec Ideal S16384x1024 .f32) (ix2 R j) := by
    blk_simp [iblk, idx]
    refine congrArg (V m c main_v0 : Vec Ideal S16384x1024 .f32) (funext fun a => Fin.ext ?_)
    match a with
    | ⟨0, _⟩ => blk_simp [idx]; show t.val * 256 + r.val = R.val; omega
    | ⟨1, _⟩ => blk_simp [idx]
  rw [e, V_v0]
  exact rows_apply (m ((c : Thread nD τ).loc main_arg0) : Vec Ideal S4x4096x1024 .f32) _ (ix2 R j) _ _ j
    (by show R.val = 4096 * (R.val / 4096) + R.val % 4096; omega) rfl

/-- The gain's block of a point is the argument. -/
theorem read1 (c : Dev nD) (t : Fin cfg0.N) (j : Fin 1024) :
    (iblk m c 1 t : Vec Ideal S1x1024 .f32) (ix2 0 j) = (m ((c : Thread nD τ).loc main_arg1) : Vec Ideal S1024 .f32) (ix1 j) := by
  have e : (iblk m c 1 t : Vec Ideal S1x1024 .f32) (ix2 0 j) = (V m c main_v1 : Vec Ideal S1x1024 .f32) (ix2 0 j) := by
    blk_simp [iblk, idx]
    refine congrArg (V m c main_v1 : Vec Ideal S1x1024 .f32) (funext fun a => Fin.ext ?_)
    match a with
    | ⟨0, _⟩ => blk_simp [idx]
    | ⟨1, _⟩ => blk_simp [idx]
  rw [e, V_v1]
  exact row_apply (m ((c : Thread nD τ).loc main_arg1) : Vec Ideal S1024 .f32) _ j

/-- A column of the weights' block of a point is the argument's. -/
theorem read2 (c : Dev nD) (t : Fin cfg0.N) (o : Nat) (ho : o ≤ 4096) (q : Fin 2048) :
    col (iblk m c 2 t : Vec Ideal S1024x6144 .bf16) o ho q = col (m ((c : Thread nD τ).loc main_arg2) : Vec Ideal S1024x6144 .f32) o ho q := by
  funext k
  unfold col
  refine Eq.trans ?_ (congrFun (V_v2 m c) _)
  blk_simp [iblk, idx]
  refine congrArg (V m c main_v2 : Vec Ideal S1024x6144 .bf16) (funext fun a => Fin.ext ?_)
  match a with
  | ⟨0, _⟩ => blk_simp [idx]
  | ⟨1, _⟩ => blk_simp [idx]

/-- Equal rows and columns give equal gated products. -/
theorem G_congr {a a' b b' w w' v v' : Fin 1024 → EReal} (h1 : a = a') (h2 : b = b') (h3 : w = w') (h4 : v = v') :
    G a b w v = G a' b' w' v' := by subst h1 h2 h3 h4; rfl

/-- What the body leaves at a point is the result at the element's place in the array. -/
theorem B_eq (c : Dev nD) (t : Fin cfg0.N) (o : Nat) (ho : o ≤ 4096) (o' : Nat) (ho' : o' ≤ 4096) (y : S256x2048.Idx) (i : S16384x2048.Idx)
    (h0 : (i 0).val = 256 * t.val + (y 0).val) (h1 : (i 1).val = (y 1).val) :
    B o ho o' ho' (iblk m c 0 t) (iblk m c 1 t) (iblk m c 2 t) y
      = res o ho o' ho' (m ((c : Thread nD τ).loc main_arg0)) (m ((c : Thread nD τ).loc main_arg1)) (m ((c : Thread nD τ).loc main_arg2)) i := by
  unfold B res
  have e1 : (y 1 : Fin 2048) = i 1 := Fin.ext h1.symm
  refine G_congr (funext fun j => read0 m c t (y 0) j (i 0) h0) (funext fun j => read1 m c t j) ?_ ?_
  · exact (read2 m c t o ho (y 1)).trans (congrArg (col _ o ho) e1)
  · exact (read2 m c t o' ho' (y 1)).trans (congrArg (col _ o' ho') e1)

/-- The two arrays at the end of a run. -/
theorem final (c : Dev nD) :
    let x := m ((c : Thread nD τ).loc main_arg0); let g := m ((c : Thread nD τ).loc main_arg1); let w := m ((c : Thread nD τ).loc main_arg2)
    (dats m 0 c).arrAt 3 cfg0.N = res 0 (by omega) 2048 (by omega) x g w
      ∧ (dats m 0 c).arrAt 4 cfg0.N = res 4096 (by omega) 4096 (by omega) x g w := by
  refine ⟨(dats m 0 c).arrAt_eq_of_covers 3 _ (by decide +kernel) fun t hf y => ?_,
    (dats m 0 c).arrAt_eq_of_covers 4 _ (by decide +kernel) fun t hf y => ?_⟩
  all_goals
    blk_simp
    first | rw [after0_3, out3_eq] | rw [after0_4, out4_eq]
    exact B_eq m c t _ _ _ _ y _ (by blk_simp [idx]; show t.val * 256 + _ = _; omega) (by blk_simp [idx])

end Cert.Proof.Inproj
-- ==== Proof.InprojC.lean ====
module
public import proofs.«01_k».proof.Proof.Gen.Reference2Ideal.Read
public import proofs.«01_k».proof.Proof.RowMath
public import proofs.«01_k».proof.Proof.Layout
public import Idealize.ShloMosaic.Lib.Pointwise.Tactic
@[expose] public section
noncomputable section
/-! # The reference of the convolution layers' input projection, element by element -/
namespace Cert.Proof.InprojRef
open Cert.Reference2Ideal Cert.Reference2Ideal.Read
open Idealize.ShloMosaic Idealize.ShloMosaic.TcCoe Idealize.ShloMosaic.Tactic
open Cert.Proof.RowMath Cert.Proof.Layout
open scoped BigOperators

/-- The reference's normalised rows. -/
theorem v12_apply (x : Vec Ideal S4x4096x1024 .f32) (g : Vec Ideal S1024 .f32) (b : Fin 4) (s : Fin 4096) (k : Fin 1024) :
    val_main_v12 (F := Ideal) x g (ix3 b s k) = nrm (fun j => x (ix3 b s j)) (fun j => g (ix1 j)) k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have e1 : ∀ j : Fin 1024, val_main_v0 (F := Ideal) x (idx_main_v1 (idx_main_v2 (idx_main_v8 (ix3 b s k))) j) = x (ix3 b s j) * x (ix3 b s j) := fun j => by
    rw [val_main_v0_apply]
    have : idx_main_v1 (idx_main_v2 (idx_main_v8 (ix3 b s k))) j = ix3 b s j := by
      funext a; match a with | ⟨0, _⟩ => rfl | ⟨1, _⟩ => rfl | ⟨2, _⟩ => rfl
    rw [this]; rfl
  have e2 : idx_main_v10 (idx_main_v11 (ix3 b s k)) = ix1 k := by
    funext a; match a with | ⟨0, _⟩ => rfl
  simp only [e1, e2]
  unfold nrm
  show x (ix3 b s k) * Ideal.rsqrt (Ideal.div (Ideal.ofBits .f32 0x00000000#32 + _) _ + _) * _ = _
  rw [Ideal.ofBits_zero_f32, zero_add]
  rfl

/-- The reference's product. -/
theorem v13_apply (x : Vec Ideal S4x4096x1024 .f32) (g : Vec Ideal S1024 .f32) (w : Vec Ideal S1024x6144 .f32) (b : Fin 4) (s : Fin 4096) (q : Fin 6144) :
    val_main_v13 (F := Ideal) x g w (ix3 b s q) = proj (fun j => x (ix3 b s j)) (fun j => g (ix1 j)) (fun k => w (ix2 k q)) := by
  rw [val_main_v13_apply]
  refine Finset.sum_congr rfl fun k _ => ?_
  have e1 : lidx_main_v13 (ix3 b s q) k = ix3 b s k := by
    funext a; match a with | ⟨0, _⟩ => rfl | ⟨1, _⟩ => rfl | ⟨2, _⟩ => rfl
  have e2 : ridx_main_v13 (ix3 b s q) k = ix2 k q := by
    funext a; match a with | ⟨0, _⟩ => rfl | ⟨1, _⟩ => rfl
  rw [e1, e2, v12_apply]

/-- Column `j` of the product at a row. -/
def pj (x : Vec Ideal S4x4096x1024 .f32) (g : Vec Ideal S1024 .f32) (w : Vec Ideal S1024x6144 .f32) (b : Fin 4) (s : Fin 4096) (j : Nat) (hj : j < 6144) : EReal :=
  proj (fun j => x (ix3 b s j)) (fun j => g (ix1 j)) (fun k => w (ix2 k ⟨j, hj⟩))

/-- The reference's product at an index given by its coordinates. -/
theorem v13_at (x : Vec Ideal S4x4096x1024 .f32) (g : Vec Ideal S1024 .f32) (w : Vec Ideal S1024x6144 .f32) (i : S4x4096x6144.Idx) (b : Fin 4) (s : Fin 4096) (j : Nat) (hj : j < 6144)
    (h0 : (i 0).val = b.val) (h1 : (i 1).val = s.val) (h2 : (i 2).val = j) : val_main_v13 (F := Ideal) x g w i = pj x g w b s j hj := by
  have e : i = ix3 b s ⟨j, hj⟩ := by
    funext a
    match a with
    | ⟨0, _⟩ => exact Fin.ext h0
    | ⟨1, _⟩ => exact Fin.ext h1
    | ⟨2, _⟩ => exact Fin.ext h2
  rw [e, v13_apply]
  rfl

variable (x : Vec Ideal S4x4096x1024 .f32) (g : Vec Ideal S1024 .f32) (w : Vec Ideal S1024x6144 .f32) (b : Fin 4) (s : Fin 4096) (q : Fin 2048)
  (i : S16384x2048.Idx) (h0 : (i 0).val = 4096 * b.val + s.val) (h1 : (i 1).val = q.val)
include h0 h1

/-- The values: a column of the product times the logistic of its gate's. -/
theorem v24_apply : val_main_v24 (F := Ideal) x g w i
    = pj x g w b s (0 + q.val) (by omega) * Ideal.logistic (pj x g w b s (2048 + q.val) (by omega)) := by
  refine (rows_apply (val_main_v23 (F := Ideal) x g w) _ i b s q h0 h1).trans ?_
  rw [val_main_v23_apply, val_main_v14_apply, val_main_v22_apply, val_main_v21_apply, val_main_v20_apply, val_main_v19_apply,
    val_main_v18_apply, val_main_v17_apply, val_main_v15_apply, v13_at x g w _ b s (0 + q.val) (by omega) rfl rfl (Nat.zero_add _).symm,
    v13_at x g w _ b s (2048 + q.val) (by omega) rfl rfl rfl]
  show _ * Ideal.div (Ideal.ofBits .f32 0x3F800000#32) (Ideal.ofBits .f32 0x3F800000#32 + _) = _
  rw [Ideal.ofBits_one_f32]
  rfl

/-- The output gates: a column of the product times its own logistic. -/
theorem v26_apply : val_main_v26 (F := Ideal) x g w i
    = pj x g w b s (4096 + q.val) (by omega) * Ideal.logistic (pj x g w b s (4096 + q.val) (by omega)) := by
  refine (rows_apply (val_main_v25 (F := Ideal) x g w) _ i b s q h0 h1).trans ?_
  rw [val_main_v25_apply, val_main_call0_v5_apply, val_main_call0_v4_apply, val_main_call0_v3_apply, val_main_call0_v2_apply,
    val_main_call0_v1_apply, val_main_call0_v0_apply, val_main_v16_apply, v13_at x g w _ b s (4096 + q.val) (by omega) rfl rfl rfl]
  show _ * Ideal.div (Ideal.ofBits .f32 0x3F800000#32) (Ideal.ofBits .f32 0x3F800000#32 + _) = _
  rw [Ideal.ofBits_one_f32]
  rfl

end Cert.Proof.InprojRef
-- ==== Proof.InprojD.lean ====
module
public import proofs.«01_k».proof.Defs
public import proofs.«01_k».proof.Proof.InprojB
public import proofs.«01_k».proof.Proof.InprojC
public import proofs.«01_k».proof.Proof.Gen.Reference2Ideal.Run
@[expose] public section
noncomputable section
/-! # The input projection of the convolution layers computes what its reference computes -/
namespace Cert.Proof.Inproj
open Idealize.ShloMosaic Idealize.ShloMosaic.TcCoe Idealize.SL.Sem

/-- An array whose elements are a product's column times the logistic of another's is the result. -/
theorem ref_eq (o : Nat) (ho : o ≤ 4096) (o' : Nat) (ho' : o' ≤ 4096) (x : Vec Ideal Cert.Reference2Ideal.S4x4096x1024 .f32) (g : Vec Ideal Cert.Reference2Ideal.S1024 .f32)
    (w : Vec Ideal Cert.Reference2Ideal.S1024x6144 .f32) (v : Vec Ideal Cert.Reference2Ideal.S16384x2048 .f32)
    (h : ∀ (b : Fin 4) (s : Fin 4096) (q : Fin 2048) (i : Cert.Reference2Ideal.S16384x2048.Idx), (i 0).val = 4096 * b.val + s.val → (i 1).val = q.val
      → v i = InprojRef.pj x g w b s (o + q.val) (by omega) * Ideal.logistic (InprojRef.pj x g w b s (o' + q.val) (by omega))) : v = res o ho o' ho' x g w := by
  funext i
  have h0 : (i 0).val < 16384 := (i 0).isLt
  exact h ⟨(i 0).val / 4096, by omega⟩ ⟨(i 0).val % 4096, by omega⟩ (i 1) i
    (by show (i 0).val = 4096 * ((i 0).val / 4096) + (i 0).val % 4096; omega) rfl

/-- The input projection's two results are the reference's. -/
theorem algebraic : Cert.algebraic_Kernel2Ideal_Reference2Ideal := by
  intro m g m' g' _ harg
  refine ⟨fun c => res 0 (by omega) 2048 (by omega) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)),
    fun c => res 4096 (by omega) 4096 (by omega) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)), ?_, ?_⟩
  · refine (θ_run _ _ _).mono (fun r h c => ?_) (Cert.Kernel2Ideal.Value.run_blocks m g)
    obtain ⟨h3, h4, ha⟩ := h c
    exact ⟨h3.trans (final m c).1, h4.trans (final m c).2, ha⟩
  · refine (θ_run _ _ _).mono (fun r h c => ?_) (Cert.Reference2Ideal.Value.run m' g')
    obtain ⟨h24, h26, ha⟩ := h c
    obtain ⟨e0, e1, e2⟩ := harg c
    refine ⟨?_, ?_, ha⟩
    · refine h24.trans ((Cert.Reference2Ideal.Read.val_main_v24_eq _ _ _).trans ((ref_eq 0 (by omega) 2048 (by omega) _ _ _ _ (InprojRef.v24_apply _ _ _)).trans ?_))
      rw [e0, e1, e2]
    · refine h26.trans ((Cert.Reference2Ideal.Read.val_main_v26_eq _ _ _).trans ((ref_eq 4096 (by omega) 4096 (by omega) _ _ _ _ (InprojRef.v26_apply _ _ _)).trans ?_))
      rw [e0, e1, e2]

end Cert.Proof.Inproj
-- ==== Proof.NsaInprojA.lean ====
module
public import proofs.«01_k».proof.Proof.Gen.Kernel3Ideal.Value
public import proofs.«01_k».proof.Proof.RowMath
public import proofs.«01_k».proof.Proof.Layout
public import Idealize.ShloMosaic.Lib.MatmulPlain
public import Idealize.ShloMosaic.Lib.Pipeline.ValueKit
public import Idealize.ShloMosaic.Lib.Pointwise.Tactic
public import Idealize.ShloMosaic.Lib.Pointwise.Reduce
@[expose] public section
noncomputable section
/-! # What the body of the attention layers' input projection leaves in its six result blocks -/
namespace Cert.Proof.NsaInproj
open Cert.Kernel3Ideal Cert.Kernel3Ideal.Gen
open Idealize.ShloMosaic Idealize.ShloMosaic.TcCoe Idealize.ShloMosaic.Tactic
open Cert.Proof.RowMath Cert.Proof.Layout
open scoped BigOperators

/-- The normalised rows at an element. -/
theorem pay2_apply (v0 : Vec Ideal S256x1024 .f32) (v2 : Vec Ideal S1x1024 .f32) (r : Fin 256) (k : Fin 1024) :
    k0_pay2 (F := Ideal) v0 v2 (ix2 r k) = nrm (fun j => v0 (ix2 r j)) (fun j => v2 (ix2 0 j)) k := by
  unfold nrm
  simp only [k0_pay2, shapeCast_self]
  pointwise [rowSum_apply]

/-- A product of the rows with `n` columns of the weights, at an element. -/
theorem product_apply {n : Nat} (x0 : Vec Ideal S256x1024 .f32) (x1 : Vec Ideal S1x1024 .f32) (W : FVec Ideal ⟨2, ![1024, n]⟩ .bf16) (r : Fin 256) (q : Fin n) :
    FloatOps.matmul (DotDims.plain 256 1024 n) none (k0_pay2 x0 x1) W (constant ⟨2, ![256, n]⟩ .f32 0x00000000#32) (ix2 r q)
      = proj (fun j => x0 (ix2 r j)) (fun j => x1 (ix2 0 j)) (fun k => W (ix2 k q)) := by
  refine (Ideal.matmul_plain_apply none _ W _ r q).trans ?_
  show Ideal.ofBits .f32 0x00000000#32 + _ = _
  rw [Ideal.ofBits_zero_f32, zero_add]
  exact Finset.sum_congr rfl fun k _ => congrArg (· * W (ix2 k q)) (pay2_apply x0 x1 r k)

/-- Column `j` of the padded weights. -/
def wcol (x2 : Vec Ideal S1024x3712 .bf16) (j : Nat) (hj : j < 3712) : Fin 1024 → EReal := fun k => x2 (ix2 k ⟨j, hj⟩)

/-- A result block of width `N` whose columns start at column `o` of the weights, at an element: `f` of the row times the column. -/
def block {N : Nat} (f : EReal → EReal) (o : Nat) (ho : o + N ≤ 3712) (x0 : Vec Ideal S256x1024 .f32) (x1 : Vec Ideal S1x1024 .f32)
    (x2 : Vec Ideal S1024x3712 .bf16) (y : Shape.Idx ⟨2, ![256, N]⟩) : EReal :=
  have h1 : (y 1).val < N := (y 1).isLt
  f (proj (fun j => x0 (ix2 (y 0) j)) (fun j => x1 (ix2 0 j)) (wcol x2 (o + (y 1).val) (by omega)))

/-- One stored piece, `n` columns wide from column `p` of its block, agrees with the block. -/
theorem piece {N n : Nat} (f : EReal → EReal) (o p : Nat) (ho : o + N ≤ 3712) (x0 : Vec Ideal S256x1024 .f32) (x1 : Vec Ideal S1x1024 .f32)
    (x2 : Vec Ideal S1024x3712 .bf16) (P : Shape.Idx ⟨2, ![256, n]⟩ → EReal)
    (inb : ∀ a, (![0, p] : Fin 2 → Nat) a + (⟨2, ![256, n]⟩ : Shape).size a ≤ (⟨2, ![256, N]⟩ : Shape).size a)
    (inbw : ∀ a, (![0, o + p] : Fin 2 → Nat) a + (⟨2, ![1024, n]⟩ : Shape).size a ≤ S1024x3712.size a)
    (hP : ∀ y, P y = f (FloatOps.matmul (φ₂ := .bf16) (DotDims.plain 256 1024 n) none (k0_pay2 x0 x1)
      (View.ld x2 (Rect.unit (s := S1024x3712) ![0, o + p] (⟨2, ![1024, n]⟩ : Shape).size inbw) : FVec Ideal ⟨2, ![1024, n]⟩ .bf16)
      (constant ⟨2, ![256, n]⟩ .f32 0x00000000#32) y))
    (x : (Rect.unit (s := ⟨2, ![256, N]⟩) ![0, p] (⟨2, ![256, n]⟩ : Shape).size inb).shape.Idx) :
    P x = block f o ho x0 x1 x2 ((Rect.unit (s := ⟨2, ![256, N]⟩) ![0, p] (⟨2, ![256, n]⟩ : Shape).size inb).emb x) := by
  obtain ⟨r, q, rfl⟩ : ∃ (r : Fin 256) (q : Fin n), x = ix2 r q :=
    ⟨x 0, x 1, by funext a; match a with | ⟨0, _⟩ => rfl | ⟨1, _⟩ => rfl⟩
  have e0 : ((Rect.unit (s := ⟨2, ![256, N]⟩) ![0, p] (⟨2, ![256, n]⟩ : Shape).size inb).emb (ix2 r q)) 0 = r :=
    Fin.ext ((ValueKit.rect_emb_unit_val (s := ⟨2, ![256, N]⟩) ![0, p] _ inb (ix2 r q) 0).trans (Nat.zero_add r.val))
  have e1 : ((((Rect.unit (s := ⟨2, ![256, N]⟩) ![0, p] (⟨2, ![256, n]⟩ : Shape).size inb).emb (ix2 r q)) 1 : Fin N) : Nat) = p + q.val :=
    ValueKit.rect_emb_unit_val (s := ⟨2, ![256, N]⟩) ![0, p] _ inb (ix2 r q) 1
  unfold block
  rw [e0]
  refine (hP (ix2 r q)).trans (congrArg f ((product_apply x0 x1 _ r q).trans (congrArg (proj _ _) (funext fun k => ?_))))
  refine View.ld_unit_apply_of x2 _ _ inbw _ _ fun a => ?_
  match a with
  | ⟨0, _⟩ => exact (Nat.zero_add _).symm
  | ⟨1, _⟩ => show o + _ = o + p + _; rw [e1]; exact (Nat.add_assoc _ _ _).symm

/-- What the body leaves in the queries' block. -/
theorem out3_eq (x0 : Vec Ideal S256x1024 .f32) (x1 : Vec Ideal S1x1024 .f32) (x2 : Vec Ideal S1024x3712 .bf16) :
    out0_3 x0 x1 x2 = block (N := 1024) fq 0 (by omega) x0 x1 x2 := by
  unfold out0_3
  rw [View.ld_unit_zero (by decide), View.ld_unit_zero (by decide)]
  funext y
  refine View.canon_apply_of_pieces _ _ (List.forall_mem_cons.2 ⟨?_, List.forall_mem_cons.2 ⟨?_, List.forall_mem_nil _⟩⟩) y (cover0_3 _ _ y)
  · exact piece (N := 1024) (n := 512) fq 0 512 (by omega) x0 x1 x2 _ inb_S256x1024_S256x512_0_512 inb_S1024x3712_S1024x512_0_512 fun y => by
      simp only [k0_pay4, shapeCast_self]; rfl
  · exact piece (N := 1024) (n := 512) fq 0 0 (by omega) x0 x1 x2 _ inb_S256x1024_S256x512_0_0 inb_S1024x3712_S1024x512_0_0 fun y => by
      simp only [k0_pay3, shapeCast_self]; rfl

/-- What the body leaves in the output gates' block. -/
theorem out4_eq (x0 : Vec Ideal S256x1024 .f32) (x1 : Vec Ideal S1x1024 .f32) (x2 : Vec Ideal S1024x3712 .bf16) :
    out0_4 x0 x1 x2 = block (N := 1024) fs 1024 (by omega) x0 x1 x2 := by
  unfold out0_4 k0_pay14
  rw [View.ld_unit_zero (by decide), View.ld_unit_zero (by decide)]
  funext y
  refine View.canon_apply_of_pieces _ _ (List.forall_mem_cons.2 ⟨?_, List.forall_mem_cons.2 ⟨?_, List.forall_mem_nil _⟩⟩) y (cover0_4 _ _ y)
  · exact piece (N := 1024) (n := 512) fs 1024 512 (by omega) x0 x1 x2 _ inb_S256x1024_S256x512_0_512 inb_S1024x3712_S1024x512_0_1536 fun y => by
      simp only [k0_pay8, shapeCast_self]; rfl
  · exact piece (N := 1024) (n := 512) fs 1024 0 (by omega) x0 x1 x2 _ inb_S256x1024_S256x512_0_0 inb_S1024x3712_S1024x512_0_1024 fun y => by
      simp only [k0_pay7, k0_pay5, k0_pay6, shapeCast_self]; rfl

/-- What the body leaves in the first keys' and values' block. -/
theorem out5_eq (x0 : Vec Ideal S256x1024 .f32) (x1 : Vec Ideal S1x1024 .f32) (x2 : Vec Ideal S1024x3712 .bf16) :
    out0_5 x0 x1 x2 = block (N := 1024) id 2048 (by omega) x0 x1 x2 := by
  unfold out0_5 k0_pay14
  rw [View.ld_unit_zero (by decide), View.ld_unit_zero (by decide)]
  funext y
  refine View.canon_apply_of_pieces _ _ (List.forall_mem_cons.2 ⟨?_, List.forall_mem_cons.2 ⟨?_, List.forall_mem_nil _⟩⟩) y (cover0_5 _ _ y)
  · exact piece (N := 1024) (n := 512) id 2048 512 (by omega) x0 x1 x2 _ inb_S256x1024_S256x512_0_512 inb_S1024x3712_S1024x512_0_2560 fun y => by
      simp only [k0_pay10, shapeCast_self]; rfl
  · exact piece (N := 1024) (n := 512) id 2048 0 (by omega) x0 x1 x2 _ inb_S256x1024_S256x512_0_0 inb_S1024x3712_S1024x512_0_2048 fun y => by
      simp only [k0_pay9, shapeCast_self]; rfl

/-- What the body leaves in the block of the last 512 of those columns. -/
theorem out6_eq (x0 : Vec Ideal S256x1024 .f32) (x1 : Vec Ideal S1x1024 .f32) (x2 : Vec Ideal S1024x3712 .bf16) :
    out0_6 x0 x1 x2 = block (N := 512) id 3072 (by omega) x0 x1 x2 := by
  unfold out0_6 k0_pay14
  rw [View.ld_unit_zero (by decide), View.ld_unit_zero (by decide)]
  funext y
  refine View.canon_apply_of_pieces _ _ (List.forall_mem_cons.2 ⟨?_, List.forall_mem_nil _⟩) y (cover0_6 _ y)
  exact piece (N := 512) (n := 512) id 3072 0 (by omega) x0 x1 x2 _ inb_S256x512_S256x512_0_0 inb_S1024x3712_S1024x512_0_3072 fun y => by
    simp only [k0_pay12, shapeCast_self]; rfl

/-- What the body leaves in the block of the window's keys and values. -/
theorem out7_eq (x0 : Vec Ideal S256x1024 .f32) (x1 : Vec Ideal S1x1024 .f32) (x2 : Vec Ideal S1024x3712 .bf16) :
    out0_7 x0 x1 x2 = block (N := 1024) id 2560 (by omega) x0 x1 x2 := by
  unfold out0_7 k0_pay14
  rw [View.ld_unit_zero (by decide), View.ld_unit_zero (by decide)]
  funext y
  refine View.canon_apply_of_pieces _ _ (List.forall_mem_cons.2 ⟨?_, List.forall_mem_cons.2 ⟨?_, List.forall_mem_nil _⟩⟩) y (cover0_7 _ _ y)
  · exact piece (N := 1024) (n := 512) id 2560 512 (by omega) x0 x1 x2 _ inb_S256x1024_S256x512_0_512 inb_S1024x3712_S1024x512_0_3072 fun y => by
      simp only [k0_pay13, k0_pay12, shapeCast_self]; rfl
  · exact piece (N := 1024) (n := 512) id 2560 0 (by omega) x0 x1 x2 _ inb_S256x1024_S256x512_0_0 inb_S1024x3712_S1024x512_0_2560 fun y => by
      simp only [k0_pay11, k0_pay10, shapeCast_self]; rfl

/-- What the body leaves in the branch gates' block. -/
theorem out8_eq (x0 : Vec Ideal S256x1024 .f32) (x1 : Vec Ideal S1x1024 .f32) (x2 : Vec Ideal S1024x3712 .bf16) :
    out0_8 x0 x1 x2 = block (N := 128) fl 3584 (by omega) x0 x1 x2 := by
  unfold out0_8 k0_pay14
  rw [View.ld_unit_zero (by decide), View.ld_unit_zero (by decide)]
  funext y
  refine View.canon_apply_of_pieces _ _ (List.forall_mem_cons.2 ⟨?_, List.forall_mem_nil _⟩) y (cover0_8 _ y)
  exact piece (N := 128) (n := 128) fl 3584 0 (by omega) x0 x1 x2 _ inb_S256x128_S256x128_0_0 inb_S1024x3712_S1024x128_0_3584 fun y => by
    simp only [k0_pay1, shapeCast_self]; rfl

end Cert.Proof.NsaInproj
-- ==== Proof.NsaInprojB.lean ====
module
public import proofs.«01_k».proof.Proof.NsaInprojA
public import Idealize.ShloMosaic.Lib.KernelVsHost
@[expose] public section
noncomputable section
/-! # The six result arrays of the attention layers' input projection, element by element -/
namespace Cert.Proof.NsaInproj
open Cert.Kernel3Ideal Cert.Kernel3Ideal.Gen
open Idealize.ShloMosaic Idealize.ShloMosaic.TcCoe Idealize.ShloMosaic.Tactic
open Cert.Proof.RowMath Cert.Proof.Layout
open Idealize.ShloMosaic.Pipeline (Dat Cfg Window)
open scoped BigOperators

variable (m : (ℓ : Loc nD τ sig) → Buf (Elt Ideal) ℓ)

/-- Column `j` of the weights, zero past the last one. -/
def ucol (w : Vec Ideal S1024x3632 .f32) (j : Nat) : Fin 1024 → EReal := fun k => if h : j < 3632 then w (ix2 k ⟨j, h⟩) else 0

/-- An element of a result, from the arguments. -/
def el (f : EReal → EReal) (x : Vec Ideal S4x4096x1024 .f32) (g : Vec Ideal S1024 .f32) (w : Vec Ideal S1024x3632 .f32) (r : Fin 16384) (j : Nat) : EReal :=
  f (proj (fun k => x (ix3 ⟨r.val / 4096, by omega⟩ ⟨r.val % 4096, by omega⟩ k)) (fun k => g (ix1 k)) (ucol w j))

/-- A result of width `N` whose columns start at `o`, from the arguments. -/
def result {N : Nat} (f : EReal → EReal) (o : Nat) (x : Vec Ideal S4x4096x1024 .f32) (g : Vec Ideal S1024 .f32)
    (w : Vec Ideal S1024x3632 .f32) (i : Shape.Idx ⟨2, ![16384, N]⟩) : EReal := el f x g w (i 0) (o + (i 1).val)

/-- The rows reach the call with batch and sequence as one axis. -/
theorem V_v2 (c : Dev nD) : (V m c main_v2 : Vec Ideal S16384x1024 .f32)
    = shapeCast S16384x1024 (m ((c : Thread nD τ).loc main_arg0) : Vec Ideal S4x4096x1024 .f32) shapeCasts_S4x4096x1024_S16384x1024 := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results_simp <;> rfl

/-- The gain reaches the call as one row. -/
theorem V_v3 (c : Dev nD) : (V m c main_v3 : Vec Ideal S1x1024 .f32)
    = shapeCast S1x1024 (m ((c : Thread nD τ).loc main_arg1) : Vec Ideal S1024 .f32) shapeCasts_S1024_S1x1024 := by
  show StableHlo.after (List.flatten [hostOps0, hostOps0_1, hostOps0_2]) (fun b => m (c, b)) main_v3 = _
  simp only [hostOps0, hostOps0_1, hostOps0_2, List.flatten_cons, List.flatten_nil, List.append_nil, List.cons_append, List.nil_append]
  after_results_simp <;> rfl

/-- The weights reach the call padded with zero columns. -/
theorem V_v1 (c : Dev nD) : (V m c main_v1 : Vec Ideal S1024x3712 .bf16)
    = pad S1024x3712 ![0, 0] ![0, 80] ![0, 0] (m ((c : Thread nD τ).loc main_arg2) : Vec Ideal S1024x3632 .f32)
        (sitofp (F := Ideal) .f32 (constantI S_ 32 0#32)) pads_S1024x3632_S1024x3712_000_0800 h_S_ := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append]
  after_results_simp <;> rfl

/-- A column of the padded weights is a column of the weights, or zero. -/
theorem pad_col (w : Vec Ideal S1024x3632 .f32) (j : Nat) (hj : j < 3712) (k : Fin 1024) :
    pad S1024x3712 ![0, 0] ![0, 80] ![0, 0] w (sitofp (F := Ideal) .f32 (constantI S_ 32 0#32)) pads_S1024x3632_S1024x3712_000_0800 h_S_
      (ix2 k ⟨j, hj⟩) = ucol w j k := by
  unfold ucol
  by_cases h : j < 3632
  · rw [dif_pos h]
    refine pad_apply_of_inside _ _ _ w _ _ _ _ (ix2 k ⟨j, h⟩) fun a => ?_
    match a with
    | ⟨0, _⟩ => show k.val = 0 + k.val * 1; omega
    | ⟨1, _⟩ => show j = 0 + j * 1; omega
  · rw [dif_neg h]
    refine (pad_apply_of_not_inside _ _ _ w _ _ _ _ 1 fun hh => h ?_).trans ?_
    · have := hh.2.2
      change (j - 0) / 1 < 3632 at this
      omega
    · show (((0#32 : BitVec 32).toInt : ℝ) : EReal) = 0
      simp

/-- Where each window's block of a point lies. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The rows' block of a point, at an element. -/
theorem read0 (c : Dev nD) (t : Fin cfg0.N) (r : Fin 256) (j : Fin 1024) (R : Fin 16384) (hR : R.val = 256 * t.val + r.val) :
    (iblk m c 0 t : Vec Ideal S256x1024 .f32) (ix2 r j)
      = (m ((c : Thread nD τ).loc main_arg0) : Vec Ideal S4x4096x1024 .f32)
          (ix3 ⟨R.val / 4096, by omega⟩ ⟨R.val % 4096, by omega⟩ j) := by
  have e : (iblk m c 0 t : Vec Ideal S256x1024 .f32) (ix2 r j) = (V m c main_v2 : Vec Ideal S16384x1024 .f32) (ix2 R j) := by
    blk_simp [iblk, idx]
    refine congrArg (V m c main_v2 : Vec Ideal S16384x1024 .f32) (funext fun a => Fin.ext ?_)
    match a with
    | ⟨0, _⟩ => blk_simp [idx]; show t.val * 256 + r.val = R.val; omega
    | ⟨1, _⟩ => blk_simp [idx]
  rw [e, V_v2]
  exact rows_apply (m ((c : Thread nD τ).loc main_arg0) : Vec Ideal S4x4096x1024 .f32) _ (ix2 R j) _ _ j
    (by show R.val = 4096 * (R.val / 4096) + R.val % 4096; omega) rfl

/-- The gain's block of a point is the argument. -/
theorem read1 (c : Dev nD) (t : Fin cfg0.N) (j : Fin 1024) :
    (iblk m c 1 t : Vec Ideal S1x1024 .f32) (ix2 0 j) = (m ((c : Thread nD τ).loc main_arg1) : Vec Ideal S1024 .f32) (ix1 j) := by
  have e : (iblk m c 1 t : Vec Ideal S1x1024 .f32) (ix2 0 j) = (V m c main_v3 : Vec Ideal S1x1024 .f32) (ix2 0 j) := by
    blk_simp [iblk, idx]
    refine congrArg (V m c main_v3 : Vec Ideal S1x1024 .f32) (funext fun a => Fin.ext ?_)
    match a with
    | ⟨0, _⟩ => blk_simp [idx]
    | ⟨1, _⟩ => blk_simp [idx]
  rw [e, V_v3]
  exact row_apply (m ((c : Thread nD τ).loc main_arg1) : Vec Ideal S1024 .f32) _ j

/-- A column of the weights' block of a point is the argument's, or zero. -/
theorem read2 (c : Dev nD) (t : Fin cfg0.N) (j : Nat) (hj : j < 3712) :
    wcol (iblk m c 2 t : Vec Ideal S1024x3712 .bf16) j hj = ucol (m ((c : Thread nD τ).loc main_arg2) : Vec Ideal S1024x3632 .f32) j := by
  funext k
  unfold wcol
  refine Eq.trans ?_ ((congrFun (V_v1 m c) (ix2 k ⟨j, hj⟩)).trans (pad_col _ j hj k))
  blk_simp [iblk, idx]
  refine congrArg (V m c main_v1 : Vec Ideal S1024x3712 .bf16) (funext fun a => Fin.ext ?_)
  match a with
  | ⟨0, _⟩ => blk_simp [idx]
  | ⟨1, _⟩ => blk_simp [idx]

/-- Equal rows and columns give equal products. -/
theorem proj_congr {a a' b b' w w' : Fin 1024 → EReal} (h1 : a = a') (h2 : b = b') (h3 : w = w') :
    proj a b w = proj a' b' w' := by subst h1 h2 h3; rfl

/-- What the body leaves at a point is the result at the element's place in the array. -/
theorem block_eq {N : Nat} (c : Dev nD) (t : Fin cfg0.N) (f : EReal → EReal) (o : Nat) (ho : o + N ≤ 3712) (y : Shape.Idx ⟨2, ![256, N]⟩)
    (i : Shape.Idx ⟨2, ![16384, N]⟩) (h0 : (i 0).val = t.val * 256 + (y 0).val) (h1 : (i 1).val = (y 1).val) :
    block f o ho (iblk m c 0 t) (iblk m c 1 t) (iblk m c 2 t) y
      = result f o (m ((c : Thread nD τ).loc main_arg0)) (m ((c : Thread nD τ).loc main_arg1)) (m ((c : Thread nD τ).loc main_arg2)) i := by
  unfold block result el
  refine congrArg f (proj_congr (funext fun j => read0 m c t (y 0) j (i 0) (by omega)) (funext fun j => read1 m c t j) ?_)
  exact (read2 m c t _ _).trans (congrArg (ucol _) (congrArg (o + ·) h1.symm))

/-- The six arrays at the end of a run. -/
theorem final (c : Dev nD) :
    let x := m ((c : Thread nD τ).loc main_arg0); let g := m ((c : Thread nD τ).loc main_arg1); let w := m ((c : Thread nD τ).loc main_arg2)
    (dats m 0 c).arrAt 3 cfg0.N = result (N := 1024) fq 0 x g w ∧ (dats m 0 c).arrAt 4 cfg0.N = result (N := 1024) fs 1024 x g w
      ∧ (dats m 0 c).arrAt 5 cfg0.N = result (N := 1024) id 2048 x g w ∧ (dats m 0 c).arrAt 6 cfg0.N = result (N := 512) id 3072 x g w
      ∧ (dats m 0 c).arrAt 7 cfg0.N = result (N := 1024) id 2560 x g w ∧ (dats m 0 c).arrAt 8 cfg0.N = result (N := 128) fl 3584 x g w := by
  refine ⟨(dats m 0 c).arrAt_eq_of_covers 3 _ (by decide +kernel) fun t hf y => ?_, (dats m 0 c).arrAt_eq_of_covers 4 _ (by decide +kernel) fun t hf y => ?_,
    (dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    blk_simp
    first
      | rw [after0_3, out3_eq] | rw [after0_4, out4_eq] | rw [after0_5, out5_eq] | rw [after0_6, out6_eq] | rw [after0_7, out7_eq] | rw [after0_8, out8_eq]
    exact block_eq m c t _ _ _ y _ (by blk_simp [idx]) (by blk_simp [idx])

end Cert.Proof.NsaInproj
-- ==== Proof.NsaInprojC.lean ====
module
public import proofs.«01_k».proof.Proof.Gen.Reference3Ideal.Read
public import proofs.«01_k».proof.Proof.InprojC
public import Idealize.ShloMosaic.Lib.KernelVsHost
public import Idealize.ShloMosaic.Lib.Pointwise.Tactic
@[expose] public section
noncomputable section
/-! # The reference of the attention layers' input projection, element by element -/
namespace Cert.Proof.NsaInprojRef
open Cert.Reference3Ideal Cert.Reference3Ideal.Read
open Idealize.ShloMosaic Idealize.ShloMosaic.TcCoe Idealize.ShloMosaic.Tactic
open Cert.Proof.RowMath Cert.Proof.Layout
open scoped BigOperators

/-- The reference's normalised rows: the same lines as the convolution's. -/
theorem v12_apply (x : Vec Ideal S4x4096x1024 .f32) (g : Vec Ideal S1024 .f32) (b : Fin 4) (s : Fin 4096) (k : Fin 1024) :
    val_main_v12 (F := Ideal) x g (ix3 b s k) = nrm (fun j => x (ix3 b s j)) (fun j => g (ix1 j)) k :=
  InprojRef.v12_apply x g b s k

/-- The reference's product. -/
theorem v13_apply (x : Vec Ideal S4x4096x1024 .f32) (g : Vec Ideal S1024 .f32) (w : Vec Ideal S1024x3632 .f32) (b : Fin 4) (s : Fin 4096) (q : Fin 3632) :
    val_main_v13 (F := Ideal) x g w (ix3 b s q) = proj (fun j => x (ix3 b s j)) (fun j => g (ix1 j)) (fun k => w (ix2 k q)) := by
  rw [val_main_v13_apply]
  refine Finset.sum_congr rfl fun k _ => ?_
  have e1 : lidx_main_v13 (ix3 b s q) k = ix3 b s k := by
    funext a; match a with | ⟨0, _⟩ => rfl | ⟨1, _⟩ => rfl | ⟨2, _⟩ => rfl
  have e2 : ridx_main_v13 (ix3 b s q) k = ix2 k q := by
    funext a; match a with | ⟨0, _⟩ => rfl | ⟨1, _⟩ => rfl
  rw [e1, e2, v12_apply]

/-- Column `j` of the product at a row, zero past the last one. -/
def pj (x : Vec Ideal S4x4096x1024 .f32) (g : Vec Ideal S1024 .f32) (w : Vec Ideal S1024x3632 .f32) (b : Fin 4) (s : Fin 4096) (j : Nat) : EReal :=
  if h : j < 3632 then proj (fun j => x (ix3 b s j)) (fun j => g (ix1 j)) (fun k => w (ix2 k ⟨j, h⟩)) else 0

/-- The reference's product at an index given by its coordinates. -/
theorem v13_at (x : Vec Ideal S4x4096x1024 .f32) (g : Vec Ideal S1024 .f32) (w : Vec Ideal S1024x3632 .f32) (i : S4x4096x3632.Idx) (b : Fin 4) (s : Fin 4096) (j : Nat) (hj : j < 3632)
    (h0 : (i 0).val = b.val) (h1 : (i 1).val = s.val) (h2 : (i 2).val = j) : val_main_v13 (F := Ideal) x g w i = pj x g w b s j := by
  have e : i = ix3 b s ⟨j, hj⟩ := by
    funext a
    match a with
    | ⟨0, _⟩ => exact Fin.ext h0
    | ⟨1, _⟩ => exact Fin.ext h1
    | ⟨2, _⟩ => exact Fin.ext h2
  unfold pj
  rw [e, v13_apply, dif_pos hj]

/-- The padded gates: a column of the product, or zero. -/
theorem v20_apply (x : Vec Ideal S4x4096x1024 .f32) (g : Vec Ideal S1024 .f32) (w : Vec Ideal S1024x3632 .f32) (b : Fin 4) (s : Fin 4096) (q : Nat) (hq : q < 128) :
    val_main_v20 (F := Ideal) x g w (ix3 b s ⟨q, hq⟩) = pj x g w b s (3584 + q) := by
  unfold val_main_v20
  by_cases h : q < 48
  · refine (pad_apply_of_inside _ _ _ (val_main_v17 (F := Ideal) x g w) _ _ _ _ (ix3 b s ⟨q, h⟩) fun a => ?_).trans ?_
    · match a with
      | ⟨0, _⟩ => show b.val = 0 + b.val * 1; omega
      | ⟨1, _⟩ => show s.val = 0 + s.val * 1; omega
      | ⟨2, _⟩ => show q = 0 + q * 1; omega
    · rw [val_main_v17_apply]
      exact v13_at x g w _ b s (3584 + q) (by omega) rfl rfl rfl
  · refine (pad_apply_of_not_inside _ _ _ (val_main_v17 (F := Ideal) x g w) _ _ _ _ 2 fun hh => h ?_).trans ?_
    · have := hh.2.2
      change (q - 0) / 1 < 48 at this
      omega
    · unfold pj
      rw [dif_neg (by omega)]
      show (((0#32 : BitVec 32).toInt : ℝ) : EReal) = 0
      simp

variable (x : Vec Ideal S4x4096x1024 .f32) (g : Vec Ideal S1024 .f32) (w : Vec Ideal S1024x3632 .f32) (b : Fin 4) (s : Fin 4096)

/-- The queries at an element. -/
theorem v28_apply (i : S16384x1024.Idx) (h0 : (i 0).val = 4096 * b.val + s.val) :
    val_main_v28 (F := Ideal) x g w i = fq (pj x g w b s (0 + (i 1).val)) := by
  refine (rows_apply (val_main_v27 (F := Ideal) x g w) _ i b s (i 1) h0 rfl).trans ?_
  have hi : (i 1).val < 1024 := (i 1).isLt
  rw [val_main_v27_apply, val_main_v19_apply, val_main_v14_apply, val_main_v18_apply, v13_at x g w _ b s (0 + (i 1).val) (by omega) rfl rfl (Nat.zero_add _).symm]
  rfl

/-- The output gates at an element. -/
theorem v30_apply (i : S16384x1024.Idx) (h0 : (i 0).val = 4096 * b.val + s.val) :
    val_main_v30 (F := Ideal) x g w i = fs (pj x g w b s (1024 + (i 1).val)) := by
  refine (rows_apply (val_main_v29 (F := Ideal) x g w) _ i b s (i 1) h0 rfl).trans ?_
  have hi : (i 1).val < 1024 := (i 1).isLt
  rw [val_main_v29_apply, val_main_call1_v5_apply, val_main_call1_v4_apply, val_main_call1_v3_apply, val_main_call1_v2_apply, val_main_call1_v1_apply,
    val_main_call1_v0_apply, val_main_v15_apply, v13_at x g w _ b s (1024 + (i 1).val) (by omega) rfl rfl rfl]
  show _ * Ideal.div (Ideal.ofBits .f32 0x3F800000#32) (Ideal.ofBits .f32 0x3F800000#32 + _) = _
  rw [Ideal.ofBits_one_f32]
  rfl

/-- Columns 2048 to 3071 of the product, at an element. -/
theorem v32_apply (i : S16384x1024.Idx) (h0 : (i 0).val = 4096 * b.val + s.val) :
    val_main_v32 (F := Ideal) x g w i = pj x g w b s (2048 + (i 1).val) := by
  refine (rows_apply (val_main_v31 (F := Ideal) x g w) _ i b s (i 1) h0 rfl).trans ?_
  have hi : (i 1).val < 1024 := (i 1).isLt
  rw [val_main_v31_apply, val_main_v16_apply]
  exact v13_at x g w _ b s _ (by omega) rfl rfl rfl

/-- Columns 3072 to 3583 of the product, at an element. -/
theorem v34_apply (i : S16384x512.Idx) (h0 : (i 0).val = 4096 * b.val + s.val) :
    val_main_v34 (F := Ideal) x g w i = pj x g w b s (3072 + (i 1).val) := by
  refine (rows_apply (val_main_v33 (F := Ideal) x g w) _ i b s (i 1) h0 rfl).trans ?_
  have hi : (i 1).val < 512 := (i 1).isLt
  rw [val_main_v33_apply, val_main_v16_apply]
  exact v13_at x g w _ b s _ (by omega) rfl rfl (by show 2048 + (1024 + (i 1).val) = 3072 + (i 1).val; omega)

/-- Columns 2560 to 3583 of the product, at an element. -/
theorem v37_apply (i : S16384x1024.Idx) (h0 : (i 0).val = 4096 * b.val + s.val) :
    val_main_v37 (F := Ideal) x g w i = pj x g w b s (2560 + (i 1).val) := by
  refine (rows_apply (val_main_v36 (F := Ideal) x g w) _ i b s (i 1) h0 rfl).trans ?_
  have hi : (i 1).val < 1024 := (i 1).isLt
  rw [val_main_v36_apply, val_main_v35_apply, val_main_v16_apply]
  exact v13_at x g w _ b s _ (by omega) rfl rfl (by show 2048 + (512 + (i 1).val) = 2560 + (i 1).val; omega)

/-- The branch gates at an element. -/
theorem v38_apply (i : S16384x128.Idx) (h0 : (i 0).val = 4096 * b.val + s.val) :
    val_main_v38 (F := Ideal) x g w i = fl (pj x g w b s (3584 + (i 1).val)) := by
  refine (rows_apply (val_main_v26 (F := Ideal) x g w) _ i b s (i 1) h0 rfl).trans ?_
  rw [val_main_v26_apply, val_main_v25_apply, val_main_v24_apply, val_main_v23_apply, val_main_v22_apply, val_main_v21_apply]
  refine (congrArg (fun p => Ideal.div (Ideal.ofBits .f32 0x3F800000#32) (Ideal.ofBits .f32 0x3F800000#32 + Ideal.exp (-p)))
    (v20_apply x g w b s (i 1).val (i 1).isLt)).trans ?_
  rw [Ideal.ofBits_one_f32]
  rfl

end Cert.Proof.NsaInprojRef
-- ==== Proof.NsaInprojD.lean ====
module
public import proofs.«01_k».proof.Defs
public import proofs.«01_k».proof.Proof.NsaInprojB
public import proofs.«01_k».proof.Proof.NsaInprojC
public import proofs.«01_k».proof.Proof.Gen.Reference3Ideal.Run
@[expose] public section
noncomputable section
/-! # The attention layers' input projection equals its reference -/
namespace Cert.Proof.NsaInproj
open Idealize.ShloMosaic Idealize.ShloMosaic.TcCoe Idealize.SL.Sem
open Cert.Proof.RowMath
open scoped BigOperators

/-- A row times a padded column is the column of the product, or zero. -/
theorem pj_eq (x : Vec Ideal Cert.Reference3Ideal.S4x4096x1024 .f32) (g : Vec Ideal Cert.Reference3Ideal.S1024 .f32)
    (w : Vec Ideal Cert.Reference3Ideal.S1024x3632 .f32) (b : Fin 4) (s : Fin 4096) (j : Nat) :
    NsaInprojRef.pj x g w b s j = proj (fun k => x (ix3 b s k)) (fun k => g (ix1 k)) (ucol w j) := by
  unfold NsaInprojRef.pj
  by_cases h : j < 3632
  · rw [dif_pos h]
    exact congrArg (proj _ _) (funext fun k => by unfold ucol; rw [dif_pos h])
  · rw [dif_neg h]
    refine (Finset.sum_eq_zero fun k _ => ?_).symm
    unfold ucol
    rw [dif_neg h, mul_zero]

/-- An array whose elements are `f` of the reference's products is the result. -/
theorem ref_eq {N : Nat} (f : EReal → EReal) (o : Nat) (x : Vec Ideal Cert.Reference3Ideal.S4x4096x1024 .f32) (g : Vec Ideal Cert.Reference3Ideal.S1024 .f32)
    (w : Vec Ideal Cert.Reference3Ideal.S1024x3632 .f32) (v : Shape.Idx ⟨2, ![16384, N]⟩ → EReal)
    (h : ∀ (b : Fin 4) (s : Fin 4096) (i : Shape.Idx ⟨2, ![16384, N]⟩), (i 0).val = 4096 * b.val + s.val
      → v i = f (NsaInprojRef.pj x g w b s (o + (i 1).val))) : v = result f o x g w := by
  funext i
  have h0 : (i 0).val < 16384 := (i 0).isLt
  refine (h ⟨(i 0).val / 4096, by omega⟩ ⟨(i 0).val % 4096, by omega⟩ i
    (by show (i 0).val = 4096 * ((i 0).val / 4096) + (i 0).val % 4096; omega)).trans ?_
  rw [pj_eq]
  rfl

open Cert.Kernel3Ideal in
/-- The attention layers' input projection's six results are the reference's. -/
theorem algebraic : Cert.algebraic_Kernel3Ideal_Reference3Ideal := by
  intro m g m' g' _ harg
  let R (N : Nat) (f : EReal → EReal) (o : Nat) (c : Dev nD) : Shape.Idx ⟨2, ![16384, N]⟩ → EReal :=
    result f o (m ((c.tc : Thread nD τ).loc main_arg0)) (m ((c.tc : Thread nD τ).loc main_arg1)) (m ((c.tc : Thread nD τ).loc main_arg2))
  refine ⟨R 1024 fq 0, R 1024 fs 1024, R 1024 id 2048, R 512 id 3072, R 1024 id 2560, R 128 fl 3584, ?_, ?_⟩
  · refine (θ_run _ _ _).mono (fun r h c => ?_) (Cert.Kernel3Ideal.Value.run_blocks m g)
    obtain ⟨h3, h4, h5, h6, h7, h8, ha⟩ := h c
    obtain ⟨f3, f4, f5, f6, f7, f8⟩ := final m c
    exact ⟨h3.trans f3, h4.trans f4, h5.trans f5, h6.trans f6, h7.trans f7, h8.trans f8, ha⟩
  · refine (θ_run _ _ _).mono (fun r h c => ?_) (Cert.Reference3Ideal.Value.run m' g')
    obtain ⟨k0, k1, k2, k3, k4, k5, ha⟩ := h c
    obtain ⟨e0, e1, e2⟩ := harg c
    have args (N : Nat) (f : EReal → EReal) (o : Nat) : result f o
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = R N f o c := by
      rw [e0, e1, e2]
    exact ⟨k0.trans ((Cert.Reference3Ideal.Read.val_main_v28_eq _ _ _).trans ((ref_eq fq 0 _ _ _ _ (NsaInprojRef.v28_apply _ _ _)).trans (args 1024 fq 0))),
      k1.trans ((Cert.Reference3Ideal.Read.val_main_v30_eq _ _ _).trans ((ref_eq fs 1024 _ _ _ _ (NsaInprojRef.v30_apply _ _ _)).trans (args 1024 fs 1024))),
      k2.trans ((Cert.Reference3Ideal.Read.val_main_v32_eq _ _ _).trans ((ref_eq id 2048 _ _ _ _ (NsaInprojRef.v32_apply _ _ _)).trans (args 1024 id 2048))),
      k3.trans ((Cert.Reference3Ideal.Read.val_main_v34_eq _ _ _).trans ((ref_eq id 3072 _ _ _ _ (NsaInprojRef.v34_apply _ _ _)).trans (args 512 id 3072))),
      k4.trans ((Cert.Reference3Ideal.Read.val_main_v37_eq _ _ _).trans ((ref_eq id 2560 _ _ _ _ (NsaInprojRef.v37_apply _ _ _)).trans (args 1024 id 2560))),
      k5.trans ((Cert.Reference3Ideal.Read.val_main_v38_eq _ _ _).trans ((ref_eq fl 3584 _ _ _ _ (NsaInprojRef.v38_apply _ _ _)).trans (args 128 fl 3584))), ha⟩

end Cert.Proof.NsaInproj
-- ==== Proof.OutprojA.lean ====
module
public import proofs.«01_k».proof.Proof.Gen.Kernel4Ideal.Value
public import proofs.«01_k».proof.Proof.InprojA
@[expose] public section
noncomputable section
/-! # The result array of the last layer's output projection, element by element -/
namespace Cert.Proof.Outproj
open Cert.Kernel4Ideal Cert.Kernel4Ideal.Gen
open Idealize.ShloMosaic Idealize.ShloMosaic.TcCoe Idealize.ShloMosaic.Tactic
open Cert.Proof.RowMath Cert.Proof.Layout
open Idealize.ShloMosaic.Pipeline (Dat Cfg Window)
open scoped BigOperators

/-- A row after the projection: the residual row plus the mixer's row times the weights. -/
def resid (a x : Fin 1024 → EReal) (w : Fin 1024 → Fin 1024 → EReal) (j : Fin 1024) : EReal := x j + ∑ k : Fin 1024, a k * w k j

/-- The result at an element, from the arguments: the row after the projection, normalised by the final gain. -/
def res (a x : Vec Ideal S1024x1024 .f32) (w : Vec Ideal S1024x1024 .f32) (g : Vec Ideal S1024 .f32) : Vec Ideal S1024x1024 .f32 := fun i =>
  nrm (resid (fun k => a (ix2 (i 0) k)) (fun k => x (ix2 (i 0) k)) (fun k j => w (ix2 k j))) (fun k => g (ix1 k)) (i 1)

/-- The product of a block's rows with the weights, at an element. -/
theorem product_apply (a : FVec Ideal S256x1024 .bf16) (w : FVec Ideal S1024x1024 .bf16) (r : Fin 256) (q : Fin 1024) :
    matmul dot_S256x1024_S1024x1024_S256x1024_1_0_0_1_n_n none a w (constant S256x1024 .f32 0x00000000#32) (ix2 r q)
      = ∑ k : Fin 1024, a (ix2 r k) * w (ix2 k q) := by
  refine (Ideal.matmul_plain_apply none a w _ r q).trans ?_
  show Ideal.ofBits .f32 0x00000000#32 + _ = _
  rw [Ideal.ofBits_zero_f32, zero_add]
  refine Finset.sum_congr rfl fun k _ => congrArg₂ (· * ·) (congrArg a ?_) (congrArg w ?_)
  all_goals
    funext a
    match a with
    | ⟨0, _⟩ => rfl
    | ⟨1, _⟩ => rfl

/-- A block's rows after the projection. -/
def rows (x : FVec Ideal S256x1024 .f32) (a : FVec Ideal S256x1024 .bf16) (w : FVec Ideal S1024x1024 .bf16) : FVec Ideal S256x1024 .f32 :=
  addf x (matmul dot_S256x1024_S1024x1024_S256x1024_1_0_0_1_n_n none a w (constant S256x1024 .f32 0x00000000#32))

/-- The stored value is the input projection's normalised rows, taken of the rows after the projection. -/
theorem pay1_eq (x a : Vec Ideal S256x1024 .f32) (w : Vec Ideal S1024x1024 .bf16) (g : Vec Ideal S1x1024 .f32) :
    k0_pay1 (F := Ideal) x a w g = Cert.Kernel2Ideal.Gen.k0_pay3 (F := Ideal) (rows x a w) g := by
  simp only [k0_pay1, Cert.Kernel2Ideal.Gen.k0_pay3, shapeCast_self]; rfl

/-- What the body leaves in the result block, at an element. -/
theorem out4_apply (x0 x1 : Vec Ideal S256x1024 .f32) (x2 : Vec Ideal S1024x1024 .bf16) (x3 : Vec Ideal S1x1024 .f32) (r : Fin 256) (q : Fin 1024) :
    out0_4 x0 x1 x2 x3 (ix2 r q)
      = nrm (resid (fun k => x0 (ix2 r k)) (fun k => x1 (ix2 r k)) (fun k j => x2 (ix2 k j))) (fun k => x3 (ix2 0 k)) q := by
  unfold out0_4
  rw [View.ld_unit_zero (by decide), View.ld_unit_zero (by decide), View.ld_unit_zero (by decide), View.ld_unit_zero (by decide),
    View.canon_unit_zero (by decide), pay1_eq]
  refine (Inproj.pay3_apply _ x3 r q).trans (congrArg (nrm · _ q) (funext fun j => ?_))
  exact congrArg (x1 (ix2 r j) + ·) (product_apply x0 x2 r j)

end Cert.Proof.Outproj
-- ==== Proof.RowsRef.lean ====
module
public import proofs.«01_k».proof.Proof.Gen.Reference5Ideal.Read
public import proofs.«01_k».proof.Proof.RowMath
public import Idealize.ShloMosaic.Lib.Pointwise.Tactic
@[expose] public section
noncomputable section
/-! # The normalised rows of the references that take the sample's 1024 rows -/
namespace Cert.Proof.RowsRef
open Cert.Reference5Ideal Cert.Reference5Ideal.Read
open Idealize.ShloMosaic Idealize.ShloMosaic.TcCoe Idealize.ShloMosaic.Tactic
open Cert.Proof.RowMath
open scoped BigOperators

/-- The reference's normalised rows at an element. -/
theorem v12_apply (x : Vec Ideal S1024x1024 .f32) (g : Vec Ideal S1024 .f32) (r : Fin 1024) (k : Fin 1024) :
    val_main_v12 (F := Ideal) x g (ix2 r k) = nrm (fun j => x (ix2 r j)) (fun j => g (ix1 j)) k := by
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have e1 : ∀ j : Fin 1024, val_main_v0 (F := Ideal) x (idx_main_v1 (idx_main_v2 (idx_main_v8 (ix2 r k))) j) = x (ix2 r j) * x (ix2 r j) := fun j => by
    rw [val_main_v0_apply]
    have : idx_main_v1 (idx_main_v2 (idx_main_v8 (ix2 r k))) j = ix2 r j := by
      funext a; match a with | ⟨0, _⟩ => rfl | ⟨1, _⟩ => rfl
    rw [this]; rfl
  have e2 : idx_main_v10 (idx_main_v11 (ix2 r k)) = ix1 k := by
    funext a; match a with | ⟨0, _⟩ => rfl
  simp only [e1, e2]
  unfold nrm
  show x (ix2 r k) * Ideal.rsqrt (Ideal.div (Ideal.ofBits .f32 0x00000000#32 + _) _ + _) * _ = _
  rw [Ideal.ofBits_zero_f32, zero_add]
  rfl

end Cert.Proof.RowsRef
-- ==== Proof.OutprojB.lean ====
module
public import proofs.«01_k».proof.Defs
public import proofs.«01_k».proof.Proof.OutprojA
public import proofs.«01_k».proof.Proof.RowsRef
public import proofs.«01_k».proof.Proof.Gen.Reference4Ideal.Read
public import proofs.«01_k».proof.Proof.Gen.Reference4Ideal.Run
@[expose] public section
noncomputable section
/-! # The last layer's output projection equals its reference -/
namespace Cert.Proof.Outproj
open Cert.Kernel4Ideal Cert.Kernel4Ideal.Gen
open Idealize.ShloMosaic Idealize.ShloMosaic.TcCoe Idealize.ShloMosaic.Tactic Idealize.SL.Sem
open Cert.Proof.RowMath Cert.Proof.Layout
open Idealize.ShloMosaic.Pipeline (Dat Cfg Window)
open scoped BigOperators

variable (m : (ℓ : Loc nD τ sig) → Buf (Elt Ideal) ℓ)

/-- The weights reach the call as they are. -/
theorem V_v0 (c : Dev nD) : (V m c main_v0 : Vec Ideal S1024x1024 .bf16)
    = (m ((c : Thread nD τ).loc main_arg2) : Vec Ideal S1024x1024 .f32) := by
  show StableHlo.after hostOps0 (fun b => m (c, b)) main_v0 = _
  simp only [hostOps0]
  after_results_simp <;> rfl

/-- The gain reaches the call as one row. -/
theorem V_v1 (c : Dev nD) : (V m c main_v1 : Vec Ideal S1x1024 .f32)
    = shapeCast S1x1024 (m ((c : Thread nD τ).loc main_arg3) : Vec Ideal S1024 .f32) shapeCasts_S1024_S1x1024 := by
  show StableHlo.after hostOps0 (fun b => m (c, b)) main_v1 = _
  simp only [hostOps0]
  after_results_simp <;> rfl

/-- Where each window's block of a point lies. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- The mixer rows' block of a point, at an element. -/
theorem read0 (c : Dev nD) (t : Fin cfg0.N) (r : Fin 256) (j : Fin 1024) (R : Fin 1024) (hR : R.val = t.val * 256 + r.val) :
    (iblk m c 0 t : Vec Ideal S256x1024 .f32) (ix2 r j) = (m ((c : Thread nD τ).loc main_arg0) : Vec Ideal S1024x1024 .f32) (ix2 R j) := by
  refine Eq.trans ?_ (congrFun (V_main_arg0 m c) _)
  blk_simp [iblk, idx]
  refine congrArg (V m c main_arg0 : Vec Ideal S1024x1024 .f32) (funext fun a => Fin.ext ?_)
  match a with
  | ⟨0, _⟩ => blk_simp [idx]; exact hR.symm
  | ⟨1, _⟩ => blk_simp [idx]

/-- The residual rows' block of a point, at an element. -/
theorem read1 (c : Dev nD) (t : Fin cfg0.N) (r : Fin 256) (j : Fin 1024) (R : Fin 1024) (hR : R.val = t.val * 256 + r.val) :
    (iblk m c 1 t : Vec Ideal S256x1024 .f32) (ix2 r j) = (m ((c : Thread nD τ).loc main_arg1) : Vec Ideal S1024x1024 .f32) (ix2 R j) := by
  refine Eq.trans ?_ (congrFun (V_main_arg1 m c) _)
  blk_simp [iblk, idx]
  refine congrArg (V m c main_arg1 : Vec Ideal S1024x1024 .f32) (funext fun a => Fin.ext ?_)
  match a with
  | ⟨0, _⟩ => blk_simp [idx]; exact hR.symm
  | ⟨1, _⟩ => blk_simp [idx]

/-- The weights' block of a point is the argument. -/
theorem read2 (c : Dev nD) (t : Fin cfg0.N) (k j : Fin 1024) :
    (iblk m c 2 t : Vec Ideal S1024x1024 .bf16) (ix2 k j) = (m ((c : Thread nD τ).loc main_arg2) : Vec Ideal S1024x1024 .f32) (ix2 k j) := by
  refine Eq.trans ?_ (congrFun (V_v0 m c) _)
  blk_simp [iblk, idx]
  refine congrArg (V m c main_v0 : Vec Ideal S1024x1024 .bf16) (funext fun a => Fin.ext ?_)
  match a with
  | ⟨0, _⟩ => blk_simp [idx]
  | ⟨1, _⟩ => blk_simp [idx]

/-- The gain's block of a point is the argument. -/
theorem read3 (c : Dev nD) (t : Fin cfg0.N) (j : Fin 1024) :
    (iblk m c 3 t : Vec Ideal S1x1024 .f32) (ix2 0 j) = (m ((c : Thread nD τ).loc main_arg3) : Vec Ideal S1024 .f32) (ix1 j) := by
  refine Eq.trans ?_ ((congrFun (V_v1 m c) (ix2 0 j)).trans (row_apply (m ((c : Thread nD τ).loc main_arg3) : Vec Ideal S1024 .f32) _ j))
  blk_simp [iblk, idx]
  refine congrArg (V m c main_v1 : Vec Ideal S1x1024 .f32) (funext fun a => Fin.ext ?_)
  match a with
  | ⟨0, _⟩ => blk_simp [idx]
  | ⟨1, _⟩ => blk_simp [idx]

/-- Equal rows, weights and gains give equal results. -/
theorem row_congr {a a' x x' g g' : Fin 1024 → EReal} {w w' : Fin 1024 → Fin 1024 → EReal} (h1 : a = a') (h2 : x = x') (h3 : w = w') (h4 : g = g') :
    nrm (resid a x w) g = nrm (resid a' x' w') g' := by subst h1 h2 h3 h4; rfl

/-- What the body leaves at a point is the result at the element's place in the array. -/
theorem block_eq (c : Dev nD) (t : Fin cfg0.N) (y : S256x1024.Idx) (i : S1024x1024.Idx)
    (h0 : (i 0).val = t.val * 256 + (y 0).val) (h1 : (i 1).val = (y 1).val) :
    out0_4 (iblk m c 0 t) (iblk m c 1 t) (iblk m c 2 t) (iblk m c 3 t) y
      = res (m ((c : Thread nD τ).loc main_arg0)) (m ((c : Thread nD τ).loc main_arg1)) (m ((c : Thread nD τ).loc main_arg2))
          (m ((c : Thread nD τ).loc main_arg3)) i := by
  obtain ⟨r, q, rfl⟩ : ∃ (r : Fin 256) (q : Fin 1024), y = ix2 r q :=
    ⟨y 0, y 1, by funext a; match a with | ⟨0, _⟩ => rfl | ⟨1, _⟩ => rfl⟩
  have e1 : i 1 = q := Fin.ext h1
  unfold res
  rw [out4_apply, e1]
  exact congrFun (row_congr (funext fun k => read0 m c t r k (i 0) h0) (funext fun k => read1 m c t r k (i 0) h0)
    (funext fun k => funext fun j => read2 m c t k j) (funext fun k => read3 m c t k)) q

/-- The result array at the end of a run. -/
theorem final (c : Dev nD) : (dats m 0 c).arrAt 4 cfg0.N
    = res (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  exact block_eq m c t y _ (by blk_simp [idx]) (by blk_simp [idx])

open Cert.Reference4Ideal.Read in
/-- The reference is the result. -/
theorem ref_eq (a x w : Vec Ideal S1024x1024 .f32) (g : Vec Ideal S1024 .f32) : val_main_v14 (F := Ideal) a x w g = res a x w g := by
  funext i
  obtain ⟨r, q, rfl⟩ : ∃ (r q : Fin 1024), i = ix2 r q :=
    ⟨i 0, i 1, by funext a; match a with | ⟨0, _⟩ => rfl | ⟨1, _⟩ => rfl⟩
  have e : ∀ j : Fin 1024, val_main_v1 (F := Ideal) a x w (ix2 r j)
      = resid (fun k => a (ix2 r k)) (fun k => x (ix2 r k)) (fun k j => w (ix2 k j)) j := fun j => by
    rw [val_main_v1_apply, val_main_v0_apply]
    refine congrArg (x (ix2 r j) + ·) (Finset.sum_congr rfl fun k _ => congrArg₂ (· * ·) (congrArg a ?_) (congrArg w ?_))
    all_goals
      funext a
      match a with
      | ⟨0, _⟩ => rfl
      | ⟨1, _⟩ => rfl
  exact (RowsRef.v12_apply (val_main_v1 (F := Ideal) a x w) g r q).trans (congrArg (nrm · _ q) (funext e))

/-- The output projection's result is its reference's. -/
theorem algebraic : Cert.algebraic_Kernel4Ideal_Reference4Ideal := by
  intro m g m' g' _ harg
  refine ⟨fun c => res (m ((c.tc : Thread nD τ).loc main_arg0)) (m ((c.tc : Thread nD τ).loc main_arg1)) (m ((c.tc : Thread nD τ).loc main_arg2))
    (m ((c.tc : Thread nD τ).loc main_arg3)), ?_, ?_⟩
  · refine (θ_run _ _ _).mono (fun r h c => ?_) (Cert.Kernel4Ideal.Value.run_blocks m g)
    obtain ⟨h4, ha⟩ := h c
    exact ⟨h4.trans (final m c), ha⟩
  · refine (θ_run _ _ _).mono (fun r h c => ?_) (Cert.Reference4Ideal.Value.run m' g')
    obtain ⟨h14, ha⟩ := h c
    obtain ⟨e0, e1, e2, e3⟩ := harg c
    refine ⟨h14.trans ((Cert.Reference4Ideal.Read.val_main_v14_eq _ _ _ _).trans ((ref_eq _ _ _ _).trans ?_)), ha⟩
    rw [e0, e1, e2, e3]

end Cert.Proof.Outproj
-- ==== Proof.InprojSampleA.lean ====
module
public import proofs.«01_k».proof.Proof.Gen.Kernel5Ideal.Value
public import proofs.«01_k».proof.Proof.InprojB
@[expose] public section
noncomputable section
/-! # The two result arrays of the convolution layers' input projection on the sample's rows, element by element -/
namespace Cert.Proof.InprojSample
open Cert.Kernel5Ideal Cert.Kernel5Ideal.Gen
open Idealize.ShloMosaic Idealize.ShloMosaic.TcCoe Idealize.ShloMosaic.Tactic
open Cert.Proof.RowMath Cert.Proof.Layout Cert.Proof.Inproj
open Idealize.ShloMosaic.Pipeline (Dat Cfg Window)
open scoped BigOperators

/-- The body leaves in its two result blocks what it leaves on the prompt's rows. -/
theorem outs_eq (x0 : Vec Ideal S256x1024 .f32) (x1 : Vec Ideal S1x1024 .f32) (x2 : Vec Ideal S1024x6144 .bf16) :
    out0_3 x0 x1 x2 = Cert.Kernel2Ideal.Gen.out0_3 x0 x1 x2 ∧ out0_4 x0 x1 x2 = Cert.Kernel2Ideal.Gen.out0_4 x0 x1 x2 := by
  refine ⟨?_, ?_⟩
  all_goals
    simp only [out0_3, out0_4, k0_pay1, k0_pay2, k0_pay3, k0_pay4, k0_pay5, k0_pay6, k0_pay7, k0_pay8, k0_pay9, k0_pay10, k0_pay11, k0_pay12,
      Cert.Kernel2Ideal.Gen.out0_3, Cert.Kernel2Ideal.Gen.out0_4, Cert.Kernel2Ideal.Gen.k0_pay1, Cert.Kernel2Ideal.Gen.k0_pay2,
      Cert.Kernel2Ideal.Gen.k0_pay3, Cert.Kernel2Ideal.Gen.k0_pay4, Cert.Kernel2Ideal.Gen.k0_pay5, Cert.Kernel2Ideal.Gen.k0_pay6,
      Cert.Kernel2Ideal.Gen.k0_pay7, Cert.Kernel2Ideal.Gen.k0_pay8, Cert.Kernel2Ideal.Gen.k0_pay9, Cert.Kernel2Ideal.Gen.k0_pay10,
      Cert.Kernel2Ideal.Gen.k0_pay11, Cert.Kernel2Ideal.Gen.k0_pay12, shapeCast_self]
    rfl

variable (m : (ℓ : Loc nD τ sig) → Buf (Elt Ideal) ℓ)

/-- The result at an element, from the arguments. -/
def res (o : Nat) (ho : o ≤ 4096) (o' : Nat) (ho' : o' ≤ 4096) (x : Vec Ideal S1024x1024 .f32) (g : Vec Ideal S1024 .f32)
    (w : Vec Ideal S1024x6144 .f32) : Vec Ideal S1024x2048 .f32 := fun i =>
  G (fun j => x (ix2 (i 0) j)) (fun j => g (ix1 j)) (col w o ho (i 1)) (col w o' ho' (i 1))

/-- The gain reaches the call as one row. -/
theorem V_v0 (c : Dev nD) : (V m c main_v0 : Vec Ideal S1x1024 .f32)
    = shapeCast S1x1024 (m ((c : Thread nD τ).loc main_arg1) : Vec Ideal S1024 .f32) shapeCasts_S1024_S1x1024 := by
  show StableHlo.after hostOps0 (fun b => m (c, b)) main_v0 = _
  simp only [hostOps0]
  after_results_simp <;> rfl

/-- The weights reach the call as they are. -/
theorem V_v1 (c : Dev nD) : (V m c main_v1 : Vec Ideal S1024x6144 .bf16)
    = (m ((c : Thread nD τ).loc main_arg2) : Vec Ideal S1024x6144 .f32) := by
  show StableHlo.after hostOps0 (fun b => m (c, b)) main_v1 = _
  simp only [hostOps0]
  after_results_simp <;> rfl

/-- Where each window's block of a point lies. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The rows' block of a point, at an element. -/
theorem read0 (c : Dev nD) (t : Fin cfg0.N) (r : Fin 256) (j : Fin 1024) (R : Fin 1024) (hR : R.val = t.val * 256 + r.val) :
    (iblk m c 0 t : Vec Ideal S256x1024 .f32) (ix2 r j) = (m ((c : Thread nD τ).loc main_arg0) : Vec Ideal S1024x1024 .f32) (ix2 R j) := by
  refine Eq.trans ?_ (congrFun (V_main_arg0 m c) _)
  blk_simp [iblk, idx]
  refine congrArg (V m c main_arg0 : Vec Ideal S1024x1024 .f32) (funext fun a => Fin.ext ?_)
  match a with
  | ⟨0, _⟩ => blk_simp [idx]; exact hR.symm
  | ⟨1, _⟩ => blk_simp [idx]

/-- The gain's block of a point is the argument. -/
theorem read1 (c : Dev nD) (t : Fin cfg0.N) (j : Fin 1024) :
    (iblk m c 1 t : Vec Ideal S1x1024 .f32) (ix2 0 j) = (m ((c : Thread nD τ).loc main_arg1) : Vec Ideal S1024 .f32) (ix1 j) := by
  refine Eq.trans ?_ ((congrFun (V_v0 m c) (ix2 0 j)).trans (row_apply (m ((c : Thread nD τ).loc main_arg1) : Vec Ideal S1024 .f32) _ j))
  blk_simp [iblk, idx]
  refine congrArg (V m c main_v0 : Vec Ideal S1x1024 .f32) (funext fun a => Fin.ext ?_)
  match a with
  | ⟨0, _⟩ => blk_simp [idx]
  | ⟨1, _⟩ => blk_simp [idx]

/-- A column of the weights' block of a point is the argument's. -/
theorem read2 (c : Dev nD) (t : Fin cfg0.N) (o : Nat) (ho : o ≤ 4096) (q : Fin 2048) :
    col (iblk m c 2 t : Vec Ideal S1024x6144 .bf16) o ho q = col (m ((c : Thread nD τ).loc main_arg2) : Vec Ideal S1024x6144 .f32) o ho q := by
  funext k
  unfold col
  refine Eq.trans ?_ (congrFun (V_v1 m c) _)
  blk_simp [iblk, idx]
  refine congrArg (V m c main_v1 : Vec Ideal S1024x6144 .bf16) (funext fun a => Fin.ext ?_)
  match a with
  | ⟨0, _⟩ => blk_simp [idx]
  | ⟨1, _⟩ => blk_simp [idx]

/-- What the body leaves at a point is the result at the element's place in the array. -/
theorem B_eq (c : Dev nD) (t : Fin cfg0.N) (o : Nat) (ho : o ≤ 4096) (o' : Nat) (ho' : o' ≤ 4096) (y : S256x2048.Idx) (i : S1024x2048.Idx)
    (h0 : (i 0).val = t.val * 256 + (y 0).val) (h1 : (i 1).val = (y 1).val) :
    B o ho o' ho' (iblk m c 0 t) (iblk m c 1 t) (iblk m c 2 t) y
      = res o ho o' ho' (m ((c : Thread nD τ).loc main_arg0)) (m ((c : Thread nD τ).loc main_arg1)) (m ((c : Thread nD τ).loc main_arg2)) i := by
  unfold B res
  have e1 : (y 1 : Fin 2048) = i 1 := Fin.ext h1.symm
  refine G_congr (funext fun j => read0 m c t (y 0) j (i 0) h0) (funext fun j => read1 m c t j) ?_ ?_
  · exact (read2 m c t o ho (y 1)).trans (congrArg (col _ o ho) e1)
  · exact (read2 m c t o' ho' (y 1)).trans (congrArg (col _ o' ho') e1)

/-- The two arrays at the end of a run. -/
theorem final (c : Dev nD) :
    let x := m ((c : Thread nD τ).loc main_arg0); let g := m ((c : Thread nD τ).loc main_arg1); let w := m ((c : Thread nD τ).loc main_arg2)
    (dats m 0 c).arrAt 3 cfg0.N = res 0 (by omega) 2048 (by omega) x g w
      ∧ (dats m 0 c).arrAt 4 cfg0.N = res 4096 (by omega) 4096 (by omega) x g w := by
  have e (t : Fin cfg0.N) := outs_eq (iblk m c 0 t) (iblk m c 1 t) (iblk m c 2 t)
  refine ⟨(dats m 0 c).arrAt_eq_of_covers 3 _ (by decide +kernel) fun t hf y => ?_,
    (dats m 0 c).arrAt_eq_of_covers 4 _ (by decide +kernel) fun t hf y => ?_⟩
  all_goals
    blk_simp
    first | rw [after0_3, (e t).1, out3_eq] | rw [after0_4, (e t).2, out4_eq]
    exact B_eq m c t _ _ _ _ y _ (by blk_simp [idx]) (by blk_simp [idx])

end Cert.Proof.InprojSample
-- ==== Proof.InprojSampleB.lean ====
module
public import proofs.«01_k».proof.Defs
public import proofs.«01_k».proof.Proof.InprojSampleA
public import proofs.«01_k».proof.Proof.RowsRef
public import proofs.«01_k».proof.Proof.Gen.Reference5Ideal.Run
@[expose] public section
noncomputable section
/-! # The convolution layers' input projection on the sample's rows equals its reference -/
namespace Cert.Proof.InprojSample
open Cert.Reference5Ideal Cert.Reference5Ideal.Read
open Idealize.ShloMosaic Idealize.ShloMosaic.TcCoe Idealize.ShloMosaic.Tactic Idealize.SL.Sem
open Cert.Proof.RowMath Cert.Proof.Inproj
open scoped BigOperators

variable (x : Vec Ideal S1024x1024 .f32) (g : Vec Ideal S1024 .f32) (w : Vec Ideal S1024x6144 .f32)

/-- The reference's product at an index given by its coordinates. -/
theorem v13_at (i : S1024x6144.Idx) (r : Fin 1024) (o : Nat) (ho : o ≤ 4096) (q : Fin 2048) (h0 : (i 0).val = r.val) (h1 : (i 1).val = o + q.val) :
    val_main_v13 (F := Ideal) x g w i = proj (fun k => x (ix2 r k)) (fun k => g (ix1 k)) (col w o ho q) := by
  rw [val_main_v13_apply]
  refine Finset.sum_congr rfl fun k _ => congrArg₂ (· * ·) ?_ (congrArg w ?_)
  · refine (congrArg (val_main_v12 (F := Ideal) x g) (?_ : _ = ix2 r k)).trans (RowsRef.v12_apply x g r k)
    funext a
    match a with
    | ⟨0, _⟩ => exact Fin.ext h0
    | ⟨1, _⟩ => rfl
  · funext a
    match a with
    | ⟨0, _⟩ => rfl
    | ⟨1, _⟩ => exact Fin.ext h1

/-- The values: a column of the product times the logistic of its gate's. -/
theorem v23_eq : val_main_v23 (F := Ideal) x g w = res 0 (by omega) 2048 (by omega) x g w := by
  funext i
  rw [val_main_v23_apply, val_main_v14_apply, val_main_v22_apply, val_main_v21_apply, val_main_v20_apply, val_main_v19_apply, val_main_v18_apply,
    val_main_v17_apply, val_main_v15_apply, v13_at x g w _ (i 0) 0 (by omega) (i 1) rfl (Nat.zero_add _).symm,
    v13_at x g w _ (i 0) 2048 (by omega) (i 1) rfl rfl]
  show _ * Ideal.div (Ideal.ofBits .f32 0x3F800000#32) (Ideal.ofBits .f32 0x3F800000#32 + _) = _
  rw [Ideal.ofBits_one_f32]
  rfl

/-- The output gates: a column of the product times its own logistic. -/
theorem v24_eq : val_main_v24 (F := Ideal) x g w = res 4096 (by omega) 4096 (by omega) x g w := by
  funext i
  rw [val_main_v24_apply, val_main_call0_v5_apply, val_main_call0_v4_apply, val_main_call0_v3_apply, val_main_call0_v2_apply,
    val_main_call0_v1_apply, val_main_call0_v0_apply, val_main_v16_apply, v13_at x g w _ (i 0) 4096 (by omega) (i 1) rfl rfl]
  show _ * Ideal.div (Ideal.ofBits .f32 0x3F800000#32) (Ideal.ofBits .f32 0x3F800000#32 + _) = _
  rw [Ideal.ofBits_one_f32]
  rfl

end Cert.Proof.InprojSample

namespace Cert.Proof.InprojSample
open Idealize.ShloMosaic Idealize.ShloMosaic.TcCoe Idealize.SL.Sem
open Cert.Proof.RowMath
open Cert.Kernel5Ideal (nD τ main_arg0 main_arg1 main_arg2)

/-- The two results of the convolution layers' input projection on the sample's rows are the reference's. -/
theorem algebraic : Cert.algebraic_Kernel5Ideal_Reference5Ideal := by
  intro m g m' g' _ harg
  let R (o : Nat) (ho : o ≤ 4096) (o' : Nat) (ho' : o' ≤ 4096) (c : Dev nD) : Vec Ideal Cert.Kernel5Ideal.S1024x2048 .f32 :=
    res o ho o' ho' (m ((c.tc : Thread nD τ).loc main_arg0)) (m ((c.tc : Thread nD τ).loc main_arg1)) (m ((c.tc : Thread nD τ).loc main_arg2))
  refine ⟨R 0 (by omega) 2048 (by omega), R 4096 (by omega) 4096 (by omega), ?_, ?_⟩
  · refine (θ_run _ _ _).mono (fun r h c => ?_) (Cert.Kernel5Ideal.Value.run_blocks m g)
    obtain ⟨h3, h4, ha⟩ := h c
    exact ⟨h3.trans (final m c).1, h4.trans (final m c).2, ha⟩
  · refine (θ_run _ _ _).mono (fun r h c => ?_) (Cert.Reference5Ideal.Value.run m' g')
    obtain ⟨h23, h24, ha⟩ := h c
    obtain ⟨e0, e1, e2⟩ := harg c
    refine ⟨h23.trans ((Cert.Reference5Ideal.Read.val_main_v23_eq _ _ _).trans ((v23_eq _ _ _).trans ?_)),
      h24.trans ((Cert.Reference5Ideal.Read.val_main_v24_eq _ _ _).trans ((v24_eq _ _ _).trans ?_)), ha⟩
    all_goals rw [e0, e1, e2]

end Cert.Proof.InprojSample
-- ==== Proof.NsaSampleA.lean ====
module
public import proofs.«01_k».proof.Proof.Gen.Kernel6Ideal.Value
public import proofs.«01_k».proof.Proof.NsaInprojB
@[expose] public section
noncomputable section
/-! # The six result arrays of the attention layers' input projection on the sample's rows, element by element -/
namespace Cert.Proof.NsaSample
open Cert.Kernel6Ideal Cert.Kernel6Ideal.Gen
open Idealize.ShloMosaic Idealize.ShloMosaic.TcCoe Idealize.ShloMosaic.Tactic
open Cert.Proof.RowMath Cert.Proof.Layout Cert.Proof.NsaInproj
open Idealize.ShloMosaic.Pipeline (Dat Cfg Window)
open scoped BigOperators

/-- The body leaves in its six result blocks what it leaves on the prompt's rows. -/
theorem outs_eq (x0 : Vec Ideal S256x1024 .f32) (x1 : Vec Ideal S1x1024 .f32) (x2 : Vec Ideal S1024x3712 .bf16) :
    out0_3 x0 x1 x2 = Cert.Kernel3Ideal.Gen.out0_3 x0 x1 x2 ∧ out0_4 x0 x1 x2 = Cert.Kernel3Ideal.Gen.out0_4 x0 x1 x2
      ∧ out0_5 x0 x1 x2 = Cert.Kernel3Ideal.Gen.out0_5 x0 x1 x2 ∧ out0_6 x0 x1 x2 = Cert.Kernel3Ideal.Gen.out0_6 x0 x1 x2
      ∧ out0_7 x0 x1 x2 = Cert.Kernel3Ideal.Gen.out0_7 x0 x1 x2 ∧ out0_8 x0 x1 x2 = Cert.Kernel3Ideal.Gen.out0_8 x0 x1 x2 := by
  refine ⟨?_, ?_, ?_, ?_, ?_, ?_⟩
  all_goals
    simp only [out0_3, out0_4, out0_5, out0_6, out0_7, out0_8, k0_pay1, k0_pay2, k0_pay3, k0_pay4, k0_pay5, k0_pay6, k0_pay7, k0_pay8, k0_pay9,
      k0_pay10, k0_pay11, k0_pay12, k0_pay13, Cert.Kernel3Ideal.Gen.out0_3, Cert.Kernel3Ideal.Gen.out0_4, Cert.Kernel3Ideal.Gen.out0_5,
      Cert.Kernel3Ideal.Gen.out0_6, Cert.Kernel3Ideal.Gen.out0_7, Cert.Kernel3Ideal.Gen.out0_8, Cert.Kernel3Ideal.Gen.k0_pay1,
      Cert.Kernel3Ideal.Gen.k0_pay2, Cert.Kernel3Ideal.Gen.k0_pay3, Cert.Kernel3Ideal.Gen.k0_pay4, Cert.Kernel3Ideal.Gen.k0_pay5,
      Cert.Kernel3Ideal.Gen.k0_pay6, Cert.Kernel3Ideal.Gen.k0_pay7, Cert.Kernel3Ideal.Gen.k0_pay8, Cert.Kernel3Ideal.Gen.k0_pay9,
      Cert.Kernel3Ideal.Gen.k0_pay10, Cert.Kernel3Ideal.Gen.k0_pay11, Cert.Kernel3Ideal.Gen.k0_pay12, Cert.Kernel3Ideal.Gen.k0_pay13,
      Cert.Kernel3Ideal.Gen.k0_pay14, shapeCast_self]
    rfl

variable (m : (ℓ : Loc nD τ sig) → Buf (Elt Ideal) ℓ)

/-- A result of width `N` whose columns start at `o`, from the arguments. -/
def result {N : Nat} (f : EReal → EReal) (o : Nat) (x : Vec Ideal S1024x1024 .f32) (g : Vec Ideal S1024 .f32)
    (w : Vec Ideal S1024x3632 .f32) (i : Shape.Idx ⟨2, ![1024, N]⟩) : EReal :=
  f (proj (fun k => x (ix2 (i 0) k)) (fun k => g (ix1 k)) (ucol w (o + (i 1).val)))

/-- The gain reaches the call as one row. -/
theorem V_v2 (c : Dev nD) : (V m c main_v2 : Vec Ideal S1x1024 .f32)
    = shapeCast S1x1024 (m ((c : Thread nD τ).loc main_arg1) : Vec Ideal S1024 .f32) shapeCasts_S1024_S1x1024 := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results_simp <;> rfl

/-- The weights reach the call padded with zero columns. -/
theorem V_v1 (c : Dev nD) : (V m c main_v1 : Vec Ideal S1024x3712 .bf16)
    = pad S1024x3712 ![0, 0] ![0, 80] ![0, 0] (m ((c : Thread nD τ).loc main_arg2) : Vec Ideal S1024x3632 .f32)
        (sitofp (F := Ideal) .f32 (constantI S_ 32 0#32)) pads_S1024x3632_S1024x3712_000_0800 h_S_ := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append]
  after_results_simp <;> rfl

/-- Where each window's block of a point lies. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The rows' block of a point, at an element. -/
theorem read0 (c : Dev nD) (t : Fin cfg0.N) (r : Fin 256) (j : Fin 1024) (R : Fin 1024) (hR : R.val = t.val * 256 + r.val) :
    (iblk m c 0 t : Vec Ideal S256x1024 .f32) (ix2 r j) = (m ((c : Thread nD τ).loc main_arg0) : Vec Ideal S1024x1024 .f32) (ix2 R j) := by
  refine Eq.trans ?_ (congrFun (V_main_arg0 m c) _)
  blk_simp [iblk, idx]
  refine congrArg (V m c main_arg0 : Vec Ideal S1024x1024 .f32) (funext fun a => Fin.ext ?_)
  match a with
  | ⟨0, _⟩ => blk_simp [idx]; exact hR.symm
  | ⟨1, _⟩ => blk_simp [idx]

/-- The gain's block of a point is the argument. -/
theorem read1 (c : Dev nD) (t : Fin cfg0.N) (j : Fin 1024) :
    (iblk m c 1 t : Vec Ideal S1x1024 .f32) (ix2 0 j) = (m ((c : Thread nD τ).loc main_arg1) : Vec Ideal S1024 .f32) (ix1 j) := by
  refine Eq.trans ?_ ((congrFun (V_v2 m c) (ix2 0 j)).trans (row_apply (m ((c : Thread nD τ).loc main_arg1) : Vec Ideal S1024 .f32) _ j))
  blk_simp [iblk, idx]
  refine congrArg (V m c main_v2 : Vec Ideal S1x1024 .f32) (funext fun a => Fin.ext ?_)
  match a with
  | ⟨0, _⟩ => blk_simp [idx]
  | ⟨1, _⟩ => blk_simp [idx]

/-- A column of the weights' block of a point is the argument's, or zero. -/
theorem read2 (c : Dev nD) (t : Fin cfg0.N) (j : Nat) (hj : j < 3712) :
    wcol (iblk m c 2 t : Vec Ideal S1024x3712 .bf16) j hj = ucol (m ((c : Thread nD τ).loc main_arg2) : Vec Ideal S1024x3632 .f32) j := by
  funext k
  unfold wcol
  refine Eq.trans ?_ ((congrFun (V_v1 m c) (ix2 k ⟨j, hj⟩)).trans (pad_col _ j hj k))
  blk_simp [iblk, idx]
  refine congrArg (V m c main_v1 : Vec Ideal S1024x3712 .bf16) (funext fun a => Fin.ext ?_)
  match a with
  | ⟨0, _⟩ => blk_simp [idx]
  | ⟨1, _⟩ => blk_simp [idx]

/-- What the body leaves at a point is the result at the element's place in the array. -/
theorem block_eq {N : Nat} (c : Dev nD) (t : Fin cfg0.N) (f : EReal → EReal) (o : Nat) (ho : o + N ≤ 3712) (y : Shape.Idx ⟨2, ![256, N]⟩)
    (i : Shape.Idx ⟨2, ![1024, N]⟩) (h0 : (i 0).val = t.val * 256 + (y 0).val) (h1 : (i 1).val = (y 1).val) :
    block f o ho (iblk m c 0 t) (iblk m c 1 t) (iblk m c 2 t) y
      = result f o (m ((c : Thread nD τ).loc main_arg0)) (m ((c : Thread nD τ).loc main_arg1)) (m ((c : Thread nD τ).loc main_arg2)) i := by
  unfold block result
  refine congrArg f (proj_congr (funext fun j => read0 m c t (y 0) j (i 0) h0) (funext fun j => read1 m c t j) ?_)
  exact (read2 m c t _ _).trans (congrArg (ucol _) (congrArg (o + ·) h1.symm))

/-- The six arrays at the end of a run. -/
theorem final (c : Dev nD) :
    let x := m ((c : Thread nD τ).loc main_arg0); let g := m ((c : Thread nD τ).loc main_arg1); let w := m ((c : Thread nD τ).loc main_arg2)
    (dats m 0 c).arrAt 3 cfg0.N = result (N := 1024) fq 0 x g w ∧ (dats m 0 c).arrAt 4 cfg0.N = result (N := 1024) fs 1024 x g w
      ∧ (dats m 0 c).arrAt 5 cfg0.N = result (N := 1024) id 2048 x g w ∧ (dats m 0 c).arrAt 6 cfg0.N = result (N := 512) id 3072 x g w
      ∧ (dats m 0 c).arrAt 7 cfg0.N = result (N := 1024) id 2560 x g w ∧ (dats m 0 c).arrAt 8 cfg0.N = result (N := 128) fl 3584 x g w := by
  have e (t : Fin cfg0.N) := outs_eq (iblk m c 0 t) (iblk m c 1 t) (iblk m c 2 t)
  refine ⟨(dats m 0 c).arrAt_eq_of_covers 3 _ (by decide +kernel) fun t hf y => ?_, (dats m 0 c).arrAt_eq_of_covers 4 _ (by decide +kernel) fun t hf y => ?_,
    (dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩
  all_goals
    blk_simp
    first
      | rw [after0_3, (e t).1, out3_eq] | rw [after0_4, (e t).2.1, out4_eq] | rw [after0_5, (e t).2.2.1, out5_eq]
      | rw [after0_6, (e t).2.2.2.1, out6_eq] | rw [after0_7, (e t).2.2.2.2.1, out7_eq] | rw [after0_8, (e t).2.2.2.2.2, out8_eq]
    exact block_eq m c t _ _ _ y _ (by blk_simp [idx]) (by blk_simp [idx])

end Cert.Proof.NsaSample
-- ==== Proof.NsaSampleB.lean ====
module
public import proofs.«01_k».proof.Defs
public import proofs.«01_k».proof.Proof.NsaSampleA
public import proofs.«01_k».proof.Proof.RowsRef
public import proofs.«01_k».proof.Proof.Gen.Reference6Ideal.Read
public import proofs.«01_k».proof.Proof.Gen.Reference6Ideal.Run
@[expose] public section
noncomputable section
/-! # The attention layers' input projection on the sample's rows equals its reference -/
namespace Cert.Proof.NsaSample
open Cert.Reference6Ideal Cert.Reference6Ideal.Read
open Idealize.ShloMosaic Idealize.ShloMosaic.TcCoe Idealize.ShloMosaic.Tactic Idealize.SL.Sem
open Cert.Proof.RowMath Cert.Proof.NsaInproj
open scoped BigOperators

/-- Column `j` of the reference's product at a row, zero past the last one. -/
def pj (x : Vec Ideal S1024x1024 .f32) (g : Vec Ideal S1024 .f32) (w : Vec Ideal S1024x3632 .f32) (r : Fin 1024) (j : Nat) : EReal :=
  proj (fun k => x (ix2 r k)) (fun k => g (ix1 k)) (ucol w j)

/-- Past the last column the product is zero. -/
theorem pj_past (x : Vec Ideal S1024x1024 .f32) (g : Vec Ideal S1024 .f32) (w : Vec Ideal S1024x3632 .f32) (r : Fin 1024) (j : Nat) (hj : ¬ j < 3632) :
    pj x g w r j = 0 := by
  unfold pj proj
  refine Finset.sum_eq_zero fun k _ => ?_
  unfold ucol
  rw [dif_neg hj, mul_zero]

/-- The reference's product at an index given by its coordinates. -/
theorem v13_at (x : Vec Ideal S1024x1024 .f32) (g : Vec Ideal S1024 .f32) (w : Vec Ideal S1024x3632 .f32) (i : S1024x3632.Idx) (r : Fin 1024) (j : Nat)
    (hj : j < 3632) (h0 : (i 0).val = r.val) (h1 : (i 1).val = j) : val_main_v13 (F := Ideal) x g w i = pj x g w r j := by
  rw [val_main_v13_apply]
  refine Finset.sum_congr rfl fun k _ => congrArg₂ (· * ·) ?_ ?_
  · refine (congrArg (val_main_v12 (F := Ideal) x g) (?_ : _ = ix2 r k)).trans (RowsRef.v12_apply x g r k)
    funext a
    match a with
    | ⟨0, _⟩ => exact Fin.ext h0
    | ⟨1, _⟩ => rfl
  · unfold ucol
    rw [dif_pos hj]
    refine congrArg w ?_
    funext a
    match a with
    | ⟨0, _⟩ => rfl
    | ⟨1, _⟩ => exact Fin.ext h1

variable (x : Vec Ideal S1024x1024 .f32) (g : Vec Ideal S1024 .f32) (w : Vec Ideal S1024x3632 .f32)

/-- The padded gates: a column of the product, or zero. -/
theorem v20_apply (i : S1024x128.Idx) : val_main_v20 (F := Ideal) x g w i = pj x g w (i 0) (3584 + (i 1).val) := by
  unfold val_main_v20
  by_cases h : (i 1).val < 48
  · refine (pad_apply_of_inside _ _ _ (val_main_v17 (F := Ideal) x g w) _ _ _ _ (ix2 (i 0) ⟨(i 1).val, h⟩) fun a => ?_).trans ?_
    · match a with
      | ⟨0, _⟩ => show (i 0).val = 0 + (i 0).val * 1; omega
      | ⟨1, _⟩ => show (i 1).val = 0 + (i 1).val * 1; omega
    · rw [val_main_v17_apply]
      exact v13_at x g w _ (i 0) (3584 + (i 1).val) (by omega) rfl rfl
  · refine (pad_apply_of_not_inside _ _ _ (val_main_v17 (F := Ideal) x g w) _ _ _ _ 1 fun hh => h ?_).trans ?_
    · have := hh.2.2
      change ((i 1).val - 0) / 1 < 48 at this
      omega
    · rw [pj_past x g w (i 0) _ (by omega)]
      show (((0#32 : BitVec 32).toInt : ℝ) : EReal) = 0
      simp

/-- The queries. -/
theorem v27_eq : val_main_v27 (F := Ideal) x g w = result (N := 1024) fq 0 x g w := by
  funext i
  have hi : (i 1).val < 1024 := (i 1).isLt
  rw [val_main_v27_apply, val_main_v19_apply, val_main_v14_apply, val_main_v18_apply, v13_at x g w _ (i 0) (0 + (i 1).val) (by omega) rfl (Nat.zero_add _).symm]
  rfl

/-- The output gates. -/
theorem v28_eq : val_main_v28 (F := Ideal) x g w = result (N := 1024) fs 1024 x g w := by
  funext i
  have hi : (i 1).val < 1024 := (i 1).isLt
  rw [val_main_v28_apply, val_main_call1_v5_apply, val_main_call1_v4_apply, val_main_call1_v3_apply, val_main_call1_v2_apply, val_main_call1_v1_apply,
    val_main_call1_v0_apply, val_main_v15_apply, v13_at x g w _ (i 0) (1024 + (i 1).val) (by omega) rfl rfl]
  show _ * Ideal.div (Ideal.ofBits .f32 0x3F800000#32) (Ideal.ofBits .f32 0x3F800000#32 + _) = _
  rw [Ideal.ofBits_one_f32]
  rfl

/-- Columns 2048 to 3071 of the product. -/
theorem v29_eq : val_main_v29 (F := Ideal) x g w = result (N := 1024) id 2048 x g w := by
  funext i
  have hi : (i 1).val < 1024 := (i 1).isLt
  rw [val_main_v29_apply, val_main_v16_apply]
  exact v13_at x g w _ (i 0) (2048 + (i 1).val) (by omega) rfl rfl

/-- Columns 3072 to 3583 of the product. -/
theorem v30_eq : val_main_v30 (F := Ideal) x g w = result (N := 512) id 3072 x g w := by
  funext i
  have hi : (i 1).val < 512 := (i 1).isLt
  rw [val_main_v30_apply, val_main_v16_apply]
  exact v13_at x g w _ (i 0) (3072 + (i 1).val) (by omega) rfl (by show 2048 + (1024 + (i 1).val) = 3072 + (i 1).val; omega)

/-- Columns 2560 to 3583 of the product. -/
theorem v32_eq : val_main_v32 (F := Ideal) x g w = result (N := 1024) id 2560 x g w := by
  funext i
  have hi : (i 1).val < 1024 := (i 1).isLt
  rw [val_main_v32_apply, val_main_v31_apply, val_main_v16_apply]
  exact v13_at x g w _ (i 0) (2560 + (i 1).val) (by omega) rfl (by show 2048 + (512 + (i 1).val) = 2560 + (i 1).val; omega)

/-- The branch gates. -/
theorem v26_eq : val_main_v26 (F := Ideal) x g w = result (N := 128) fl 3584 x g w := by
  funext i
  rw [val_main_v26_apply, val_main_v25_apply, val_main_v24_apply, val_main_v23_apply, val_main_v22_apply, val_main_v21_apply]
  refine (congrArg (fun p => Ideal.div (Ideal.ofBits .f32 0x3F800000#32) (Ideal.ofBits .f32 0x3F800000#32 + Ideal.exp (-p)))
    (v20_apply x g w i)).trans ?_
  rw [Ideal.ofBits_one_f32]
  rfl

end Cert.Proof.NsaSample

namespace Cert.Proof.NsaSample
open Idealize.ShloMosaic Idealize.ShloMosaic.TcCoe Idealize.SL.Sem
open Cert.Proof.RowMath
open Cert.Kernel6Ideal (nD τ main_arg0 main_arg1 main_arg2)

/-- The six results of the attention layers' input projection on the sample's rows are the reference's. -/
theorem algebraic : Cert.algebraic_Kernel6Ideal_Reference6Ideal := by
  intro m g m' g' _ harg
  let R (N : Nat) (f : EReal → EReal) (o : Nat) (c : Dev nD) : Shape.Idx ⟨2, ![1024, N]⟩ → EReal :=
    result f o (m ((c.tc : Thread nD τ).loc main_arg0)) (m ((c.tc : Thread nD τ).loc main_arg1)) (m ((c.tc : Thread nD τ).loc main_arg2))
  refine ⟨R 1024 fq 0, R 1024 fs 1024, R 1024 id 2048, R 512 id 3072, R 1024 id 2560, R 128 fl 3584, ?_, ?_⟩
  · refine (θ_run _ _ _).mono (fun r h c => ?_) (Cert.Kernel6Ideal.Value.run_blocks m g)
    obtain ⟨h3, h4, h5, h6, h7, h8, ha⟩ := h c
    obtain ⟨f3, f4, f5, f6, f7, f8⟩ := final m c
    exact ⟨h3.trans f3, h4.trans f4, h5.trans f5, h6.trans f6, h7.trans f7, h8.trans f8, ha⟩
  · refine (θ_run _ _ _).mono (fun r h c => ?_) (Cert.Reference6Ideal.Value.run m' g')
    obtain ⟨k0, k1, k2, k3, k4, k5, ha⟩ := h c
    obtain ⟨e0, e1, e2⟩ := harg c
    have args (N : Nat) (f : EReal → EReal) (o : Nat) : result f o
        (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2)) = R N f o c := by
      rw [e0, e1, e2]
    exact ⟨k0.trans ((Cert.Reference6Ideal.Read.val_main_v27_eq _ _ _).trans ((v27_eq _ _ _).trans (args 1024 fq 0))),
      k1.trans ((Cert.Reference6Ideal.Read.val_main_v28_eq _ _ _).trans ((v28_eq _ _ _).trans (args 1024 fs 1024))),
      k2.trans ((Cert.Reference6Ideal.Read.val_main_v29_eq _ _ _).trans ((v29_eq _ _ _).trans (args 1024 id 2048))),
      k3.trans ((Cert.Reference6Ideal.Read.val_main_v30_eq _ _ _).trans ((v30_eq _ _ _).trans (args 512 id 3072))),
      k4.trans ((Cert.Reference6Ideal.Read.val_main_v32_eq _ _ _).trans ((v32_eq _ _ _).trans (args 1024 id 2560))),
      k5.trans ((Cert.Reference6Ideal.Read.val_main_v26_eq _ _ _).trans ((v26_eq _ _ _).trans (args 128 fl 3584))), ha⟩

end Cert.Proof.NsaSample
-- ==== Proof.ConvSampleA.lean ====
module
public import proofs.«01_k».proof.Proof.Gen.Kernel7Ideal.Value
public import Idealize.ShloMosaic.Lib.WritesUnit
public import Idealize.ShloMosaic.Lib.ValueIdxCore
public import Idealize.ShloMosaic.Lib.Pipeline.ValueKit.Tiles
@[expose] public section
noncomputable section
/-! # The samples' convolution call: what a grid point's body leaves -/
namespace Cert.Proof.ConvSample
open Cert.Kernel7Ideal Cert.Kernel7Ideal.Gen
open Idealize.ShloMosaic Idealize.ShloMosaic.TcCoe Idealize.ShloMosaic.Tactic
open Idealize.ShloMosaic.ValueIdx
variable {F : FTy → Type} [FloatOps F]

/-- The loop runs sixteen trips, one for each sequence of the block. -/
theorem trips : k0_t1_loop.trips = 16 := by decide

/-- The sum of the products of one sequence, as a trip adds them: the thirty state rows `a` times the first thirty
weight slabs `d`, then the eight new rows `u` times the last eight, all but the last two of them. -/
def sums (a : Fin 30 → Vec F S1x1x2048 .f32) (d : Fin 38 → Vec F S1x8x2048 .f32) (u : Fin 8 → Vec F S1x2048 .f32) : FVec F S8x2048 .f32 :=
  have s4 := k0_pay3 (a 0) (d 0) (a 1) (d 1) (a 2) (d 2) (a 3) (d 3)
  have s8 := k0_pay4 s4 (a 4) (d 4) (a 5) (d 5) (a 6) (d 6) (a 7) (d 7)
  have s13 := k0_pay7 s8 (k0_pay5 (a 8)) (k0_pay6 (d 8)) (a 9) (d 9) (a 10) (d 10) (a 11) (d 11) (a 12) (d 12)
  have s18 := k0_pay9 s13 (k0_pay8 (a 13)) (d 13) (a 14) (d 14) (a 15) (d 15) (a 16) (d 16) (a 17) (d 17)
  have s22 := k0_pay10 s18 (a 18) (d 18) (a 19) (d 19) (a 20) (d 20) (a 21) (d 21)
  have s27 := k0_pay12 s22 (k0_pay11 (a 22)) (d 22) (a 23) (d 23) (a 24) (d 24) (a 25) (d 25) (a 26) (d 26)
  have s31 := k0_pay13 s27 (a 27) (d 27) (a 28) (d 28) (a 29) (d 29) (u 0) (d 30)
  k0_pay16 s31 (k0_pay14 (d 31)) (k0_pay15 (u 1)) (u 2) (d 32) (u 3) (d 33) (u 4) (d 34) (u 5) (d 35)

/-- The eight rows a trip stores: the sums with the bias `b`, normalised by `g` and `l`, through the silu, times the gate rows `z`. -/
def stored (a : Fin 30 → Vec F S1x1x2048 .f32) (d : Fin 38 → Vec F S1x8x2048 .f32) (u : Fin 8 → Vec F S1x2048 .f32) (b g l : Vec F S1x2048 .f32)
    (z : Vec F S8x2048 .f32) : FVec F S8x2048 .f32 :=
  k0_pay1 (k0_pay17 l) z (k0_pay18 (sums a d u) (u 6) (d 36) (u 7) (d 37) b g)

/-- Where a trip loads state row `r` from. -/
def stOff (k : Fin k0_t1_loop.trips) (r : Fin 30) : Fin 3 → ℕ := ![k0_off1 k 0, r.val, 0]

/-- Its place in plain numbers. -/
theorem stOff_eq (k : Fin k0_t1_loop.trips) (r : Fin 30) : stOff k r = ![k.val, r.val, 0] := by
  unfold stOff
  rw [congrFun (k0_off1_eq k) 0]
  rfl

/-- The load of a state row lies in the state's block. -/
theorem stOff_inb (k : Fin k0_t1_loop.trips) (r : Fin 30) : ∀ a, stOff k r a + S1x1x2048.size a ≤ S16x30x2048.size a := by
  have hk : k.val < 16 := trips ▸ k.isLt
  have hr := r.isLt
  rw [stOff_eq]
  intro a
  match a with
  | ⟨0, _⟩ => show k.val + 1 ≤ 16; omega
  | ⟨1, _⟩ => show r.val + 1 ≤ 30; omega
  | ⟨2, _⟩ => exact Nat.le_refl _

/-- The load of a weight slab lies in the weights. -/
theorem slab_inb (r : Fin 38) : ∀ a, (![r.val, 0, 0] : Fin 3 → ℕ) a + S1x8x2048.size a ≤ S38x8x2048.size a := by
  have hr := r.isLt
  intro a
  match a with
  | ⟨0, _⟩ => show r.val + 1 ≤ 38; omega
  | ⟨1, _⟩ => exact Nat.le_refl _
  | ⟨2, _⟩ => exact Nat.le_refl _

/-- State row `r` of sequence `k` of the block. -/
def stRow (x : Vec F S16x30x2048 .f32) (k : Fin 16) (r : Fin 30) : Vec F S1x1x2048 .f32 :=
  fun y => x (ix3 (n0 := 16) (n1 := 30) (n2 := 2048) k r ⟨(y 2).val, (y 2).isLt⟩)

/-- Weight slab `r`. -/
def slabRow (x : Vec F S38x8x2048 .f32) (r : Fin 38) : Vec F S1x8x2048 .f32 :=
  fun y => x (ix3 (n0 := 38) (n1 := 8) (n2 := 2048) r ⟨(y 1).val, (y 1).isLt⟩ ⟨(y 2).val, (y 2).isLt⟩)

/-- New row `n` of sequence `k` of the block. -/
def newRow (x : Vec F S128x2048 .f32) (k : Fin 16) (n : Fin 8) : Vec F S1x2048 .f32 :=
  fun y => x (ix2 (n0 := 128) (n1 := 2048) ⟨8 * k.val + n.val, by omega⟩ ⟨(y 1).val, (y 1).isLt⟩)

/-- The eight gate rows of sequence `k` of the block. -/
def gateRows (x : Vec F S128x2048 .f32) (k : Fin 16) : Vec F S8x2048 .f32 :=
  fun y => x (ix2 (n0 := 128) (n1 := 2048) ⟨8 * k.val + (y 0).val, by have : (y 0).val < 8 := (y 0).isLt; omega⟩ ⟨(y 1).val, (y 1).isLt⟩)

/-- A load of a state row reads it. -/
theorem ld_stRow (x : Vec F S16x30x2048 .f32) (off : Fin 3 → ℕ) (inb) (k : Fin 16) (r : Fin 30) (h : off = ![k.val, r.val, 0]) :
    View.ld x (Rect.unit (s := S16x30x2048) off S1x1x2048.size inb) = stRow x k r := by
  subst h
  funext y
  refine View.ld_unit_apply_of x _ _ _ y _ (fun a => ?_)
  have h0 : (y 0).val < 1 := (y 0).isLt
  have h1 : (y 1).val < 1 := (y 1).isLt
  match a with
  | ⟨0, _⟩ => show k.val = k.val + (y 0).val; omega
  | ⟨1, _⟩ => show r.val = r.val + (y 1).val; omega
  | ⟨2, _⟩ => show (y 2).val = 0 + (y 2).val; omega

/-- A load of a weight slab reads it. -/
theorem ld_slabRow (x : Vec F S38x8x2048 .f32) (r : Fin 38) :
    View.ld x (Rect.unit (s := S38x8x2048) ![r.val, 0, 0] S1x8x2048.size (slab_inb r)) = slabRow x r := by
  funext y
  refine View.ld_unit_apply_of x _ _ _ y _ (fun a => ?_)
  have h0 : (y 0).val < 1 := (y 0).isLt
  match a with
  | ⟨0, _⟩ => show r.val = r.val + (y 0).val; omega
  | ⟨1, _⟩ => show (y 1).val = 0 + (y 1).val; omega
  | ⟨2, _⟩ => show (y 2).val = 0 + (y 2).val; omega

/-- A load of a new row reads it. -/
theorem ld_newRow (x : Vec F S128x2048 .f32) (off : Fin 2 → ℕ) (inb) (k : Fin 16) (n : Fin 8) (h : off = ![8 * k.val + n.val, 0]) :
    View.ld x (Rect.unit (s := S128x2048) off S1x2048.size inb) = newRow x k n := by
  subst h
  funext y
  refine View.ld_unit_apply_of x _ _ _ y _ (fun a => ?_)
  have h0 : (y 0).val < 1 := (y 0).isLt
  match a with
  | ⟨0, _⟩ => show 8 * k.val + n.val = 8 * k.val + n.val + (y 0).val; omega
  | ⟨1, _⟩ => show (y 1).val = 0 + (y 1).val; omega

/-- A load of the gate rows reads them. -/
theorem ld_gateRows (x : Vec F S128x2048 .f32) (off : Fin 2 → ℕ) (inb) (k : Fin 16) (h : off = ![8 * k.val, 0]) :
    View.ld x (Rect.unit (s := S128x2048) off S8x2048.size inb) = gateRows x k := by
  subst h
  funext y
  refine View.ld_unit_apply_of x _ _ _ y _ (fun a => ?_)
  match a with
  | ⟨0, _⟩ => rfl
  | ⟨1, _⟩ => show (y 1).val = 0 + (y 1).val; omega

/-- The rows trip `k` stores, from the blocks. -/
def tripRows (x0 : Vec F S16x30x2048 .f32) (x1 x2 : Vec F S128x2048 .f32) (x4 : Vec F S38x8x2048 .f32) (x5 x6 x7 : Vec F S1x2048 .f32) (k : Fin 16) :
    FVec F S8x2048 .f32 := stored (stRow x0 k) (slabRow x4) (newRow x1 k) x5 x6 x7 (gateRows x2 k)

section Trip
variable (𝒱 : Variants) (c : Dev nD) (bd : Option 𝒱.V) (i : grid0.Coords) (arg1 : Memref sig .tc .vmem S16x30x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x1024 .f32) (harg4 : arg4.IsWhole) (arg5 : Memref sig .tc .vmem S38x8x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x1024 .bf16) (harg9 : arg9.IsWhole) (arg10 : Memref sig .tc .vmem S128x1024 .f32) (harg10 : arg10.IsWhole) (arg11 : Memref sig .tc .vmem S128x2048 .f32) (harg11 : arg11.IsWhole)
  (X1 : BufTy.Contents (Elt F) arg1.view.ty) (X2 : BufTy.Contents (Elt F) arg2.view.ty) (X3 : BufTy.Contents (Elt F) arg3.view.ty) (X5 : BufTy.Contents (Elt F) arg5.view.ty) (X6 : BufTy.Contents (Elt F) arg6.view.ty) (X7 : BufTy.Contents (Elt F) arg7.view.ty) (X8 : BufTy.Contents (Elt F) arg8.view.ty)

/-- What a trip writes, in terms of its loads. -/
theorem tripL_loads (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 X1 X2 X3 X5 X6 X7 X8 k
      = [⟨Rect.unit (s := S128x2048) (k0_off32 k) S8x2048.size (k0_off32_inb k),
          stored (fun r => View.ld (arg1.view.read (Elt F) X1) (Rect.unit (s := S16x30x2048) (stOff k r) S1x1x2048.size (stOff_inb k r)))
            (fun r => View.ld (arg5.view.read (Elt F) X5) (Rect.unit (s := S38x8x2048) ![r.val, 0, 0] S1x8x2048.size (slab_inb r)))
            (fun n => View.ld (arg2.view.read (Elt F) X2) (Rect.unit (s := S128x2048) (k0_off31 k (BitVec.ofNat 32 n.val)) S1x2048.size (k0_off31_inb k n)))
            (View.ld (arg6.view.read (Elt F) X6) (Rect.unit (s := S1x2048) ![0, 0] S1x2048.size (by decide)))
            (View.ld (arg7.view.read (Elt F) X7) (Rect.unit (s := S1x2048) ![0, 0] S1x2048.size (by decide)))
            (View.ld (arg8.view.read (Elt F) X8) (Rect.unit (s := S1x2048) ![0, 0] S1x2048.size (by decide)))
            (View.ld (arg3.view.read (Elt F) X3) (Rect.unit (s := S128x2048) (k0_off32 k) S8x2048.size (k0_off32_inb k)))⟩] := by
  unfold tripL_k0_t1 trip_k0_t1
  rfl

/-- What a trip writes. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 X1 X2 X3 X5 X6 X7 X8 k
      = [⟨Rect.unit (s := S128x2048) (k0_off32 k) S8x2048.size (k0_off32_inb k),
          tripRows (arg1.view.read (Elt F) X1) (arg2.view.read (Elt F) X2) (arg3.view.read (Elt F) X3) (arg5.view.read (Elt F) X5)
            (arg6.view.read (Elt F) X6) (arg7.view.read (Elt F) X7) (arg8.view.read (Elt F) X8) (k.cast trips)⟩] := by
  rw [tripL_loads]
  unfold tripRows
  rw [funext fun r => ld_stRow (arg1.view.read (Elt F) X1) _ (stOff_inb k r) (k.cast trips) r (stOff_eq k r),
    funext (ld_slabRow (arg5.view.read (Elt F) X5)),
    funext fun n => ld_newRow (arg2.view.read (Elt F) X2) _ (k0_off31_inb k n) (k.cast trips) n (k0_off31_eq k n),
    ld_gateRows _ _ _ (k.cast trips) (k0_off32_eq k), View.ld_unit_zero (by decide), View.ld_unit_zero (by decide), View.ld_unit_zero (by decide)]

/-- The gated rows of the whole block. -/
def gatedRows (x0 : Vec F S16x30x2048 .f32) (x1 x2 : Vec F S128x2048 .f32) (x4 : Vec F S38x8x2048 .f32) (x5 x6 x7 : Vec F S1x2048 .f32) :
    Vec F S128x2048 .f32 :=
  fun y => tripRows x0 x1 x2 x4 x5 x6 x7 ⟨(y 0).val / 8, by have : (y 0).val < 128 := (y 0).isLt; omega⟩
    (ix2 (n0 := 8) (n1 := 2048) ⟨(y 0).val % 8, Nat.mod_lt _ (by decide)⟩ ⟨(y 1).val, (y 1).isLt⟩)

/-- After `k` trips the first `8 k` rows of the buffer hold the gated rows. -/
theorem read_pb (f : BufTy.Contents (Elt F) arg11.view.ty) (k : ℕ) (hk : k ≤ 16) (y : S128x2048.Idx) (hlt : (y 0).val < 8 * k) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 X1 X2 X3 X5 X6 X7 X8 k)) y
      = gatedRows (arg1.view.read (Elt F) X1) (arg2.view.read (Elt F) X2) (arg3.view.read (Elt F) X3) (arg5.view.read (Elt F) X5)
          (arg6.view.read (Elt F) X6) (arg7.view.read (Elt F) X7) (arg8.view.read (Elt F) X8) y := by
  induction k with
  | zero => omega
  | succ k ih =>
    have hk' : k < k0_t1_loop.trips := by rw [trips]; omega
    rw [show k + 1 = (⟨k, hk'⟩ : Fin k0_t1_loop.trips).val + 1 from rfl, pb_k0_t1_succ, tripL_eq, List.singleton_append]
    by_cases hc : (y 0).val < 8 * k
    · rw [View.read_writes_cons_unit_of_not_mem _ _ _ _ _ y (k0_off32_eq ⟨k, hk'⟩) 0 (Or.inl hc)]
      exact ih (by omega) hc
    · refine (View.read_writes_cons_unit_of_mem arg11.view f (k0_off32_inb ⟨k, hk'⟩) _ _ y
        (ix2 (n0 := 8) (n1 := 2048) ⟨(y 0).val % 8, Nat.mod_lt _ (by decide)⟩ ⟨(y 1).val, (y 1).isLt⟩)
        (k0_off32_eq ⟨k, hk'⟩) (Fin.forall_fin_two.mpr ⟨by
          show (y 0).val = 8 * k + (y 0).val % 8
          omega, by show (y 1).val = 0 + (y 1).val; omega⟩)).trans ?_
      have hq : (⟨(y 0).val / 8, by have : (y 0).val < 128 := (y 0).isLt; omega⟩ : Fin 16) = (⟨k, hk'⟩ : Fin k0_t1_loop.trips).cast trips :=
        Fin.ext (by show (y 0).val / 8 = k; omega)
      unfold gatedRows
      rw [hq]

/-- The load of the whole buffer after the loop. -/
theorem load_pb (inb) :
    arg11.view.readCov (Val := Elt F) (pb_k0_t1 (F := F) 𝒱 c bd i arg1 harg1 arg2 harg2 arg3 harg3 arg4 harg4 arg5 harg5 arg6 harg6 arg7 harg7 arg8 harg8 arg9 harg9 arg10 harg10 arg11 harg11 X1 X2 X3 X5 X6 X7 X8 k0_t1_loop.trips)
        (Rect.unit (s := S128x2048) ![0, 0] S128x2048.size inb).toLoadRect
      = gatedRows (arg1.view.read (Elt F) X1) (arg2.view.read (Elt F) X2) (arg3.view.read (Elt F) X3) (arg5.view.read (Elt F) X5)
          (arg6.view.read (Elt F) X6) (arg7.view.read (Elt F) X7) (arg8.view.read (Elt F) X8) := by
  funext z
  unfold View.readCov
  rw [View.readAt_apply]
  have hz : (Rect.unit (s := S128x2048) ![0, 0] S128x2048.size inb).toLoadRect.idx z = z := by
    funext a
    match a with
    | ⟨0, _⟩ => exact Fin.ext (by show 0 + 1 * (z 0).val = (z 0).val; omega)
    | ⟨1, _⟩ => exact Fin.ext (by show 0 + 1 * (z 1).val = (z 1).val; omega)
  rw [hz]
  exact read_pb 𝒱 c bd i arg1 harg1 arg2 harg2 arg3 harg3 arg4 harg4 arg5 harg5 arg6 harg6 arg7 harg7 arg8 harg8 arg9 harg9 arg10 harg10 arg11 harg11 X1 X2 X3 X5 X6 X7 X8 _ _ (by rw [trips]) z (by
    have : (z 0).val < 128 := (z 0).isLt
    rw [trips]; omega)

/-- What the body leaves in its result block. -/
theorem out_eq (x0 : Vec F S16x30x2048 .f32) (x1 x2 : Vec F S128x2048 .f32) (x3 : Vec F S128x1024 .f32) (x4 : Vec F S38x8x2048 .f32)
    (x5 x6 x7 : Vec F S1x2048 .f32) (x8 : Vec F S2048x1024 .bf16) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8
      = k0_pay2 x3 (gatedRows x0 x1 x2 x4 x5 x6 x7) x8 := by
  unfold out0_A_9 kernelRun0_A
  funext y
  refine (View.read_writes_cons_unit_of_mem VO0_9 _ inb_S128x1024_S128x1024_0_0 _ _ y y rfl
    (Fin.forall_fin_two.mpr ⟨(Nat.zero_add _).symm, (Nat.zero_add _).symm⟩)).trans ?_
  refine congrFun (congr (congr (congrArg k0_pay2 ?_) ?_) ?_) y
  · exact (View.ld_unit_zero (by decide) inb_S128x1024_S128x1024_0_0 _).trans (harg4.read_unread _)
  · refine (load_pb Variants.none c none i arg1 harg1 arg2 harg2 arg3 harg3 arg4 harg4 arg5 harg5 arg6 harg6 arg7 harg7 arg8 harg8 arg9 harg9 arg10 harg10 arg11 harg11 _ _ _ _ _ _ _ inb_S128x2048_S128x2048_0_0).trans ?_
    rw [harg1.read_unread, harg2.read_unread, harg3.read_unread, harg5.read_unread, harg6.read_unread, harg7.read_unread, harg8.read_unread]
  · exact (View.ld_unit_zero (by decide) inb_S2048x1024_S2048x1024_0_0 _).trans (harg9.read_unread _)

end Trip

end Cert.Proof.ConvSample
-- ==== Proof.ConvSampleB.lean ====
module
public import proofs.«01_k».proof.Proof.ConvSampleA
public import proofs.«01_k».proof.Proof.ConvFKernelIdeal
@[expose] public section
noncomputable section
/-! # The samples' convolution call: the result block, element by element -/
namespace Cert.Proof.ConvSample
open Cert.Kernel7Ideal Cert.Kernel7Ideal.Gen
open Idealize.ShloMosaic Idealize.ShloMosaic.TcCoe Idealize.ShloMosaic.Tactic
open Cert.Proof.ConvMath Cert.Proof.Layout
open scoped BigOperators

/-- The first thirty-six products, added in order from zero: thirty of the state's rows, then six of the new rows. -/
def most (p : Fin 30 → EReal) (q : Fin 8 → EReal) : EReal :=
  0 + p 0 + p 1 + p 2 + p 3 + p 4 + p 5 + p 6 + p 7 + p 8 + p 9 + p 10 + p 11 + p 12 + p 13 + p 14 + p 15 + p 16 + p 17 + p 18 + p 19
    + p 20 + p 21 + p 22 + p 23 + p 24 + p 25 + p 26 + p 27 + p 28 + p 29 + q 0 + q 1 + q 2 + q 3 + q 4 + q 5

/-- All thirty-eight products, added in order, are the sum of both lists. -/
theorem most_add (p : Fin 30 → EReal) (q : Fin 8 → EReal) : most p q + q 6 + q 7 = ∑ r, p r + ∑ n, q n := by
  unfold most
  simp only [Fin.sum_univ_succ, Fin.sum_univ_zero, zero_add, add_zero, add_assoc]
  rfl

/-- The taps, added in order, are their sum. -/
theorem taps_sum (f : Fin 31 → EReal) : taps f = ∑ j, f j := by
  unfold taps
  simp only [Fin.sum_univ_succ, Fin.sum_univ_zero, zero_add, add_zero, add_assoc]
  rfl

/-- Row `n` of a sample's thirty state rows followed by its eight new rows, in one column. -/
def joined (s : Fin 30 → EReal) (v : Fin 8 → EReal) (n : Nat) : EReal :=
  if h : n < 30 then s ⟨n, h⟩ else if h' : n < 38 then v ⟨n - 30, by omega⟩ else 0

/-- The weight row `n` of the joined rows has in the result of new row `t`. -/
def shifted (w : Fin 31 → EReal) (t : Nat) (n : Nat) : EReal :=
  if h : t ≤ n ∧ n < t + 31 then w ⟨n - t, by omega⟩ else 0

/-- The sum over all joined rows, with the shifted weights, is the sum over the thirty-one taps. -/
theorem shifted_sum (s : Fin 30 → EReal) (v : Fin 8 → EReal) (w : Fin 31 → EReal) (t : Fin 8) :
    (∑ r : Fin 30, s r * shifted w t.val r.val) + (∑ n : Fin 8, v n * shifted w t.val (30 + n.val))
      = taps (fun j => joined s v (t.val + j.val) * w j) := by
  have hl : (∑ r : Fin 30, s r * shifted w t.val r.val) + (∑ n : Fin 8, v n * shifted w t.val (30 + n.val))
      = ∑ n : Fin (30 + 8), joined s v n.val * shifted w t.val n.val := by
    rw [Fin.sum_univ_add]
    refine congrArg₂ (· + ·) (Finset.sum_congr rfl fun r _ => ?_) (Finset.sum_congr rfl fun n _ => ?_)
    · refine congrArg (· * _) ?_
      unfold joined
      show s r = dite (r.val < 30) _ _
      rw [dif_pos r.isLt]
      rfl
    · refine congrArg (· * _) ?_
      unfold joined
      have hn := n.isLt
      show v n = dite (30 + n.val < 30) _ _
      rw [dif_neg (by omega)]
      show v n = dite (30 + n.val < 38) _ _
      rw [dif_pos (by omega)]
      exact congrArg v (Fin.ext (by show n.val = 30 + n.val - 30; omega))
  rw [hl, taps_sum]
  symm
  refine Finset.sum_of_injOn (fun j : Fin 31 => (⟨t.val + j.val, by omega⟩ : Fin (30 + 8))) ?_ (fun _ _ => Finset.mem_coe.mpr (Finset.mem_univ _)) ?_ ?_
  · intro a _ b _ h
    have := congrArg Fin.val h
    exact Fin.ext (by dsimp only at this; omega)
  · intro n _ hn
    unfold shifted
    rw [dif_neg, mul_zero]
    rintro ⟨h1, h2⟩
    exact hn ⟨⟨n.val - t.val, by omega⟩, Finset.mem_coe.mpr (Finset.mem_univ _), Fin.ext (by show t.val + (n.val - t.val) = n.val; omega)⟩
  · intro j _
    unfold shifted
    have hj := j.isLt
    rw [dif_pos (by dsimp only; omega)]
    exact congrArg (_ * ·) (congrArg w (Fin.ext (by show j.val = t.val + j.val - t.val; omega)))

/-- The product of a state row with a weight slab, as a trip takes it. -/
def prodSt (a : Vec Ideal S1x1x2048 .f32) (d : Vec Ideal S1x8x2048 .f32) : FVec Ideal S8x2048 .f32 :=
  mulf (broadcastTo S8x2048 (shapeCast S1x2048 a shapeCasts_S1x1x2048_S1x2048) broadcasts_S1x2048_S8x2048) (shapeCast S8x2048 d shapeCasts_S1x8x2048_S8x2048)

/-- The product of a new row with a weight slab, as a trip takes it. -/
def prodNew (u : Vec Ideal S1x2048 .f32) (d : Vec Ideal S1x8x2048 .f32) : FVec Ideal S8x2048 .f32 :=
  mulf (broadcastTo S8x2048 u broadcasts_S1x2048_S8x2048) (shapeCast S8x2048 d shapeCasts_S1x8x2048_S8x2048)

/-- A weight slab without its unit axis. -/
theorem slab_cast (d : Vec Ideal S1x8x2048 .f32) (t : Fin 8) (k : Fin 2048) :
    shapeCast S8x2048 d shapeCasts_S1x8x2048_S8x2048 (ix2 t k) = d (ix3 0 t k) := by
  refine shapeCast_apply d _ (ix2 t k) (ix3 0 t k) ?_
  rewrite [Shape.rowMajor_val_three, Shape.rowMajor_val_two]
  show (0 * 8 + t.val) * 2048 + k.val = t.val * 2048 + k.val
  omega

/-- A new row's product at an element. -/
theorem prodNew_apply (u : Vec Ideal S1x2048 .f32) (d : Vec Ideal S1x8x2048 .f32) (t : Fin 8) (k : Fin 2048) :
    prodNew u d (ix2 t k) = u (ix2 0 k) * d (ix3 0 t k) :=
  congrArg₂ (· * ·) (by pointwise) (slab_cast d t k)

/-- A state row's product at an element. -/
theorem prodSt_apply (a : Vec Ideal S1x1x2048 .f32) (d : Vec Ideal S1x8x2048 .f32) (t : Fin 8) (k : Fin 2048) :
    prodSt a d (ix2 t k) = a (ix3 0 0 k) * d (ix3 0 t k) := by
  refine (prodNew_apply (shapeCast S1x2048 a shapeCasts_S1x1x2048_S1x2048) d t k).trans (congrArg (· * _) ?_)
  refine shapeCast_apply a _ (ix2 0 k) (ix3 0 0 k) ?_
  rewrite [Shape.rowMajor_val_three, Shape.rowMajor_val_two]
  show (0 * 1 + 0) * 2048 + k.val = 0 * 2048 + k.val
  omega

/-- The products a trip adds before the last two, in order. -/
theorem sums_eq (a : Fin 30 → Vec Ideal S1x1x2048 .f32) (d : Fin 38 → Vec Ideal S1x8x2048 .f32) (u : Fin 8 → Vec Ideal S1x2048 .f32) (i : S8x2048.Idx) :
    sums a d u i = most (fun r => prodSt (a r) (d ⟨r.val, by omega⟩) i) (fun n => prodNew (u n) (d ⟨30 + n.val, by omega⟩) i) := by
  simp only [sums, k0_pay16, k0_pay15, k0_pay14, k0_pay13, k0_pay12, k0_pay11, k0_pay10, k0_pay9, k0_pay8, k0_pay7, k0_pay6, k0_pay5, k0_pay4, k0_pay3]
  unfold most
  rw [← Ideal.ofBits_zero_f32]
  rfl

/-- The convolution of a trip before its bias, at an element. -/
def acc (a : Fin 30 → Vec Ideal S1x1x2048 .f32) (d : Fin 38 → Vec Ideal S1x8x2048 .f32) (u : Fin 8 → Vec Ideal S1x2048 .f32) (t : Fin 8) (k : Fin 2048) : EReal :=
  (∑ r : Fin 30, a r (ix3 0 0 k) * d ⟨r.val, by omega⟩ (ix3 0 t k)) + ∑ n : Fin 8, u n (ix2 0 k) * d ⟨30 + n.val, by omega⟩ (ix3 0 t k)

/-- The rows before the layer norm, as the payload forms them. -/
def pre (s : FVec Ideal S8x2048 .f32) (u6 : Vec Ideal S1x2048 .f32) (d36 : Vec Ideal S1x8x2048 .f32) (u7 : Vec Ideal S1x2048 .f32) (d37 : Vec Ideal S1x8x2048 .f32)
    (b : Vec Ideal S1x2048 .f32) : FVec Ideal S8x2048 .f32 :=
  addf (addf (addf s (prodNew u6 d36)) (prodNew u7 d37)) (broadcastTo S8x2048 b broadcasts_S1x2048_S8x2048)

/-- The rows before the layer norm, at an element. -/
theorem pre_apply (a : Fin 30 → Vec Ideal S1x1x2048 .f32) (d : Fin 38 → Vec Ideal S1x8x2048 .f32) (u : Fin 8 → Vec Ideal S1x2048 .f32) (b : Vec Ideal S1x2048 .f32)
    (t : Fin 8) (k : Fin 2048) :
    pre (sums a d u) (u 6) (d 36) (u 7) (d 37) b (ix2 t k) = acc a d u t k + b (ix2 0 k) := by
  refine congrArg₂ (· + ·) ?_ (by pointwise)
  refine Eq.trans (congrArg (· + _ + _) (sums_eq a d u (ix2 t k))) ((most_add _ _).trans ?_)
  exact congrArg₂ (· + ·) (Finset.sum_congr rfl fun r _ => prodSt_apply _ _ t k) (Finset.sum_congr rfl fun n _ => prodNew_apply _ _ t k)

/-- The layer norm, the silu and the gate of eight rows, as the payloads form them. -/
def gate (c : FVec Ideal S8x2048 .f32) (g l : Vec Ideal S1x2048 .f32) (z : Vec Ideal S8x2048 .f32) : FVec Ideal S8x2048 .f32 :=
  have mu : FVec Ideal S8x1 .f32 := divf (shapeCast S8x1 (multiReduction .add [1] S8 c 0x00000000#32 reduces_S8x2048_S8 (.inl rfl) rfl) shapeCasts_S8_S8x1)
    (broadcast S8x1 (Scalar.ofBits .f32 0x45000000#32))
  have xc : FVec Ideal S8x2048 .f32 := subf c (broadcastTo S8x2048 mu broadcasts_S8x1_S8x2048)
  have va : FVec Ideal S8x1 .f32 := divf (shapeCast S8x1 (multiReduction .add [1] S8 (mulf xc xc) 0x00000000#32 reduces_S8x2048_S8 (.inl rfl) rfl) shapeCasts_S8_S8x1)
    (broadcast S8x1 (Scalar.ofBits .f32 0x45000000#32))
  have rs : FVec Ideal S8x1 .f32 := rsqrt (addf va (broadcast S8x1 (Scalar.ofBits .f32 0x358637BD#32)))
  have y : FVec Ideal S8x2048 .f32 := addf (mulf (mulf xc (broadcastTo S8x2048 rs broadcasts_S8x1_S8x2048)) (broadcastTo S8x2048 g broadcasts_S1x2048_S8x2048))
    (broadcastTo S8x2048 l broadcasts_S1x2048_S8x2048)
  mulf (mulf y (logistic y)) z

/-- A trip's rows are the gate of the rows before the layer norm. -/
theorem stored_eq (a : Fin 30 → Vec Ideal S1x1x2048 .f32) (d : Fin 38 → Vec Ideal S1x8x2048 .f32) (u : Fin 8 → Vec Ideal S1x2048 .f32) (b g l : Vec Ideal S1x2048 .f32)
    (z : Vec Ideal S8x2048 .f32) : stored a d u b g l z = gate (pre (sums a d u) (u 6) (d 36) (u 7) (d 37) b) g l z := by
  unfold stored
  simp only [k0_pay1, k0_pay17, k0_pay18, shapeCast_self]
  rfl

/-- The gate at an element. -/
theorem gate_apply (c : FVec Ideal S8x2048 .f32) (g l : Vec Ideal S1x2048 .f32) (z : Vec Ideal S8x2048 .f32) (t : Fin 8) (k : Fin 2048) :
    gate c g l z (ix2 t k) = gated (fun j => c (ix2 t j)) (fun j => g (ix2 0 j)) (fun j => l (ix2 0 j)) (fun j => z (ix2 t j)) k := by
  unfold gated lnorm mean
  simp only [gate]
  pointwise [rowSum_apply]

/-- The output projection with the residual, at an element. -/
theorem pay2_apply (x : Vec Ideal S128x1024 .f32) (y : Vec Ideal S128x2048 .f32) (w : Vec Ideal S2048x1024 .bf16) (R : Fin 128) (e : Fin 1024) :
    k0_pay2 (F := Ideal) x y w (ix2 R e) = x (ix2 R e) + ∑ k : Fin 2048, y (ix2 R k) * w (ix2 k e) := by
  simp only [k0_pay2, shapeCast_self]
  refine congrArg₂ (· + ·) rfl ?_
  refine (Ideal.matmul_plain_apply none _ w _ R e).trans ?_
  show Ideal.ofBits .f32 0x00000000#32 + _ = _
  rw [Ideal.ofBits_zero_f32, zero_add]
  refine Finset.sum_congr rfl fun k _ => congrArg₂ (· * ·) (congrArg y ?_) (congrArg w ?_)
  all_goals
    funext a
    match a with
    | ⟨0, _⟩ => rfl
    | ⟨1, _⟩ => rfl

/-- The result block at an element. -/
theorem block_apply (x0 : Vec Ideal S16x30x2048 .f32) (x1 x2 : Vec Ideal S128x2048 .f32) (x3 : Vec Ideal S128x1024 .f32) (x4 : Vec Ideal S38x8x2048 .f32)
    (x5 x6 x7 : Vec Ideal S1x2048 .f32) (x8 : Vec Ideal S2048x1024 .bf16) (q : Fin 16) (t : Fin 8) (e : Fin 1024) (R : Fin 128) (hR : R.val = 8 * q.val + t.val) :
    k0_pay2 x3 (gatedRows x0 x1 x2 x4 x5 x6 x7) x8 (ix2 R e)
      = outRow (fun k => (∑ r : Fin 30, x0 (ix3 q r k) * x4 (ix3 ⟨r.val, by omega⟩ t k))
            + (∑ n : Fin 8, x1 (ix2 ⟨8 * q.val + n.val, by omega⟩ k) * x4 (ix3 ⟨30 + n.val, by omega⟩ t k)) + x5 (ix2 0 k))
          (fun k => x6 (ix2 0 k)) (fun k => x7 (ix2 0 k)) (fun k => x2 (ix2 R k)) (fun k => x8 (ix2 k e)) (x3 (ix2 R e)) := by
  unfold outRow
  refine (pay2_apply _ _ _ R e).trans (congrArg₂ (· + ·) rfl (Finset.sum_congr rfl fun k _ => congrArg (· * x8 (ix2 k e)) ?_))
  have hq : (⟨R.val / 8, by omega⟩ : Fin 16) = q := Fin.ext (by show R.val / 8 = q.val; omega)
  have ht : (⟨R.val % 8, Nat.mod_lt _ (by decide)⟩ : Fin 8) = t := Fin.ext (by show R.val % 8 = t.val; omega)
  show tripRows x0 x1 x2 x4 x5 x6 x7 ⟨R.val / 8, _⟩ (ix2 ⟨R.val % 8, _⟩ k) = _
  rw [hq, ht]
  unfold tripRows
  rw [stored_eq, gate_apply]
  refine congrArg₂ (fun c z => gated c _ _ z k) (funext fun j => (pre_apply _ _ _ _ t j).trans rfl) (funext fun j => ?_)
  exact ConvVal.at2 x2 _ _ hR.symm rfl

end Cert.Proof.ConvSample
-- ==== Proof.ConvSampleC.lean ====
module
public import proofs.«01_k».proof.Proof.ConvSampleB
@[expose] public section
noncomputable section
/-! # The samples' convolution call: the weights the host code prepares -/
namespace Cert.Proof.ConvSample
open Cert.Kernel7Ideal Cert.Kernel7Ideal.Gen
open Idealize.ShloMosaic Idealize.ShloMosaic.TcCoe Idealize.ShloMosaic.Tactic
open Cert.Proof.ConvMath Cert.Proof.Layout
open scoped BigOperators

variable (m : (ℓ : Loc nD τ sig) → Buf (Elt Ideal) ℓ)

/-- Joined row minus new row. -/
def gap : IVec S38x8 32 :=
  subi (broadcastInDim S38x8 ![0, 1] bcast_S38x1_S38x8_0_1 (broadcastInDim S38x1 ![0] bcast_S38_S38x1_0 (iotaInDim S38 32 0)))
    (broadcastInDim S38x8 ![0, 1] bcast_S1x8_S38x8_0_1 (broadcastInDim S1x8 ![1] bcast_S8_S1x8_1 (iotaInDim S8 32 0)))

/-- Whether the gap is that of a tap. -/
def isTap : IVec S38x8 1 :=
  andi (cmpi .sge gap (broadcastInDim S38x8 ![] bcast_S_S38x8 (constantI S_ 32 0#32)))
    (cmpi .slt gap (broadcastInDim S38x8 ![] bcast_S_S38x8 (constantI S_ 32 31#32)))

/-- The gap, clipped to the taps' range. -/
def clipped : IVec S38x8 32 :=
  minsi (broadcastInDim S38x8 ![] bcast_S_S38x8 (constantI S_ 32 30#32)) (maxsi (broadcastInDim S38x8 ![] bcast_S_S38x8 (constantI S_ 32 0#32)) gap)

/-- The row of the weights gathered for each pair. -/
def rowOf : IVec S38x8 32 :=
  select (cmpi .slt clipped (broadcastInDim S38x8 ![] bcast_S_S38x8 (constantI S_ 32 0#32)))
    (addi clipped (broadcastInDim S38x8 ![] bcast_S_S38x8 (constantI S_ 32 31#32))) clipped

/-- The rows of the weights gathered at given places where a flag is set, zero elsewhere. -/
def pick (f : IVec S38x8 1) (r : IVec S38x8 32) (w : Vec Ideal S31x2048 .f32) : Vec Ideal S38x8x2048 .f32 :=
  select (broadcastInDim S38x8x2048 ![0, 1, 2] bcast_S38x8x1_S38x8x2048_0_1_2 (broadcastInDim S38x8x1 ![0, 1] bcast_S38x8_S38x8x1_0_1 f))
    (Host.gather gather_S31x2048_S38x8x1_S38x8x2048_2_0_n_n_0_2_12048 w (broadcastInDim S38x8x1 ![0, 1] bcast_S38x8_S38x8x1_0_1 r))
    (broadcastInDim S38x8x2048 ![] bcast_S_S38x8x2048 (constant (F := Ideal) S_ .f32 0x00000000#32 : Vec Ideal S_ .f32))

/-- The weight slabs, from the weights. -/
def slabs (w : Vec Ideal S31x2048 .f32) : Vec Ideal S38x8x2048 .f32 := pick isTap rowOf w

/-- The weight slabs reach the call as the host code prepares them. -/
theorem V_slabs (c : Dev nD) : (V m c main_v21 : Vec Ideal S38x8x2048 .f32) = slabs (m ((c : Thread nD τ).loc main_arg4) : Vec Ideal S31x2048 .f32) := by
  show StableHlo.after (List.flatten [hostOps0, hostOps0_1, hostOps0_2, hostOps0_3, hostOps0_4]) (fun b => m (c, b)) main_v21 = _
  simp only [hostOps0, hostOps0_1, hostOps0_2, hostOps0_3, hostOps0_4, List.flatten_cons, List.flatten_nil, List.append_nil, List.cons_append, List.nil_append]
  after_results_simp
  simp -implicitDefEqProofs only [StableHlo.TRef.toBuf, StableHlo.TRef.ofBuf, cast_cast, cast_eq, id_eq]
  unfold slabs pick rowOf clipped isTap gap
  rfl

/-- Which pairs are taps. -/
theorem isTap_at : ∀ (n : Fin 38) (t : Fin 8), isTap (ix2 n t) = if t.val ≤ n.val ∧ n.val < t.val + 31 then 1#1 else 0#1 := by decide +kernel

/-- The row gathered for a pair that is a tap. -/
theorem rowOf_at : ∀ (n : Fin 38) (t : Fin 8), t.val ≤ n.val ∧ n.val < t.val + 31 → min (rowOf (ix2 n t)).toInt.toNat 30 = n.val - t.val := by decide +kernel

/-- Equal row numbers give equal places of a column. -/
theorem at_congr {a b : Nat} {ha : a < 31} {hb : b < 31} (h : a = b) (k : Fin 2048) : ix2 (⟨a, ha⟩ : Fin 31) k = ix2 (⟨b, hb⟩ : Fin 31) k := by subst h; rfl

/-- The gather of the weights' rows, at an element. -/
theorem gather_at (w : Vec Ideal S31x2048 .f32) (idx : IVec S38x8x1 32) (n : Fin 38) (t : Fin 8) (k : Fin 2048) :
    Host.gather gather_S31x2048_S38x8x1_S38x8x2048_2_0_n_n_0_2_12048 w idx (ix3 n t k)
      = w (ix2 ⟨min (idx (ix3 n t 0)).toInt.toNat 30, by omega⟩ k) := by
  unfold Host.gather
  refine congrArg w (funext fun a => Fin.ext ?_)
  match a with
  | ⟨0, _⟩ =>
    show GatherDims.start _ (ix3 n t k) idx 0 + GatherDims.batchCoord _ (ix3 n t k) 0 + GatherDims.offCoord _ (ix3 n t k) 0 = min (idx (ix3 n t 0)).toInt.toNat 30
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S31x2048.rank) ∈ gather_S31x2048_S38x8x1_S38x8x2048_2_0_n_n_0_2_12048.startIndexMap from List.mem_singleton.mpr rfl)]
    refine congrArg (fun i => min (idx i).toInt.toNat 30) (funext fun b => Fin.ext ?_)
    match b with
    | ⟨0, _⟩ => rfl
    | ⟨1, _⟩ => rfl
    | ⟨2, _⟩ => rfl
  | ⟨1, _⟩ =>
    show GatherDims.start _ (ix3 n t k) idx 1 + GatherDims.batchCoord _ (ix3 n t k) 1 + GatherDims.offCoord _ (ix3 n t k) 1 = k.val
    rw [GatherDims.batchCoord_eq_zero _ _ _ List.not_mem_nil]
    unfold GatherDims.start
    rw [dif_neg (by decide)]
    simp only [Nat.add_zero, Nat.zero_add]
    rfl

/-- A gathered row where a flag is set and zero elsewhere, at an element. -/
theorem pick_apply (f : IVec S38x8 1) (r : IVec S38x8 32) (w : Vec Ideal S31x2048 .f32) (n : Fin 38) (t : Fin 8) (k : Fin 2048) :
    pick f r w (ix3 n t k) = if f (ix2 n t) = 1#1 then w (ix2 ⟨min (r (ix2 n t)).toInt.toNat 30, by omega⟩ k) else 0 := by
  unfold pick
  refine (if_congr (Eq.to_iff (congrArg (· = 1#1) (congrArg f (funext fun a => ?_)))) ((gather_at w _ n t k).trans (congrArg w (at_congr ?_ k))) Ideal.ofBits_zero_f32)
  · match a with
    | ⟨0, _⟩ => rfl
    | ⟨1, _⟩ => rfl
  · refine congrArg (fun i => min (r i).toInt.toNat 30) (funext fun a => ?_)
    match a with
    | ⟨0, _⟩ => rfl
    | ⟨1, _⟩ => rfl

/-- A weight slab at an element: the shifted weights. -/
theorem slabs_apply (w : Vec Ideal S31x2048 .f32) (n : Fin 38) (t : Fin 8) (k : Fin 2048) :
    slabs w (ix3 n t k) = shifted (fun j => w (ix2 j k)) t.val n.val := by
  unfold slabs shifted
  rw [pick_apply, isTap_at]
  by_cases h : t.val ≤ n.val ∧ n.val < t.val + 31
  · rw [if_pos h, dif_pos h]
    exact (if_pos rfl).trans (congrArg w (at_congr (rowOf_at n t h) k))
  · rw [if_neg h, dif_neg h]
    exact if_neg (by decide)

end Cert.Proof.ConvSample
-- ==== Proof.ConvSampleD.lean ====
module
public import proofs.«01_k».proof.Proof.ConvSampleC
public import proofs.«01_k».proof.Proof.ConvGKernelIdeal
public import proofs.«01_k».proof.Proof.Gen.Kernel7Ideal.Value
@[expose] public section
noncomputable section
/-! # The array the samples' convolution call leaves, from the arguments -/
namespace Cert.Proof.ConvSample
open Cert.Kernel7Ideal Cert.Kernel7Ideal.Gen
open Idealize.ShloMosaic Idealize.ShloMosaic.TcCoe Idealize.ShloMosaic.Tactic
open Cert.Proof.ConvMath Cert.Proof.Layout
open Idealize.ShloMosaic.Pipeline (Dat Cfg Window)
open scoped BigOperators

variable (m : (ℓ : Loc nD τ sig) → Buf (Elt Ideal) ℓ)

/-- The convolution of sample `s`, row `t` of its eight, at a column: thirty-one taps over the state's rows followed by the new rows. -/
def convAt (st : Vec Ideal S128x30x2048 .f32) (v : Vec Ideal S1024x2048 .f32) (dw : Vec Ideal S31x2048 .f32) (db : Vec Ideal S2048 .f32) (s : Fin 128) (t : Nat)
    (k : Fin 2048) : EReal :=
  taps (fun j => joined (fun r => st (ix3 s r k)) (fun n => v (ix2 ⟨8 * s.val + n.val, by omega⟩ k)) (t + j.val) * dw (ix2 j k)) + db (ix1 k)

/-- The result at an element, from the arguments. -/
def res (st : Vec Ideal S128x30x2048 .f32) (v z : Vec Ideal S1024x2048 .f32) (x : Vec Ideal S1024x1024 .f32) (dw : Vec Ideal S31x2048 .f32)
    (db g l : Vec Ideal S2048 .f32) (w : Vec Ideal S2048x1024 .f32) : Vec Ideal S1024x1024 .f32 := fun i =>
  outRow (convAt st v dw db ⟨(i 0).val / 8, by have : (i 0).val < 1024 := (i 0).isLt; omega⟩ ((i 0).val % 8)) (fun k => g (ix1 k)) (fun k => l (ix1 k))
    (fun k => z (ix2 (i 0) k)) (fun k => w (ix2 k (i 1))) (x i)

/-- The three vectors of the arguments reach the call as one row each. -/
theorem V_rows (c : Dev nD) :
    (V m c main_v22 : Vec Ideal S1x2048 .f32) = shapeCast S1x2048 (m ((c : Thread nD τ).loc main_arg5) : Vec Ideal S2048 .f32) shapeCasts_S2048_S1x2048
    ∧ (V m c main_v23 : Vec Ideal S1x2048 .f32) = shapeCast S1x2048 (m ((c : Thread nD τ).loc main_arg6) : Vec Ideal S2048 .f32) shapeCasts_S2048_S1x2048
    ∧ (V m c main_v24 : Vec Ideal S1x2048 .f32) = shapeCast S1x2048 (m ((c : Thread nD τ).loc main_arg7) : Vec Ideal S2048 .f32) shapeCasts_S2048_S1x2048 := by
  refine ⟨?_, ?_, ?_⟩
  all_goals
    first
      | show StableHlo.after (List.flatten [hostOps0, hostOps0_1, hostOps0_2, hostOps0_3, hostOps0_4]) (fun b => m (c, b)) main_v22 = _
      | show StableHlo.after (List.flatten [hostOps0, hostOps0_1, hostOps0_2, hostOps0_3, hostOps0_4]) (fun b => m (c, b)) main_v23 = _
      | show StableHlo.after (List.flatten [hostOps0, hostOps0_1, hostOps0_2, hostOps0_3, hostOps0_4]) (fun b => m (c, b)) main_v24 = _
    simp only [hostOps0, hostOps0_1, hostOps0_2, hostOps0_3, hostOps0_4, List.flatten_cons, List.flatten_nil, List.append_nil, List.cons_append, List.nil_append]
    after_results_simp <;> rfl

/-- The output weights reach the call as they are. -/
theorem V_wout (c : Dev nD) : (V m c main_v25 : Vec Ideal S2048x1024 .bf16) = (m ((c : Thread nD τ).loc main_arg8) : Vec Ideal S2048x1024 .f32) := by
  show StableHlo.after (List.flatten [hostOps0, hostOps0_1, hostOps0_2, hostOps0_3, hostOps0_4]) (fun b => m (c, b)) main_v25 = _
  simp only [hostOps0, hostOps0_1, hostOps0_2, hostOps0_3, hostOps0_4, List.flatten_cons, List.flatten_nil, List.append_nil, List.cons_append, List.nil_append]
  after_results_simp <;> rfl

/-- Where each window's block of a point lies. -/
theorem idx : ∀ t : Fin cfg0.N, win0_0.index t = ![t.val, 0, 0] ∧ win0_1.index t = ![t.val, 0] ∧ win0_2.index t = ![t.val, 0] ∧ win0_3.index t = ![t.val, 0]
    ∧ win0_4.index t = ![0, 0, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- The state's block of a point, at an element. -/
theorem read0 (c : Dev nD) (t : Fin cfg0.N) (q : Fin 16) (r : Fin 30) (k : Fin 2048) (s : Fin 128) (hs : s.val = t.val * 16 + q.val) :
    (iblk m c 0 t : Vec Ideal S16x30x2048 .f32) (ix3 q r k) = (m ((c : Thread nD τ).loc main_arg0) : Vec Ideal S128x30x2048 .f32) (ix3 s r k) := by
  refine Eq.trans ?_ (congrFun (V_main_arg0 m c) _)
  blk_simp [iblk, idx]
  refine congrArg (V m c main_arg0 : Vec Ideal S128x30x2048 .f32) (funext fun a => Fin.ext ?_)
  match a with
  | ⟨0, _⟩ => blk_simp [idx]; exact hs.symm
  | ⟨1, _⟩ => blk_simp [idx]
  | ⟨2, _⟩ => blk_simp [idx]

/-- The new rows' block of a point, at an element. -/
theorem read1 (c : Dev nD) (t : Fin cfg0.N) (r : Fin 128) (k : Fin 2048) (R : Fin 1024) (hR : R.val = t.val * 128 + r.val) :
    (iblk m c 1 t : Vec Ideal S128x2048 .f32) (ix2 r k) = (m ((c : Thread nD τ).loc main_arg1) : Vec Ideal S1024x2048 .f32) (ix2 R k) := by
  refine Eq.trans ?_ (congrFun (V_main_arg1 m c) _)
  blk_simp [iblk, idx]
  refine ConvVal.at2 (V m c main_arg1 : Vec Ideal S1024x2048 .f32) _ _ ?_ ?_ <;> blk_simp [idx]
  exact hR.symm

/-- The gates' block of a point, at an element. -/
theorem read2 (c : Dev nD) (t : Fin cfg0.N) (r : Fin 128) (k : Fin 2048) (R : Fin 1024) (hR : R.val = t.val * 128 + r.val) :
    (iblk m c 2 t : Vec Ideal S128x2048 .f32) (ix2 r k) = (m ((c : Thread nD τ).loc main_arg2) : Vec Ideal S1024x2048 .f32) (ix2 R k) := by
  refine Eq.trans ?_ (congrFun (V_main_arg2 m c) _)
  blk_simp [iblk, idx]
  refine ConvVal.at2 (V m c main_arg2 : Vec Ideal S1024x2048 .f32) _ _ ?_ ?_ <;> blk_simp [idx]
  exact hR.symm

/-- The residual's block of a point, at an element. -/
theorem read3 (c : Dev nD) (t : Fin cfg0.N) (r : Fin 128) (e : Fin 1024) (R : Fin 1024) (hR : R.val = t.val * 128 + r.val) :
    (iblk m c 3 t : Vec Ideal S128x1024 .f32) (ix2 r e) = (m ((c : Thread nD τ).loc main_arg3) : Vec Ideal S1024x1024 .f32) (ix2 R e) := by
  refine Eq.trans ?_ (congrFun (V_main_arg3 m c) _)
  blk_simp [iblk, idx]
  refine ConvVal.at2 (V m c main_arg3 : Vec Ideal S1024x1024 .f32) _ _ ?_ ?_ <;> blk_simp [idx]
  exact hR.symm

/-- The weight slabs' block of a point: the shifted weights. -/
theorem read4 (c : Dev nD) (t : Fin cfg0.N) (n : Fin 38) (u : Fin 8) (k : Fin 2048) :
    (iblk m c 4 t : Vec Ideal S38x8x2048 .f32) (ix3 n u k)
      = shifted (fun j => (m ((c : Thread nD τ).loc main_arg4) : Vec Ideal S31x2048 .f32) (ix2 j k)) u.val n.val := by
  refine Eq.trans ?_ ((congrFun (V_slabs m c) (ix3 n u k)).trans (slabs_apply _ n u k))
  blk_simp [iblk, idx]
  refine congrArg (V m c main_v21 : Vec Ideal S38x8x2048 .f32) (funext fun a => Fin.ext ?_)
  match a with
  | ⟨0, _⟩ => blk_simp [idx]
  | ⟨1, _⟩ => blk_simp [idx]
  | ⟨2, _⟩ => blk_simp [idx]

/-- The blocks of the bias, of the norm's gain and of its shift are the arguments. -/
theorem readRows (c : Dev nD) (t : Fin cfg0.N) (d : Fin 2048) :
    (iblk m c 5 t : Vec Ideal S1x2048 .f32) (ix2 0 d) = (m ((c : Thread nD τ).loc main_arg5) : Vec Ideal S2048 .f32) (ix1 d)
    ∧ (iblk m c 6 t : Vec Ideal S1x2048 .f32) (ix2 0 d) = (m ((c : Thread nD τ).loc main_arg6) : Vec Ideal S2048 .f32) (ix1 d)
    ∧ (iblk m c 7 t : Vec Ideal S1x2048 .f32) (ix2 0 d) = (m ((c : Thread nD τ).loc main_arg7) : Vec Ideal S2048 .f32) (ix1 d) := by
  obtain ⟨e5, e6, e7⟩ := V_rows m c
  refine ⟨Eq.trans ?_ ((congrFun e5 (ix2 0 d)).trans (row_apply (m ((c : Thread nD τ).loc main_arg5) : Vec Ideal S2048 .f32) _ d)),
    Eq.trans ?_ ((congrFun e6 (ix2 0 d)).trans (row_apply (m ((c : Thread nD τ).loc main_arg6) : Vec Ideal S2048 .f32) _ d)),
    Eq.trans ?_ ((congrFun e7 (ix2 0 d)).trans (row_apply (m ((c : Thread nD τ).loc main_arg7) : Vec Ideal S2048 .f32) _ d))⟩
  all_goals
    blk_simp [iblk, idx]
    refine ConvVal.at2 (n := 1) (m := 2048) _ _ _ ?_ ?_ <;> blk_simp [idx]

/-- The output weights' block of a point is the argument. -/
theorem read8 (c : Dev nD) (t : Fin cfg0.N) (k : Fin 2048) (e : Fin 1024) :
    (iblk m c 8 t : Vec Ideal S2048x1024 .bf16) (ix2 k e) = (m ((c : Thread nD τ).loc main_arg8) : Vec Ideal S2048x1024 .f32) (ix2 k e) := by
  refine Eq.trans ?_ (congrFun (V_wout m c) _)
  blk_simp [iblk, idx]
  refine ConvVal.at2 (V m c main_v25 : Vec Ideal S2048x1024 .bf16) _ _ ?_ ?_ <;> blk_simp [idx]

/-- What the body leaves at a point is the result at the element's place in the array. -/
theorem block_eq (c : Dev nD) (t : Fin cfg0.N) (y : S128x1024.Idx) (i : S1024x1024.Idx)
    (h0 : (i 0).val = t.val * 128 + (y 0).val) (h1 : (i 1).val = (y 1).val) :
    outsAt0 m c t y = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) i := by
  obtain ⟨R, e, rfl⟩ : ∃ (R : Fin 128) (e : Fin 1024), y = ix2 R e :=
    ⟨y 0, y 1, by funext a; match a with | ⟨0, _⟩ => rfl | ⟨1, _⟩ => rfl⟩
  obtain ⟨I, e', rfl⟩ : ∃ (I e' : Fin 1024), i = ix2 I e' :=
    ⟨i 0, i 1, by funext a; match a with | ⟨0, _⟩ => rfl | ⟨1, _⟩ => rfl⟩
  have h0' : I.val = t.val * 128 + R.val := h0
  obtain rfl : e' = e := Fin.ext h1
  unfold outsAt0
  rw [out_eq]
  refine (block_apply _ _ _ _ _ _ _ _ _ ⟨R.val / 8, by omega⟩ ⟨R.val % 8, by omega⟩ e' R (by show R.val = 8 * (R.val / 8) + R.val % 8; omega)).trans ?_
  unfold res
  refine ConvVal.outRow_congr (funext fun k => ?_) (funext fun j => (readRows m c t j).2.1) (funext fun j => (readRows m c t j).2.2)
    (funext fun j => read2 m c t R j I h0') (funext fun k => read8 m c t k e') (read3 m c t R e' I h0')
  refine congrArg₂ (· + ·) ?_ (readRows m c t k).1
  have ht : I.val % 8 = R.val % 8 := by omega
  show _ = taps (fun j => joined _ _ (I.val % 8 + j.val) * _)
  rw [ht]
  refine Eq.trans ?_ (shifted_sum _ _ _ ⟨R.val % 8, by omega⟩)
  refine congrArg₂ (· + ·) (Finset.sum_congr rfl fun r _ => congrArg₂ (· * ·) ?_ (read4 m c t _ _ k)) (Finset.sum_congr rfl fun n _ => congrArg₂ (· * ·) ?_ (read4 m c t _ _ k))
  · exact read0 m c t _ r k _ (by show I.val / 8 = t.val * 16 + R.val / 8; omega)
  · exact read1 m c t _ k _ (by show 8 * (I.val / 8) + n.val = t.val * 128 + (8 * (R.val / 8) + n.val); omega)

/-- The result array at the end of a run. -/
theorem final (c : Dev nD) : (dats m 0 c).arrAt 9 cfg0.N
    = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  exact block_eq m c t y _ (by blk_simp [idx]) (by blk_simp [idx])

end Cert.Proof.ConvSample
-- ==== Proof.ConvSampleE.lean ====
module
public import proofs.«01_k».proof.Defs
public import proofs.«01_k».proof.Proof.ConvSampleD
public import proofs.«01_k».proof.Proof.Gen.Reference7Ideal.Read
public import proofs.«01_k».proof.Proof.Gen.Reference7Ideal.Run
@[expose] public section
noncomputable section
/-! # The samples' convolution call equals its reference -/
namespace Cert.Proof.ConvSampleRef
open Cert.Reference7Ideal Cert.Reference7Ideal.Gen Cert.Reference7Ideal.Read
open Idealize.ShloMosaic Idealize.ShloMosaic.TcCoe Idealize.ShloMosaic.Tactic
open Cert.Proof.ConvMath
open Cert.Proof.ConvSample (joined convAt res)
open scoped BigOperators

/-- The new rows, grouped by sample. -/
theorem v0_at (v : Vec Ideal S1024x2048 .f32) (s : Fin 128) (n : Fin 8) (k : Fin 2048) :
    val_main_v0 (F := Ideal) v (ix3 s n k) = v (ix2 ⟨8 * s.val + n.val, by omega⟩ k) := by
  rw [val_main_v0_apply]
  refine congrArg v (funext fun a => Fin.ext ?_)
  match a with
  | ⟨0, _⟩ => show ((s.val * 8 + n.val) * 2048 + k.val) / 2048 = 8 * s.val + n.val; omega
  | ⟨1, _⟩ => show ((s.val * 8 + n.val) * 2048 + k.val) % 2048 = k.val; omega

/-- A sample's state rows followed by its new rows. -/
theorem v1_apply (st : Vec Ideal S128x30x2048 .f32) (v : Vec Ideal S1024x2048 .f32) (s : Fin 128) (n : Fin 38) (k : Fin 2048) :
    val_main_v1 (F := Ideal) st v (ix3 s n k) = joined (fun r => st (ix3 s r k)) (fun n => v (ix2 ⟨8 * s.val + n.val, by omega⟩ k)) n.val := by
  unfold val_main_v1 joined
  have hn := n.isLt
  by_cases h : n.val < 30
  · rw [dif_pos h]
    refine concatenate_pair_apply_left (t := S128x38x2048) (s₁ := S128x30x2048) (s₂ := S128x8x2048) 1 st _ _ (ix3 s n k) rfl (ix3 s ⟨n.val, h⟩ k) fun a => ?_
    match a with
    | ⟨0, _⟩ => rfl
    | ⟨1, _⟩ => rfl
    | ⟨2, _⟩ => rfl
  · rw [dif_neg h, dif_pos (by omega)]
    refine (concatenate_pair_apply_right (t := S128x38x2048) (s₁ := S128x30x2048) (s₂ := S128x8x2048) 1 st _ _ (ix3 s n k) rfl rfl (ix3 s ⟨n.val - 30, by omega⟩ k)
      (fun a ha => ?_) ?_).trans (v0_at v s _ k)
    · match a with
      | ⟨0, _⟩ => rfl
      | ⟨1, _⟩ => exact absurd rfl ha
      | ⟨2, _⟩ => rfl
    · show n.val - 30 + 30 = n.val; omega

/-- The rows of each tap are a slice of the joined rows. -/
theorem rows_slices : ∀ j : Fin 31, S128x38x2048.Slices ![0, j.val, 0] S128x8x2048 := by decide
theorem weight_slices : ∀ j : Fin 31, S31x2048.Slices ![j.val, 0] S1x2048 := by decide

/-- Tap `j` as the reference writes it: the rows from row `j` of the joined rows, each multiplied by row `j` of the weights. -/
def tapOf (st : Vec Ideal S128x30x2048 .f32) (v : Vec Ideal S1024x2048 .f32) (w : Vec Ideal S31x2048 .f32) (j : Fin 31) : FVec Ideal S128x8x2048 .f32 :=
  mulf (extractStridedSlice S128x8x2048 ![0, j.val, 0] (val_main_v1 (F := Ideal) st v) (rows_slices j))
    (broadcastInDim S128x8x2048 ![0, 1, 2] bcast_S1x1x2048_S128x8x2048_0_1_2
      (broadcastInDim S1x1x2048 ![2] bcast_S2048_S1x1x2048_2
        (shapeCast S2048 (extractStridedSlice S1x2048 ![j.val, 0] w (weight_slices j)) shapeCasts_S1x2048_S2048)))

/-- Tap `j` at an element. -/
theorem tap_apply (st : Vec Ideal S128x30x2048 .f32) (v : Vec Ideal S1024x2048 .f32) (w : Vec Ideal S31x2048 .f32) (j : Fin 31) (s : Fin 128) (t : Fin 8) (k : Fin 2048) :
    tapOf st v w j (ix3 s t k)
      = joined (fun r => st (ix3 s r k)) (fun n => v (ix2 ⟨8 * s.val + n.val, by omega⟩ k)) (t.val + j.val) * w (ix2 j k) := by
  unfold tapOf
  refine congrArg₂ (· * ·) ((extractStridedSlice_apply _ _ _ (ix3 s t k) (ix3 s ⟨t.val + j.val, by omega⟩ k) fun a => ?_).trans (v1_apply st v s _ k)) ?_
  · match a with
    | ⟨0, _⟩ => exact (Nat.zero_add _).symm
    | ⟨1, _⟩ => exact Nat.add_comm _ _
    | ⟨2, _⟩ => exact (Nat.zero_add _).symm
  · refine (shapeCast_apply _ _ (ix1 k) (ix2 (0 : Fin 1) k) ?_).trans
      ((extractStridedSlice_apply _ _ _ (ix2 (0 : Fin 1) k) (ix2 j k) fun a => ?_))
    · rewrite [Shape.rowMajor_val_one, Shape.rowMajor_val_two]; show 0 * 2048 + k.val = k.val; omega
    · match a with
      | ⟨0, _⟩ => rfl
      | ⟨1, _⟩ => exact (Nat.zero_add _).symm

/-- The taps are added in order from zero. -/
theorem v219_apply (st : Vec Ideal S128x30x2048 .f32) (v : Vec Ideal S1024x2048 .f32) (w : Vec Ideal S31x2048 .f32) (i : S128x8x2048.Idx) :
    val_main_v219 (F := Ideal) st v w i = taps (fun j => tapOf st v w j i) := by
  unfold taps
  rw [← Ideal.ofBits_zero_f32]
  rfl

variable (st : Vec Ideal S128x30x2048 .f32) (v z : Vec Ideal S1024x2048 .f32) (x : Vec Ideal S1024x1024 .f32) (w : Vec Ideal S31x2048 .f32) (db g lb : Vec Ideal S2048 .f32)
  (wo : Vec Ideal S2048x1024 .f32)

/-- The reference's convolution. -/
theorem v222_apply (s : Fin 128) (t : Fin 8) (k : Fin 2048) : val_main_v222 (F := Ideal) st v w db (ix3 s t k) = convAt st v w db s t.val k := by
  unfold convAt
  rw [val_main_v222_apply, val_main_v221_apply, val_main_v220_apply, v219_apply]
  refine congrArg₂ (· + ·) (congrArg taps (funext fun j => tap_apply st v w j s t k)) (congrArg db (funext fun a => ?_))
  match a with | ⟨0, _⟩ => rfl

/-- The mean of a row of the convolution. -/
theorem v226_apply (i : S128x8x1.Idx) (s : Fin 128) (t : Fin 8) (h0 : (i 0).val = s.val) (h1 : (i 1).val = t.val) :
    val_main_v226 (F := Ideal) st v w db i = mean (convAt st v w db s t.val) := by
  rw [val_main_v226_apply, val_main_v224_apply, val_main_v223_apply, val_main_v225_apply]
  unfold mean
  refine congrArg₂ Ideal.div ?_ rfl
  refine Eq.trans (congrArg₂ (· + ·) Ideal.ofBits_zero_f32 (Finset.sum_congr rfl fun k _ => ?_)) (zero_add _)
  refine (congrArg (val_main_v222 (F := Ideal) st v w db) (funext fun a => ?_)).trans (v222_apply st v w db s t k)
  match a with
  | ⟨0, _⟩ => exact Fin.ext h0
  | ⟨1, _⟩ => exact Fin.ext h1
  | ⟨2, _⟩ => rfl

/-- The centred convolution. -/
theorem v228_apply (s : Fin 128) (t : Fin 8) (k : Fin 2048) :
    val_main_v228 (F := Ideal) st v w db (ix3 s t k) = convAt st v w db s t.val k - mean (convAt st v w db s t.val) := by
  rw [val_main_v228_apply, val_main_v227_apply, v222_apply, v226_apply st v w db _ s t rfl rfl]
  rfl

/-- The layer norm. -/
theorem v244_apply (s : Fin 128) (t : Fin 8) (k : Fin 2048) :
    val_main_v244 (F := Ideal) st v w db g lb (ix3 s t k) = lnorm (convAt st v w db s t.val) (fun j => g (ix1 j)) (fun j => lb (ix1 j)) k := by
  rw [val_main_v244_apply, val_main_v241_apply, val_main_v238_apply, v228_apply, val_main_v237_apply, val_main_v236_apply, val_main_v235_apply,
    val_main_v233_apply, val_main_v231_apply, val_main_v230_apply, val_main_v232_apply, val_main_v234_apply, val_main_v240_apply, val_main_v239_apply,
    val_main_v243_apply, val_main_v242_apply]
  unfold lnorm
  refine congrArg₂ (· + ·) (congrArg₂ (· * ·) (congrArg₂ (· * ·) rfl (congrArg Ideal.rsqrt (congrArg₂ (· + ·) ?_ rfl))) (congrArg g (funext fun a => ?_)))
    (congrArg lb (funext fun a => ?_))
  · rw [show ∀ c, mean c = Ideal.div (∑ k : Fin 2048, c k) (Ideal.ofBits .f32 0x45000000#32) from fun _ => rfl]
    refine congrArg₂ Ideal.div ?_ rfl
    refine Eq.trans (congrArg₂ (· + ·) Ideal.ofBits_zero_f32 (Finset.sum_congr rfl fun k _ => ?_)) (zero_add _)
    rw [val_main_v229_apply]
    refine (congrArg (fun i => val_main_v228 (F := Ideal) st v w db i * val_main_v228 (F := Ideal) st v w db i) (funext fun a => ?_)).trans
      (congrArg₂ (· * ·) (v228_apply st v w db s t k) (v228_apply st v w db s t k))
    match a with
    | ⟨0, _⟩ => rfl
    | ⟨1, _⟩ => rfl
    | ⟨2, _⟩ => rfl
  · match a with | ⟨0, _⟩ => rfl
  · match a with | ⟨0, _⟩ => rfl

/-- The gated rows. -/
theorem v247_apply (R : Fin 1024) (k : Fin 2048) :
    val_main_v247 (F := Ideal) st v z w db g lb (ix2 R k) = gated (convAt st v w db ⟨R.val / 8, by omega⟩ (R.val % 8))
      (fun j => g (ix1 j)) (fun j => lb (ix1 j)) (fun j => z (ix2 R j)) k := by
  have e : idx_main_v246 (ix2 R k) = ix3 (⟨R.val / 8, by omega⟩ : Fin 128) (⟨R.val % 8, by omega⟩ : Fin 8) k := by
    funext a
    match a with
    | ⟨0, _⟩ => exact Fin.ext (by show (R.val * 2048 + k.val) / 16384 = R.val / 8; omega)
    | ⟨1, _⟩ => exact Fin.ext (by show (R.val * 2048 + k.val) / 2048 % 8 = R.val % 8; omega)
    | ⟨2, _⟩ => exact Fin.ext (by show (R.val * 2048 + k.val) % 2048 = k.val; omega)
  rw [val_main_v247_apply, val_main_v246_apply, e, val_main_v245_apply, val_main_call0_v5_apply, val_main_call0_v4_apply, val_main_call0_v3_apply,
    val_main_call0_v2_apply, val_main_call0_v1_apply, val_main_call0_v0_apply, v244_apply]
  unfold gated
  show _ * Ideal.div (Ideal.ofBits .f32 0x3F800000#32) (Ideal.ofBits .f32 0x3F800000#32 + _) * _ = _
  rw [Ideal.ofBits_one_f32]
  rfl

/-- The reference is the result. -/
theorem ref_eq : val_main_v249 (F := Ideal) st v z x w db g lb wo = res st v z x w db g lb wo := by
  funext i
  obtain ⟨R, e, rfl⟩ : ∃ (R e : Fin 1024), i = ix2 R e :=
    ⟨i 0, i 1, by funext a; match a with | ⟨0, _⟩ => rfl | ⟨1, _⟩ => rfl⟩
  rw [val_main_v249_apply, val_main_v248_apply]
  unfold res outRow
  refine congrArg₂ (· + ·) rfl (Finset.sum_congr rfl fun k _ => congrArg₂ (· * ·) ?_ (congrArg wo (funext fun a => ?_)))
  · refine (congrArg (val_main_v247 (F := Ideal) st v z w db g lb) (funext fun a => ?_)).trans (v247_apply st v z w db g lb R k)
    match a with
    | ⟨0, _⟩ => rfl
    | ⟨1, _⟩ => rfl
  · match a with
    | ⟨0, _⟩ => rfl
    | ⟨1, _⟩ => rfl

end Cert.Proof.ConvSampleRef

namespace Cert.Proof.ConvSample
open Cert.Kernel7Ideal Cert.Kernel7Ideal.Gen
open Idealize.ShloMosaic Idealize.ShloMosaic.TcCoe Idealize.ShloMosaic.Tactic Idealize.SL.Sem

/-- Equal arguments give equal results. -/
theorem res_congr {st st' : Vec Ideal S128x30x2048 .f32} {v v' z z' : Vec Ideal S1024x2048 .f32} {x x' : Vec Ideal S1024x1024 .f32} {dw dw' : Vec Ideal S31x2048 .f32}
    {db db' g g' l l' : Vec Ideal S2048 .f32} {w w' : Vec Ideal S2048x1024 .f32} (h0 : st = st') (h1 : v = v') (h2 : z = z') (h3 : x = x') (h4 : dw = dw')
    (h5 : db = db') (h6 : g = g') (h7 : l = l') (h8 : w = w') : res st v z x dw db g l w = res st' v' z' x' dw' db' g' l' w' := by
  subst h0 h1 h2 h3 h4 h5 h6 h7 h8; rfl

/-- The samples' convolution call computes its reference. -/
theorem algebraic : Cert.algebraic_Kernel7Ideal_Reference7Ideal := by
  intro m g m' g' _ harg
  refine ⟨fun c => res (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)), ?_, ?_⟩
  · refine (θ_run _ _ _).mono (fun r h c => ?_) (Cert.Kernel7Ideal.Value.run_blocks m g)
    obtain ⟨h9, ha⟩ := h c
    exact ⟨h9.trans (final m c), ha⟩
  · refine (θ_run _ _ _).mono (fun r h c => ?_) (Cert.Reference7Ideal.Value.run m' g')
    obtain ⟨hr, ha⟩ := h c
    obtain ⟨e0, e1, e2, e3, e4, e5, e6, e7, e8⟩ := harg c
    refine ⟨hr.trans ((Cert.Reference7Ideal.Read.val_main_v249_eq _).trans ((Cert.Proof.ConvSampleRef.ref_eq _ _ _ _ _ _ _ _ _).trans ?_)), ha⟩
    exact res_congr e0 e1 e2 e3 e4 e5 e6 e7 e8

end Cert.Proof.ConvSample
-- ==== Proof.lean ====
module

public import proofs.«01_k».proof.Defs
public import proofs.«01_k».proof.Proof.ConvFrame
public import proofs.«01_k».proof.Proof.ConvDKernelIdeal
public import proofs.«01_k».proof.Proof.ConvI
public import proofs.«01_k».proof.Proof.InprojD
public import proofs.«01_k».proof.Proof.NsaInprojD
public import proofs.«01_k».proof.Proof.OutprojB
public import proofs.«01_k».proof.Proof.InprojSampleB
public import proofs.«01_k».proof.Proof.NsaSampleB
public import proofs.«01_k».proof.Proof.ConvSampleE
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The frame of the convolution's reference. -/
theorem frame_r : Cert.quiescent_ReferenceIdeal := fun m ρ _ =>
  (θ_run _ _ _).mono (fun r h => ⟨fun c => (h c).2, sem_eq_zero_of_no_sems (by decide) r.2⟩) (Cert.ReferenceIdeal.Value.run m ρ)

/-- The frame of the reference of the convolution layers' input projection. -/
theorem frame_r2 : Cert.quiescent_Reference2Ideal := fun m ρ _ =>
  (θ_run _ _ _).mono (fun r h => ⟨fun c => (h c).2.2, sem_eq_zero_of_no_sems (by decide) r.2⟩) (Cert.Reference2Ideal.Value.run m ρ)

/-- The frame of the reference of the attention layers' input projection. -/
theorem frame_r3 : Cert.quiescent_Reference3Ideal := fun m ρ _ =>
  (θ_run _ _ _).mono (fun r h => ⟨fun c => (h c).2.2.2.2.2.2, sem_eq_zero_of_no_sems (by decide) r.2⟩) (Cert.Reference3Ideal.Value.run m ρ)

/-- The frame of the reference of the last layer's output projection. -/
theorem frame_r4 : Cert.quiescent_Reference4Ideal := fun m ρ _ =>
  (θ_run _ _ _).mono (fun r h => ⟨fun c => (h c).2, sem_eq_zero_of_no_sems (by decide) r.2⟩) (Cert.Reference4Ideal.Value.run m ρ)

/-- The frame of the reference of the convolution layers' input projection on the sample's rows. -/
theorem frame_r5 : Cert.quiescent_Reference5Ideal := fun m ρ _ =>
  (θ_run _ _ _).mono (fun r h => ⟨fun c => (h c).2.2, sem_eq_zero_of_no_sems (by decide) r.2⟩) (Cert.Reference5Ideal.Value.run m ρ)

/-- The frame of the reference of the attention layers' input projection on the sample's rows. -/
theorem frame_r6 : Cert.quiescent_Reference6Ideal := fun m ρ _ =>
  (θ_run _ _ _).mono (fun r h => ⟨fun c => (h c).2.2.2.2.2.2, sem_eq_zero_of_no_sems (by decide) r.2⟩) (Cert.Reference6Ideal.Value.run m ρ)

/-- The frame of the reference of the samples' convolution. -/
theorem frame_r7 : Cert.quiescent_Reference7Ideal := fun m ρ _ =>
  (θ_run _ _ _).mono (fun r h => ⟨fun c => (h c).2, sem_eq_zero_of_no_sems (by decide) r.2⟩) (Cert.Reference7Ideal.Value.run m ρ)

/-- All thirty-five claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Proof.Kernel.quiescent, fun m ρ _ => Cert.Proof.KernelIdeal.frame m ρ, frame_r,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    trivial, ConvVal.algebraic, trivial, Inproj.algebraic, trivial, NsaInproj.algebraic,
    trivial, Outproj.algebraic, trivial, InprojSample.algebraic, trivial, NsaSample.algebraic,
    trivial, ConvSample.algebraic⟩

end Cert.Proof

end
